-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_window [hPre_finite_window : Cert.Pre_finite_window.Facts] (m : (ℓ : Loc Cert.KernelIdeal.nD Cert.KernelIdeal.τ Cert.KernelIdeal.sig) → Buf (Elt Ideal) ℓ) : Prop :=
  ∀ c : Dev Cert.KernelIdeal.nD,
    (Cert.Pre_finite_window.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_window [hPre_finite_window : Cert.Pre_finite_window.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_window.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_window [hKernelIdeal : Cert.KernelIdeal.Facts] [hPre_finite_window : Cert.Pre_finite_window.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_window m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_window [hReferenceIdeal : Cert.ReferenceIdeal.Facts] [hPre_finite_window : Cert.Pre_finite_window.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_window m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S28x320x2x128 Cert.KernelIdeal.S28x320x1x128
  ∧ IdealRules.bf16_pair.Statement Cert.KernelIdeal.S1x256x2x128 Cert.KernelIdeal.S1x256x1x128
  ∧ IdealRules.bf16_pair.Statement Cert.KernelIdeal.S512x128 Cert.KernelIdeal.S256x128
  ∧ IdealRules.bf16_pair.Statement Cert.KernelIdeal.S1x320x2x128 Cert.KernelIdeal.S1x320x1x128
  ∧ IdealRules.bf16_pair.SelectZeroStatement Cert.KernelIdeal.S320x128
  ∧ IdealRules.bf16_pair.Statement Cert.KernelIdeal.S640x128 Cert.KernelIdeal.S320x128
  ∧ IdealRules.named_const.Statement Cert.KernelIdeal.κ "inv_n" .f32 0x3B4CCCCD#32 ((1 / 320 : ℝ) : EReal)
  ∧ IdealRules.named_const.Statement Cert.KernelIdeal.κ "lin_scale" .f32 0x3DB504F3#32 (((Real.sqrt 128)⁻¹ : ℝ) : EReal)

def algebraic_KernelIdeal_ReferenceIdeal_pre_finite_window [hKernelIdeal : Cert.KernelIdeal.Facts] [hReferenceIdeal : Cert.ReferenceIdeal.Facts] [hPre_finite_window : Cert.Pre_finite_window.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_window m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_window : Cert.Pre_finite_window.Facts),
    quiescent_Kernel (hKernel := hKernel)
    ∧ quiescent_KernelIdeal (hKernelIdeal := hKernelIdeal)
    ∧ quiescent_KernelIdeal_pre_finite_window (hKernelIdeal := hKernelIdeal) (hPre_finite_window := hPre_finite_window)
    ∧ quiescent_ReferenceIdeal (hReferenceIdeal := hReferenceIdeal)
    ∧ quiescent_ReferenceIdeal_pre_finite_window (hReferenceIdeal := hReferenceIdeal) (hPre_finite_window := hPre_finite_window)
    ∧ preserves_Kernel_KernelIdeal
    ∧ algebraic_KernelIdeal_ReferenceIdeal_pre_finite_window (hKernelIdeal := hKernelIdeal) (hReferenceIdeal := hReferenceIdeal) (hPre_finite_window := hPre_finite_window)
-- ==== Pre_finite_window.lean ====
abbrev S5x2048x8x128 : Shape := ⟨4, ![5, 2048, 8, 128]⟩
abbrev S5x2048x8 : Shape := ⟨3, ![5, 2048, 8]⟩
abbrev S5x320x56x128 : Shape := ⟨4, ![5, 320, 56, 128]⟩
abbrev S5 : Shape := ⟨1, ![5]⟩
abbrev S_ : Shape := ⟨0, ![]⟩

class Facts : Prop where
  bitsLt_bf16_f32 : FTy.bits .bf16 < FTy.bits .f32
  bcast_S_S5x320x56x128 : S_.BroadcastsInDim S5x320x56x128 (![] : Fin 0 → Fin S5x320x56x128.rank)

variable [Facts]

def fn {F : FTy → Type} [FloatOps F] (main_arg0 : FVec F S5x2048x8x128 .fp8e4m3) (main_arg1 : FVec F S5x2048x8 .f32) (main_arg2 : FVec F S5x2048x8x128 .fp8e4m3) (main_arg3 : FVec F S5x2048x8 .f32) (main_arg4 : FVec F S5x320x56x128 .bf16) (main_arg5 : IVec S5 32) : IVec S5x320x56x128 1 :=
  let main_v0 : FVec F S5x320x56x128 .f32 := (extf .f32 · bitsLt_bf16_f32) main_arg4
  let main_v1 : FVec F S5x320x56x128 .f32 := Host.absf main_v0
  let main_cst : FVec F S_ .f32 := constant S_ .f32 0x7F800000#32
  let main_v2 : FVec F S5x320x56x128 .f32 := broadcastInDim S5x320x56x128 ![] bcast_S_S5x320x56x128 main_cst
  let main_v3 : IVec S5x320x56x128 1 := cmpf .olt main_v1 main_v2
  main_v3
-- ==== Kernel.lean ====
abbrev S5x2048x8x128 : Shape := ⟨4, ![5, 2048, 8, 128]⟩
abbrev S5x2048x8 : Shape := ⟨3, ![5, 2048, 8]⟩
abbrev S5x320x56x128 : Shape := ⟨4, ![5, 320, 56, 128]⟩
abbrev S5 : Shape := ⟨1, ![5]⟩
abbrev S64 : Shape := ⟨1, ![64]⟩
abbrev S_ : Shape := ⟨0, ![]⟩
abbrev S1x64 : Shape := ⟨2, ![1, 64]⟩
abbrev S2x64 : Shape := ⟨2, ![2, 64]⟩
abbrev S128 : Shape := ⟨1, ![128]⟩
abbrev S8x128 : Shape := ⟨2, ![8, 128]⟩
abbrev S5x16384x128 : Shape := ⟨3, ![5, 16384, 128]⟩
abbrev S5x17920x128 : Shape := ⟨3, ![5, 17920, 128]⟩
abbrev S5x2048x56 : Shape := ⟨3, ![5, 2048, 56]⟩
abbrev S1x16384x128 : Shape := ⟨3, ![1, 16384, 128]⟩
abbrev S1x2048x8 : Shape := ⟨3, ![1, 2048, 8]⟩
abbrev S1x17920x128 : Shape := ⟨3, ![1, 17920, 128]⟩
abbrev S1x2048x56 : Shape := ⟨3, ![1, 2048, 56]⟩
abbrev S4x128x128 : Shape := ⟨3, ![4, 128, 128]⟩
abbrev S8x128x2048 : Shape := ⟨3, ![8, 128, 2048]⟩
abbrev S2x2048x128 : Shape := ⟨3, ![2, 2048, 128]⟩
abbrev S8x2048 : Shape := ⟨2, ![8, 2048]⟩
abbrev S896x128 : Shape := ⟨2, ![896, 128]⟩
abbrev S16x128 : Shape := ⟨2, ![16, 128]⟩
abbrev S16x8x8x128 : Shape := ⟨4, ![16, 8, 8, 128]⟩
abbrev S16x8x128 : Shape := ⟨3, ![16, 8, 128]⟩
abbrev S28x320x128 : Shape := ⟨3, ![28, 320, 128]⟩
abbrev S1 : Shape := ⟨1, ![1]⟩
abbrev S1x128 : Shape := ⟨2, ![1, 128]⟩
abbrev S256x128 : Shape := ⟨2, ![256, 128]⟩
abbrev S128x128 : Shape := ⟨2, ![128, 128]⟩
abbrev S1x128x128 : Shape := ⟨3, ![1, 128, 128]⟩
abbrev S1x2048x128 : Shape := ⟨3, ![1, 2048, 128]⟩
abbrev S2048x128 : Shape := ⟨2, ![2048, 128]⟩
abbrev S2x1024x128 : Shape := ⟨3, ![2, 1024, 128]⟩
abbrev S1x256x128 : Shape := ⟨3, ![1, 256, 128]⟩
abbrev S2x1024x2x128 : Shape := ⟨4, ![2, 1024, 2, 128]⟩
abbrev S1x256x2x128 : Shape := ⟨4, ![1, 256, 2, 128]⟩
abbrev S1x256x1x128 : Shape := ⟨4, ![1, 256, 1, 128]⟩
abbrev S128x256 : Shape := ⟨2, ![128, 256]⟩
abbrev S1x128x256 : Shape := ⟨3, ![1, 128, 256]⟩
abbrev S8x256 : Shape := ⟨2, ![8, 256]⟩
abbrev S1x256x8 : Shape := ⟨3, ![1, 256, 8]⟩
abbrev S256x8 : Shape := ⟨2, ![256, 8]⟩
abbrev S17920x128 : Shape := ⟨2, ![17920, 128]⟩
abbrev S8960x128 : Shape := ⟨2, ![8960, 128]⟩
abbrev S320x128 : Shape := ⟨2, ![320, 128]⟩
abbrev S1x8960x2x128 : Shape := ⟨4, ![1, 8960, 2, 128]⟩
abbrev S1x320x2x128 : Shape := ⟨4, ![1, 320, 2, 128]⟩
abbrev S1x320x1x128 : Shape := ⟨4, ![1, 320, 1, 128]⟩
abbrev S1x320x128 : Shape := ⟨3, ![1, 320, 128]⟩
abbrev S1x1x128 : Shape := ⟨3, ![1, 1, 128]⟩
abbrev S320x256 : Shape := ⟨2, ![320, 256]⟩
abbrev S64x128 : Shape := ⟨2, ![64, 128]⟩
abbrev S9x128 : Shape := ⟨2, ![9, 128]⟩
abbrev S16x256 : Shape := ⟨2, ![16, 256]⟩
abbrev S256 : Shape := ⟨1, ![256]⟩
abbrev S1x256 : Shape := ⟨2, ![1, 256]⟩
abbrev S1x1x8x128 : Shape := ⟨4, ![1, 1, 8, 128]⟩
abbrev S8 : Shape := ⟨1, ![8]⟩
abbrev S8x1 : Shape := ⟨2, ![8, 1]⟩
abbrev S1x8x128 : Shape := ⟨3, ![1, 8, 128]⟩
abbrev S1x1x7x128 : Shape := ⟨4, ![1, 1, 7, 128]⟩
abbrev S7x128 : Shape := ⟨2, ![7, 128]⟩
abbrev S128x64 : Shape := ⟨2, ![128, 64]⟩
abbrev S128x56 : Shape := ⟨2, ![128, 56]⟩
abbrev S1x128x56 : Shape := ⟨3, ![1, 128, 56]⟩
abbrev S128x8 : Shape := ⟨2, ![128, 8]⟩
abbrev S1x128x8 : Shape := ⟨3, ![1, 128, 8]⟩

abbrev nBuf : Space → Nat
  | .hbm => 25
  | .vmem => 25
  | .smem => 1
  | _ => 0

abbrev bufTy : (tb : Table) → Fin (tcTables nBuf tb) → BufTy
  | .hbm, ⟨0, _⟩ => ⟨S5x2048x8x128, .fp8e4m3⟩
  | .hbm, ⟨1, _⟩ => ⟨S5x2048x8, .f32⟩
  | .hbm, ⟨2, _⟩ => ⟨S5x2048x8x128, .fp8e4m3⟩
  | .hbm, ⟨3, _⟩ => ⟨S5x2048x8, .f32⟩
  | .hbm, ⟨4, _⟩ => ⟨S5x320x56x128, .bf16⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S8x128, .f32⟩
  | .hbm, ⟨20, _⟩ => ⟨S5x16384x128, .fp8e4m3⟩
  | .hbm, ⟨21, _⟩ => ⟨S5x16384x128, .fp8e4m3⟩
  | .hbm, ⟨22, _⟩ => ⟨S5x17920x128, .bf16⟩
  | .hbm, ⟨23, _⟩ => ⟨S5x2048x8, .f32⟩
  | .hbm, ⟨24, _⟩ => ⟨S5x2048x56, .f32⟩
  | .local _ .vmem, ⟨0, _⟩ => ⟨S8x128, .f32⟩
  | .local _ .vmem, ⟨1, _⟩ => ⟨S1x16384x128, .fp8e4m3⟩
  | .local _ .vmem, ⟨2, _⟩ => ⟨S1x16384x128, .fp8e4m3⟩
  | .local _ .vmem, ⟨3, _⟩ => ⟨S1x2048x8, .f32⟩
  | .local _ .vmem, ⟨4, _⟩ => ⟨S1x2048x8, .f32⟩
  | .local _ .vmem, ⟨5, _⟩ => ⟨S1x16384x128, .fp8e4m3⟩
  | .local _ .vmem, ⟨6, _⟩ => ⟨S1x16384x128, .fp8e4m3⟩
  | .local _ .vmem, ⟨7, _⟩ => ⟨S1x2048x8, .f32⟩
  | .local _ .vmem, ⟨8, _⟩ => ⟨S1x2048x8, .f32⟩
  | .local _ .vmem, ⟨9, _⟩ => ⟨S1x17920x128, .bf16⟩
  | .local _ .vmem, ⟨10, _⟩ => ⟨S1x17920x128, .bf16⟩
  | .local _ .vmem, ⟨11, _⟩ => ⟨S1x2048x8, .f32⟩
  | .local _ .vmem, ⟨12, _⟩ => ⟨S1x2048x8, .f32⟩
  | .local _ .vmem, ⟨13, _⟩ => ⟨S1x2048x56, .f32⟩
  | .local _ .vmem, ⟨14, _⟩ => ⟨S1x2048x56, .f32⟩
  | .local _ .vmem, ⟨15, _⟩ => ⟨S4x128x128, .f32⟩
  | .local _ .vmem, ⟨16, _⟩ => ⟨S8x128x2048, .bf16⟩
  | .local _ .vmem, ⟨17, _⟩ => ⟨S2x2048x128, .bf16⟩
  | .local _ .vmem, ⟨18, _⟩ => ⟨S8x2048, .f32⟩
  | .local _ .vmem, ⟨19, _⟩ => ⟨S8x2048, .f32⟩
  | .local _ .vmem, ⟨20, _⟩ => ⟨S896x128, .bf16⟩
  | .local _ .vmem, ⟨21, _⟩ => ⟨S16x128, .f32⟩
  | .local _ .vmem, ⟨22, _⟩ => ⟨S16x8x8x128, .f32⟩
  | .local _ .vmem, ⟨23, _⟩ => ⟨S16x8x128, .f32⟩
  | .local _ .vmem, ⟨24, _⟩ => ⟨S28x320x128, .i32⟩
  | .local _ .smem, ⟨0, _⟩ => ⟨S5, .i32⟩
  | _, _ => ⟨S5x2048x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![5, 8], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let v1341 : Index := Scalar.indexCast arg0
  ![v1341.toNat]
@[reducible] def k0_t1_loop : Scf.Loop 32 :=
  let c0_i32_344 : BitVec 32 := 0#32
  let c8_i32_345 : BitVec 32 := 8#32
  let v1522 : BitVec 32 := Scalar.addi c0_i32_344 c8_i32_345
  let c1_i32_346 : BitVec 32 := 1#32
  ⟨c0_i32_344, v1522, c1_i32_346⟩
def k0_mult1 (k0_t1 : Fin k0_t1_loop.trips) : BitVec 32 :=
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  v1747
def k0_mult2 (k0_t1 : Fin k0_t1_loop.trips) : BitVec 32 :=
  let c0_i32_344 : BitVec 32 := 0#32
  let c1_i32_346 : BitVec 32 := 1#32
  let arg21 : BitVec 32 := Scf.iv c0_i32_344 c1_i32_346 k0_t1
  let c2048_i32 : BitVec 32 := 2048#32
  let v1749 : BitVec 32 := Scalar.muli arg21 c2048_i32
  v1749
def k0_off2 (k0_t1 : Fin k0_t1_loop.trips) : Fin 3 → Nat :=
  let c0_560 : Index := 0#32
  let c0_i32_344 : BitVec 32 := 0#32
  let c1_i32_346 : BitVec 32 := 1#32
  let arg21 : BitVec 32 := Scf.iv c0_i32_344 c1_i32_346 k0_t1
  let c2048_i32 : BitVec 32 := 2048#32
  let v1749 : BitVec 32 := Scalar.muli arg21 c2048_i32
  let v1750 : BitVec 32 := v1749
  let v1751 : Index := Scalar.indexCast v1750
  let c0_561 : Index := 0#32
  ![0, v1751.toNat, 0]
def k0_mult3 (k0_t1 : Fin k0_t1_loop.trips) : BitVec 32 :=
  let c0_i32_344 : BitVec 32 := 0#32
  let c1_i32_346 : BitVec 32 := 1#32
  let arg21 : BitVec 32 := Scf.iv c0_i32_344 c1_i32_346 k0_t1
  let c2048_i32_565 : BitVec 32 := 2048#32
  let v1758 : BitVec 32 := Scalar.muli arg21 c2048_i32_565
  v1758
def k0_off3 (k0_t1 : Fin k0_t1_loop.trips) : Fin 3 → Nat :=
  let c0_575 : Index := 0#32
  let c0_576 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1776 : Index := Scalar.indexCast v1748
  ![0, 0, v1776.toNat]
def k0_off4 (k0_t1 : Fin k0_t1_loop.trips) : Fin 3 → Nat :=
  let c1_578 : Index := 1#32
  let c0_579 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1785 : Index := Scalar.indexCast v1748
  ![1, 0, v1785.toNat]
def k0_off5 (k0_t1 : Fin k0_t1_loop.trips) : Fin 3 → Nat :=
  let c2_589 : Index := 2#32
  let c0_590 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1870 : Index := Scalar.indexCast v1748
  ![2, 0, v1870.toNat]
def k0_off6 (k0_t1 : Fin k0_t1_loop.trips) : Fin 3 → Nat :=
  let c3_592 : Index := 3#32
  let c0_593 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1879 : Index := Scalar.indexCast v1748
  ![3, 0, v1879.toNat]
def k0_off7 (k0_t1 : Fin k0_t1_loop.trips) : Fin 3 → Nat :=
  let c4_603 : Index := 4#32
  let c0_604 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1964 : Index := Scalar.indexCast v1748
  ![4, 0, v1964.toNat]
def k0_off8 (k0_t1 : Fin k0_t1_loop.trips) : Fin 3 → Nat :=
  let c5_606 : Index := 5#32
  let c0_607 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1973 : Index := Scalar.indexCast v1748
  ![5, 0, v1973.toNat]
def k0_off9 (k0_t1 : Fin k0_t1_loop.trips) : Fin 3 → Nat :=
  let c6_617 : Index := 6#32
  let c0_618 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2058 : Index := Scalar.indexCast v1748
  ![6, 0, v2058.toNat]
def k0_off10 (k0_t1 : Fin k0_t1_loop.trips) : Fin 3 → Nat :=
  let c7_620 : Index := 7#32
  let c0_621 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2067 : Index := Scalar.indexCast v1748
  ![7, 0, v2067.toNat]
def k0_off11 (k0_t1 : Fin k0_t1_loop.trips) : Fin 3 → Nat :=
  let c0_643 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2191 : Index := Scalar.indexCast v1748
  let c0_644 : Index := 0#32
  ![0, v2191.toNat, 0]
def k0_off12 (k0_t1 : Fin k0_t1_loop.trips) : Fin 2 → Nat :=
  let c0_645 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2195 : Index := Scalar.indexCast v1748
  ![0, v2195.toNat]
def k0_off13 (i : grid0.Coords) (c0_i32_9 : BitVec 32) : Fin 3 → Nat :=
  let arg1 : BitVec 32 := BitVec.ofNat 32 (i 1).val
  let c7_i32 : BitVec 32 := 7#32
  let v12 : BitVec 32 := Scalar.muli arg1 c7_i32
  let v13 : BitVec 32 := Scalar.addi v12 c0_i32_9
  let c1_i32 : BitVec 32 := 1#32
  let v14 : BitVec 32 := Scalar.shrsi v13 c1_i32
  let v15 : Index := Scalar.indexCast v14
  let c0_10 : Index := 0#32
  let c0_11 : Index := 0#32
  ![v15.toNat, 0, 0]
@[reducible] def k0_t2_loop : Scf.Loop 32 :=
  let c0_i32_134 : BitVec 32 := 0#32
  let c8_i32 : BitVec 32 := 8#32
  let v942 : BitVec 32 := Scalar.addi c0_i32_134 c8_i32
  let c1_i32_135 : BitVec 32 := 1#32
  ⟨c0_i32_134, v942, c1_i32_135⟩
def k0_off14 (i : grid0.Coords) (k0_t2 : Fin k0_t2_loop.trips) : Fin 3 → Nat :=
  let arg1 : BitVec 32 := BitVec.ofNat 32 (i 1).val
  let v1342 : Index := Scalar.indexCast arg1
  let c0_320 : Index := 0#32
  let c0_i32_134 : BitVec 32 := 0#32
  let c1_i32_135 : BitVec 32 := 1#32
  let arg21 : BitVec 32 := Scf.iv c0_i32_134 c1_i32_135 k0_t2
  let c256_i32 : BitVec 32 := 256#32
  let v1341 : BitVec 32 := Scalar.muli arg21 c256_i32
  let v1343 : Index := Scalar.indexCast v1341
  ![v1342.toNat, 0, v1343.toNat]
def k0_mult4 (k0_t2 : Fin k0_t2_loop.trips) : BitVec 32 :=
  let c0_i32_134 : BitVec 32 := 0#32
  let c1_i32_135 : BitVec 32 := 1#32
  let arg21 : BitVec 32 := Scf.iv c0_i32_134 c1_i32_135 k0_t2
  let c256_i32_360 : BitVec 32 := 256#32
  let v1635 : BitVec 32 := Scalar.muli arg21 c256_i32_360
  v1635
def k0_off15 (k0_t2 : Fin k0_t2_loop.trips) : Fin 2 → Nat :=
  let c0_361 : Index := 0#32
  let c0_i32_134 : BitVec 32 := 0#32
  let c1_i32_135 : BitVec 32 := 1#32
  let arg21 : BitVec 32 := Scf.iv c0_i32_134 c1_i32_135 k0_t2
  let c256_i32_360 : BitVec 32 := 256#32
  let v1635 : BitVec 32 := Scalar.muli arg21 c256_i32_360
  let v1636 : BitVec 32 := v1635
  let v1637 : Index := Scalar.indexCast v1636
  ![0, v1637.toNat]
def k0_off16 (i : grid0.Coords) (k0_t2 : Fin k0_t2_loop.trips) (c0_i32_367 : BitVec 32) : Fin 4 → Nat :=
  let c0_i32_134 : BitVec 32 := 0#32
  let c1_i32_135 : BitVec 32 := 1#32
  let arg21 : BitVec 32 := Scf.iv c0_i32_134 c1_i32_135 k0_t2
  let c2_i32_366 : BitVec 32 := 2#32
  let v1657 : BitVec 32 := Scalar.muli arg21 c2_i32_366
  let v1658 : BitVec 32 := Scalar.addi v1657 c0_i32_367
  let v1659 : Index := Scalar.indexCast v1658
  let arg1 : BitVec 32 := BitVec.ofNat 32 (i 1).val
  let v1660 : Index := Scalar.indexCast arg1
  let c0_368 : Index := 0#32
  let c0_369 : Index := 0#32
  ![v1659.toNat, v1660.toNat, 0, 0]
def k0_off17 (i : grid0.Coords) : Fin 4 → Nat :=
  let c0_137 : Index := 0#32
  let arg1 : BitVec 32 := BitVec.ofNat 32 (i 1).val
  let v943 : Index := Scalar.indexCast arg1
  let c0_138 : Index := 0#32
  let c0_139 : Index := 0#32
  ![0, v943.toNat, 0, 0]
def k0_off18 (i : grid0.Coords) : Fin 4 → Nat :=
  let c1_140 : Index := 1#32
  let arg1 : BitVec 32 := BitVec.ofNat 32 (i 1).val
  let v946 : Index := Scalar.indexCast arg1
  let c0_141 : Index := 0#32
  let c0_142 : Index := 0#32
  ![1, v946.toNat, 0, 0]
def k0_off19 (i : grid0.Coords) : Fin 4 → Nat :=
  let c2_143 : Index := 2#32
  let arg1 : BitVec 32 := BitVec.ofNat 32 (i 1).val
  let v949 : Index := Scalar.indexCast arg1
  let c0_144 : Index := 0#32
  let c0_145 : Index := 0#32
  ![2, v949.toNat, 0, 0]
def k0_off20 (i : grid0.Coords) : Fin 4 → Nat :=
  let c3_146 : Index := 3#32
  let arg1 : BitVec 32 := BitVec.ofNat 32 (i 1).val
  let v952 : Index := Scalar.indexCast arg1
  let c0_147 : Index := 0#32
  let c0_148 : Index := 0#32
  ![3, v952.toNat, 0, 0]
def k0_off21 (i : grid0.Coords) : Fin 4 → Nat :=
  let c4_149 : Index := 4#32
  let arg1 : BitVec 32 := BitVec.ofNat 32 (i 1).val
  let v955 : Index := Scalar.indexCast arg1
  let c0_150 : Index := 0#32
  let c0_151 : Index := 0#32
  ![4, v955.toNat, 0, 0]
def k0_off22 (i : grid0.Coords) : Fin 4 → Nat :=
  let c5_152 : Index := 5#32
  let arg1 : BitVec 32 := BitVec.ofNat 32 (i 1).val
  let v958 : Index := Scalar.indexCast arg1
  let c0_153 : Index := 0#32
  let c0_154 : Index := 0#32
  ![5, v958.toNat, 0, 0]
def k0_off23 (i : grid0.Coords) : Fin 4 → Nat :=
  let c6_155 : Index := 6#32
  let arg1 : BitVec 32 := BitVec.ofNat 32 (i 1).val
  let v961 : Index := Scalar.indexCast arg1
  let c0_156 : Index := 0#32
  let c0_157 : Index := 0#32
  ![6, v961.toNat, 0, 0]
def k0_off24 (i : grid0.Coords) : Fin 4 → Nat :=
  let c7_158 : Index := 7#32
  let arg1 : BitVec 32 := BitVec.ofNat 32 (i 1).val
  let v964 : Index := Scalar.indexCast arg1
  let c0_159 : Index := 0#32
  let c0_160 : Index := 0#32
  ![7, v964.toNat, 0, 0]
def k0_off25 (i : grid0.Coords) : Fin 4 → Nat :=
  let c8 : Index := 8#32
  let arg1 : BitVec 32 := BitVec.ofNat 32 (i 1).val
  let v967 : Index := Scalar.indexCast arg1
  let c0_161 : Index := 0#32
  let c0_162 : Index := 0#32
  ![8, v967.toNat, 0, 0]
def k0_off26 (i : grid0.Coords) : Fin 4 → Nat :=
  let c9 : Index := 9#32
  let arg1 : BitVec 32 := BitVec.ofNat 32 (i 1).val
  let v970 : Index := Scalar.indexCast arg1
  let c0_163 : Index := 0#32
  let c0_164 : Index := 0#32
  ![9, v970.toNat, 0, 0]
def k0_off27 (i : grid0.Coords) : Fin 4 → Nat :=
  let c10 : Index := 10#32
  let arg1 : BitVec 32 := BitVec.ofNat 32 (i 1).val
  let v973 : Index := Scalar.indexCast arg1
  let c0_165 : Index := 0#32
  let c0_166 : Index := 0#32
  ![10, v973.toNat, 0, 0]
def k0_off28 (i : grid0.Coords) : Fin 4 → Nat :=
  let c11 : Index := 11#32
  let arg1 : BitVec 32 := BitVec.ofNat 32 (i 1).val
  let v976 : Index := Scalar.indexCast arg1
  let c0_167 : Index := 0#32
  let c0_168 : Index := 0#32
  ![11, v976.toNat, 0, 0]
def k0_off29 (i : grid0.Coords) : Fin 4 → Nat :=
  let c12 : Index := 12#32
  let arg1 : BitVec 32 := BitVec.ofNat 32 (i 1).val
  let v979 : Index := Scalar.indexCast arg1
  let c0_169 : Index := 0#32
  let c0_170 : Index := 0#32
  ![12, v979.toNat, 0, 0]
def k0_off30 (i : grid0.Coords) : Fin 4 → Nat :=
  let c13 : Index := 13#32
  let arg1 : BitVec 32 := BitVec.ofNat 32 (i 1).val
  let v982 : Index := Scalar.indexCast arg1
  let c0_171 : Index := 0#32
  let c0_172 : Index := 0#32
  ![13, v982.toNat, 0, 0]
def k0_off31 (i : grid0.Coords) : Fin 4 → Nat :=
  let c14 : Index := 14#32
  let arg1 : BitVec 32 := BitVec.ofNat 32 (i 1).val
  let v985 : Index := Scalar.indexCast arg1
  let c0_173 : Index := 0#32
  let c0_174 : Index := 0#32
  ![14, v985.toNat, 0, 0]
def k0_off32 (i : grid0.Coords) : Fin 4 → Nat :=
  let c15 : Index := 15#32
  let arg1 : BitVec 32 := BitVec.ofNat 32 (i 1).val
  let v988 : Index := Scalar.indexCast arg1
  let c0_175 : Index := 0#32
  let c0_176 : Index := 0#32
  ![15, v988.toNat, 0, 0]
def k0_cond2 (i : grid0.Coords) : BitVec 1 :=
  let arg1 : BitVec 32 := BitVec.ofNat 32 (i 1).val
  let c7_i32_318 : BitVec 32 := 7#32
  let v1338 : BitVec 1 := Scalar.cmpi .eq arg1 c7_i32_318
  let v1339 : BitVec 32 := Scalar.extui v1338
  let c0_i32_319 : BitVec 32 := 0#32
  let v1340 : BitVec 1 := Scalar.cmpi .ne v1339 c0_i32_319
  v1340

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16384x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x17920x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
abbrev S5x2048x8x128 : Shape := ⟨4, ![5, 2048, 8, 128]⟩
abbrev S5x2048x8 : Shape := ⟨3, ![5, 2048, 8]⟩
abbrev S5x320x56x128 : Shape := ⟨4, ![5, 320, 56, 128]⟩
abbrev S5 : Shape := ⟨1, ![5]⟩
abbrev S64 : Shape := ⟨1, ![64]⟩
abbrev S_ : Shape := ⟨0, ![]⟩
abbrev S1x64 : Shape := ⟨2, ![1, 64]⟩
abbrev S2x64 : Shape := ⟨2, ![2, 64]⟩
abbrev S128 : Shape := ⟨1, ![128]⟩
abbrev S8x128 : Shape := ⟨2, ![8, 128]⟩
abbrev S5x16384x128 : Shape := ⟨3, ![5, 16384, 128]⟩
abbrev S5x17920x128 : Shape := ⟨3, ![5, 17920, 128]⟩
abbrev S5x2048x56 : Shape := ⟨3, ![5, 2048, 56]⟩
abbrev S1x16384x128 : Shape := ⟨3, ![1, 16384, 128]⟩
abbrev S1x2048x8 : Shape := ⟨3, ![1, 2048, 8]⟩
abbrev S1x17920x128 : Shape := ⟨3, ![1, 17920, 128]⟩
abbrev S1x2048x56 : Shape := ⟨3, ![1, 2048, 56]⟩
abbrev S4x128x128 : Shape := ⟨3, ![4, 128, 128]⟩
abbrev S8x128x2048 : Shape := ⟨3, ![8, 128, 2048]⟩
abbrev S2x2048x128 : Shape := ⟨3, ![2, 2048, 128]⟩
abbrev S8x2048 : Shape := ⟨2, ![8, 2048]⟩
abbrev S896x128 : Shape := ⟨2, ![896, 128]⟩
abbrev S16x128 : Shape := ⟨2, ![16, 128]⟩
abbrev S16x8x8x128 : Shape := ⟨4, ![16, 8, 8, 128]⟩
abbrev S16x8x128 : Shape := ⟨3, ![16, 8, 128]⟩
abbrev S28x320x128 : Shape := ⟨3, ![28, 320, 128]⟩
abbrev S28x320x2x128 : Shape := ⟨4, ![28, 320, 2, 128]⟩
abbrev S28x320x1x128 : Shape := ⟨4, ![28, 320, 1, 128]⟩
abbrev S1 : Shape := ⟨1, ![1]⟩
abbrev S1x128 : Shape := ⟨2, ![1, 128]⟩
abbrev S256x128 : Shape := ⟨2, ![256, 128]⟩
abbrev S128x128 : Shape := ⟨2, ![128, 128]⟩
abbrev S1x128x128 : Shape := ⟨3, ![1, 128, 128]⟩
abbrev S1x2048x128 : Shape := ⟨3, ![1, 2048, 128]⟩
abbrev S2048x128 : Shape := ⟨2, ![2048, 128]⟩
abbrev S2x1024x128 : Shape := ⟨3, ![2, 1024, 128]⟩
abbrev S1x256x128 : Shape := ⟨3, ![1, 256, 128]⟩
abbrev S2x1024x2x128 : Shape := ⟨4, ![2, 1024, 2, 128]⟩
abbrev S1x256x2x128 : Shape := ⟨4, ![1, 256, 2, 128]⟩
abbrev S1x256x1x128 : Shape := ⟨4, ![1, 256, 1, 128]⟩
abbrev S512x128 : Shape := ⟨2, ![512, 128]⟩
abbrev S128x256 : Shape := ⟨2, ![128, 256]⟩
abbrev S1x128x256 : Shape := ⟨3, ![1, 128, 256]⟩
abbrev S8x256 : Shape := ⟨2, ![8, 256]⟩
abbrev S1x256x8 : Shape := ⟨3, ![1, 256, 8]⟩
abbrev S256x8 : Shape := ⟨2, ![256, 8]⟩
abbrev S17920x128 : Shape := ⟨2, ![17920, 128]⟩
abbrev S8960x128 : Shape := ⟨2, ![8960, 128]⟩
abbrev S320x128 : Shape := ⟨2, ![320, 128]⟩
abbrev S1x8960x2x128 : Shape := ⟨4, ![1, 8960, 2, 128]⟩
abbrev S1x320x2x128 : Shape := ⟨4, ![1, 320, 2, 128]⟩
abbrev S1x320x1x128 : Shape := ⟨4, ![1, 320, 1, 128]⟩
abbrev S1x320x128 : Shape := ⟨3, ![1, 320, 128]⟩
abbrev S1x1x128 : Shape := ⟨3, ![1, 1, 128]⟩
abbrev S640x128 : Shape := ⟨2, ![640, 128]⟩
abbrev S320x256 : Shape := ⟨2, ![320, 256]⟩
abbrev S64x128 : Shape := ⟨2, ![64, 128]⟩
abbrev S9x128 : Shape := ⟨2, ![9, 128]⟩
abbrev S16x256 : Shape := ⟨2, ![16, 256]⟩
abbrev S256 : Shape := ⟨1, ![256]⟩
abbrev S1x256 : Shape := ⟨2, ![1, 256]⟩
abbrev S1x1x8x128 : Shape := ⟨4, ![1, 1, 8, 128]⟩
abbrev S8 : Shape := ⟨1, ![8]⟩
abbrev S8x1 : Shape := ⟨2, ![8, 1]⟩
abbrev S1x8x128 : Shape := ⟨3, ![1, 8, 128]⟩
abbrev S1x1x7x128 : Shape := ⟨4, ![1, 1, 7, 128]⟩
abbrev S7x128 : Shape := ⟨2, ![7, 128]⟩
abbrev S128x64 : Shape := ⟨2, ![128, 64]⟩
abbrev S128x56 : Shape := ⟨2, ![128, 56]⟩
abbrev S1x128x56 : Shape := ⟨3, ![1, 128, 56]⟩
abbrev S128x8 : Shape := ⟨2, ![128, 8]⟩
abbrev S1x128x8 : Shape := ⟨3, ![1, 128, 8]⟩

abbrev nBuf : Space → Nat
  | .hbm => 25
  | .vmem => 25
  | .smem => 1
  | _ => 0

abbrev bufTy : (tb : Table) → Fin (tcTables nBuf tb) → BufTy
  | .hbm, ⟨0, _⟩ => ⟨S5x2048x8x128, .fp8e4m3⟩
  | .hbm, ⟨1, _⟩ => ⟨S5x2048x8, .f32⟩
  | .hbm, ⟨2, _⟩ => ⟨S5x2048x8x128, .fp8e4m3⟩
  | .hbm, ⟨3, _⟩ => ⟨S5x2048x8, .f32⟩
  | .hbm, ⟨4, _⟩ => ⟨S5x320x56x128, .bf16⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S8x128, .f32⟩
  | .hbm, ⟨20, _⟩ => ⟨S5x16384x128, .fp8e4m3⟩
  | .hbm, ⟨21, _⟩ => ⟨S5x16384x128, .fp8e4m3⟩
  | .hbm, ⟨22, _⟩ => ⟨S5x17920x128, .bf16⟩
  | .hbm, ⟨23, _⟩ => ⟨S5x2048x8, .f32⟩
  | .hbm, ⟨24, _⟩ => ⟨S5x2048x56, .f32⟩
  | .local _ .vmem, ⟨0, _⟩ => ⟨S8x128, .f32⟩
  | .local _ .vmem, ⟨1, _⟩ => ⟨S1x16384x128, .fp8e4m3⟩
  | .local _ .vmem, ⟨2, _⟩ => ⟨S1x16384x128, .fp8e4m3⟩
  | .local _ .vmem, ⟨3, _⟩ => ⟨S1x2048x8, .f32⟩
  | .local _ .vmem, ⟨4, _⟩ => ⟨S1x2048x8, .f32⟩
  | .local _ .vmem, ⟨5, _⟩ => ⟨S1x16384x128, .fp8e4m3⟩
  | .local _ .vmem, ⟨6, _⟩ => ⟨S1x16384x128, .fp8e4m3⟩
  | .local _ .vmem, ⟨7, _⟩ => ⟨S1x2048x8, .f32⟩
  | .local _ .vmem, ⟨8, _⟩ => ⟨S1x2048x8, .f32⟩
  | .local _ .vmem, ⟨9, _⟩ => ⟨S1x17920x128, .bf16⟩
  | .local _ .vmem, ⟨10, _⟩ => ⟨S1x17920x128, .bf16⟩
  | .local _ .vmem, ⟨11, _⟩ => ⟨S1x2048x8, .f32⟩
  | .local _ .vmem, ⟨12, _⟩ => ⟨S1x2048x8, .f32⟩
  | .local _ .vmem, ⟨13, _⟩ => ⟨S1x2048x56, .f32⟩
  | .local _ .vmem, ⟨14, _⟩ => ⟨S1x2048x56, .f32⟩
  | .local _ .vmem, ⟨15, _⟩ => ⟨S4x128x128, .f32⟩
  | .local _ .vmem, ⟨16, _⟩ => ⟨S8x128x2048, .bf16⟩
  | .local _ .vmem, ⟨17, _⟩ => ⟨S2x2048x128, .bf16⟩
  | .local _ .vmem, ⟨18, _⟩ => ⟨S8x2048, .f32⟩
  | .local _ .vmem, ⟨19, _⟩ => ⟨S8x2048, .f32⟩
  | .local _ .vmem, ⟨20, _⟩ => ⟨S896x128, .bf16⟩
  | .local _ .vmem, ⟨21, _⟩ => ⟨S16x128, .f32⟩
  | .local _ .vmem, ⟨22, _⟩ => ⟨S16x8x8x128, .f32⟩
  | .local _ .vmem, ⟨23, _⟩ => ⟨S16x8x128, .f32⟩
  | .local _ .vmem, ⟨24, _⟩ => ⟨S28x320x2x128, .bf16⟩
  | .local _ .smem, ⟨0, _⟩ => ⟨S5, .i32⟩
  | _, _ => ⟨S5x2048x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F] [Named F]

def κ : String → Option EReal := fun
  | "inv_n" => some ((1 / 320 : ℝ) : EReal)
  | "lin_scale" => some (((Real.sqrt 128)⁻¹ : ℝ) : EReal)
  | _ => none

abbrev grid0 : Pipeline.Grid := ⟨2, ![5, 8], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let v1341 : Index := Scalar.indexCast arg0
  ![v1341.toNat]
@[reducible] def k0_t1_loop : Scf.Loop 32 :=
  let c0_i32_344 : BitVec 32 := 0#32
  let c8_i32_345 : BitVec 32 := 8#32
  let v1522 : BitVec 32 := Scalar.addi c0_i32_344 c8_i32_345
  let c1_i32_346 : BitVec 32 := 1#32
  ⟨c0_i32_344, v1522, c1_i32_346⟩
def k0_mult1 (k0_t1 : Fin k0_t1_loop.trips) : BitVec 32 :=
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  v1747
def k0_mult2 (k0_t1 : Fin k0_t1_loop.trips) : BitVec 32 :=
  let c0_i32_344 : BitVec 32 := 0#32
  let c1_i32_346 : BitVec 32 := 1#32
  let arg21 : BitVec 32 := Scf.iv c0_i32_344 c1_i32_346 k0_t1
  let c2048_i32 : BitVec 32 := 2048#32
  let v1749 : BitVec 32 := Scalar.muli arg21 c2048_i32
  v1749
def k0_off2 (k0_t1 : Fin k0_t1_loop.trips) : Fin 3 → Nat :=
  let c0_560 : Index := 0#32
  let c0_i32_344 : BitVec 32 := 0#32
  let c1_i32_346 : BitVec 32 := 1#32
  let arg21 : BitVec 32 := Scf.iv c0_i32_344 c1_i32_346 k0_t1
  let c2048_i32 : BitVec 32 := 2048#32
  let v1749 : BitVec 32 := Scalar.muli arg21 c2048_i32
  let v1750 : BitVec 32 := v1749
  let v1751 : Index := Scalar.indexCast v1750
  let c0_561 : Index := 0#32
  ![0, v1751.toNat, 0]
def k0_mult3 (k0_t1 : Fin k0_t1_loop.trips) : BitVec 32 :=
  let c0_i32_344 : BitVec 32 := 0#32
  let c1_i32_346 : BitVec 32 := 1#32
  let arg21 : BitVec 32 := Scf.iv c0_i32_344 c1_i32_346 k0_t1
  let c2048_i32_565 : BitVec 32 := 2048#32
  let v1758 : BitVec 32 := Scalar.muli arg21 c2048_i32_565
  v1758
def k0_off3 (k0_t1 : Fin k0_t1_loop.trips) : Fin 3 → Nat :=
  let c0_575 : Index := 0#32
  let c0_576 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1776 : Index := Scalar.indexCast v1748
  ![0, 0, v1776.toNat]
def k0_off4 (k0_t1 : Fin k0_t1_loop.trips) : Fin 3 → Nat :=
  let c1_578 : Index := 1#32
  let c0_579 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1785 : Index := Scalar.indexCast v1748
  ![1, 0, v1785.toNat]
def k0_off5 (k0_t1 : Fin k0_t1_loop.trips) : Fin 3 → Nat :=
  let c2_589 : Index := 2#32
  let c0_590 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1870 : Index := Scalar.indexCast v1748
  ![2, 0, v1870.toNat]
def k0_off6 (k0_t1 : Fin k0_t1_loop.trips) : Fin 3 → Nat :=
  let c3_592 : Index := 3#32
  let c0_593 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1879 : Index := Scalar.indexCast v1748
  ![3, 0, v1879.toNat]
def k0_off7 (k0_t1 : Fin k0_t1_loop.trips) : Fin 3 → Nat :=
  let c4_603 : Index := 4#32
  let c0_604 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1964 : Index := Scalar.indexCast v1748
  ![4, 0, v1964.toNat]
def k0_off8 (k0_t1 : Fin k0_t1_loop.trips) : Fin 3 → Nat :=
  let c5_606 : Index := 5#32
  let c0_607 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v1973 : Index := Scalar.indexCast v1748
  ![5, 0, v1973.toNat]
def k0_off9 (k0_t1 : Fin k0_t1_loop.trips) : Fin 3 → Nat :=
  let c6_617 : Index := 6#32
  let c0_618 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2058 : Index := Scalar.indexCast v1748
  ![6, 0, v2058.toNat]
def k0_off10 (k0_t1 : Fin k0_t1_loop.trips) : Fin 3 → Nat :=
  let c7_620 : Index := 7#32
  let c0_621 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2067 : Index := Scalar.indexCast v1748
  ![7, 0, v2067.toNat]
def k0_off11 (k0_t1 : Fin k0_t1_loop.trips) : Fin 3 → Nat :=
  let c0_643 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2191 : Index := Scalar.indexCast v1748
  let c0_644 : Index := 0#32
  ![0, v2191.toNat, 0]
def k0_off12 (k0_t1 : Fin k0_t1_loop.trips) : Fin 2 → Nat :=
  let c0_645 : Index := 0#32
  let c0_i32_344 : BitVec 32 := 0#32
  let c1_i32_346 : BitVec 32 := 1#32
  let arg21 : BitVec 32 := Scf.iv c0_i32_344 c1_i32_346 k0_t1
  let c256_i32 : BitVec 32 := 256#32
  let v1747 : BitVec 32 := Scalar.muli arg21 c256_i32
  let v1748 : BitVec 32 := v1747
  let v2195 : Index := Scalar.indexCast v1748
  ![0, v2195.toNat]
def k0_off13 (i : grid0.Coords) (c0_i32_9 : BitVec 32) : Fin 4 → Nat :=
  let arg1 : BitVec 32 := BitVec.ofNat 32 (i 1).val
  let c7_i32 : BitVec 32 := 7#32
  let v12 : BitVec 32 := Scalar.muli arg1 c7_i32
  let v13 : BitVec 32 := Scalar.addi v12 c0_i32_9
  let c1_i32 : BitVec 32 := 1#32
  let v14 : BitVec 32 := Scalar.shrsi v13 c1_i32
  let v15 : Index := Scalar.indexCast v14
  let c0_10 : Index := 0#32
  let c0_11 : Index := 0#32
  ![v15.toNat, 0, 0, 0]
@[reducible] def k0_t2_loop : Scf.Loop 32 :=
  let c0_i32_134 : BitVec 32 := 0#32
  let c8_i32 : BitVec 32 := 8#32
  let v942 : BitVec 32 := Scalar.addi c0_i32_134 c8_i32
  let c1_i32_135 : BitVec 32 := 1#32
  ⟨c0_i32_134, v942, c1_i32_135⟩
def k0_off14 (i : grid0.Coords) (k0_t2 : Fin k0_t2_loop.trips) : Fin 3 → Nat :=
  let arg1 : BitVec 32 := BitVec.ofNat 32 (i 1).val
  let v1342 : Index := Scalar.indexCast arg1
  let c0_320 : Index := 0#32
  let c0_i32_134 : BitVec 32 := 0#32
  let c1_i32_135 : BitVec 32 := 1#32
  let arg21 : BitVec 32 := Scf.iv c0_i32_134 c1_i32_135 k0_t2
  let c256_i32 : BitVec 32 := 256#32
  let v1341 : BitVec 32 := Scalar.muli arg21 c256_i32
  let v1343 : Index := Scalar.indexCast v1341
  ![v1342.toNat, 0, v1343.toNat]
def k0_mult4 (k0_t2 : Fin k0_t2_loop.trips) : BitVec 32 :=
  let c0_i32_134 : BitVec 32 := 0#32
  let c1_i32_135 : BitVec 32 := 1#32
  let arg21 : BitVec 32 := Scf.iv c0_i32_134 c1_i32_135 k0_t2
  let c256_i32_360 : BitVec 32 := 256#32
  let v1635 : BitVec 32 := Scalar.muli arg21 c256_i32_360
  v1635
def k0_off15 (k0_t2 : Fin k0_t2_loop.trips) : Fin 2 → Nat :=
  let c0_361 : Index := 0#32
  let c0_i32_134 : BitVec 32 := 0#32
  let c1_i32_135 : BitVec 32 := 1#32
  let arg21 : BitVec 32 := Scf.iv c0_i32_134 c1_i32_135 k0_t2
  let c256_i32_360 : BitVec 32 := 256#32
  let v1635 : BitVec 32 := Scalar.muli arg21 c256_i32_360
  let v1636 : BitVec 32 := v1635
  let v1637 : Index := Scalar.indexCast v1636
  ![0, v1637.toNat]
def k0_off16 (i : grid0.Coords) (k0_t2 : Fin k0_t2_loop.trips) (c0_i32_367 : BitVec 32) : Fin 4 → Nat :=
  let c0_i32_134 : BitVec 32 := 0#32
  let c1_i32_135 : BitVec 32 := 1#32
  let arg21 : BitVec 32 := Scf.iv c0_i32_134 c1_i32_135 k0_t2
  let c2_i32_366 : BitVec 32 := 2#32
  let v1657 : BitVec 32 := Scalar.muli arg21 c2_i32_366
  let v1658 : BitVec 32 := Scalar.addi v1657 c0_i32_367
  let v1659 : Index := Scalar.indexCast v1658
  let arg1 : BitVec 32 := BitVec.ofNat 32 (i 1).val
  let v1660 : Index := Scalar.indexCast arg1
  let c0_368 : Index := 0#32
  let c0_369 : Index := 0#32
  ![v1659.toNat, v1660.toNat, 0, 0]
def k0_off17 (i : grid0.Coords) : Fin 4 → Nat :=
  let c0_137 : Index := 0#32
  let arg1 : BitVec 32 := BitVec.ofNat 32 (i 1).val
  let v943 : Index := Scalar.indexCast arg1
  let c0_138 : Index := 0#32
  let c0_139 : Index := 0#32
  ![0, v943.toNat, 0, 0]
def k0_off18 (i : grid0.Coords) : Fin 4 → Nat :=
  let c1_140 : Index := 1#32
  let arg1 : BitVec 32 := BitVec.ofNat 32 (i 1).val
  let v946 : Index := Scalar.indexCast arg1
  let c0_141 : Index := 0#32
  let c0_142 : Index := 0#32
  ![1, v946.toNat, 0, 0]
def k0_off19 (i : grid0.Coords) : Fin 4 → Nat :=
  let c2_143 : Index := 2#32
  let arg1 : BitVec 32 := BitVec.ofNat 32 (i 1).val
  let v949 : Index := Scalar.indexCast arg1
  let c0_144 : Index := 0#32
  let c0_145 : Index := 0#32
  ![2, v949.toNat, 0, 0]
def k0_off20 (i : grid0.Coords) : Fin 4 → Nat :=
  let c3_146 : Index := 3#32
  let arg1 : BitVec 32 := BitVec.ofNat 32 (i 1).val
  let v952 : Index := Scalar.indexCast arg1
  let c0_147 : Index := 0#32
  let c0_148 : Index := 0#32
  ![3, v952.toNat, 0, 0]
def k0_off21 (i : grid0.Coords) : Fin 4 → Nat :=
  let c4_149 : Index := 4#32
  let arg1 : BitVec 32 := BitVec.ofNat 32 (i 1).val
  let v955 : Index := Scalar.indexCast arg1
  let c0_150 : Index := 0#32
  let c0_151 : Index := 0#32
  ![4, v955.toNat, 0, 0]
def k0_off22 (i : grid0.Coords) : Fin 4 → Nat :=
  let c5_152 : Index := 5#32
  let arg1 : BitVec 32 := BitVec.ofNat 32 (i 1).val
  let v958 : Index := Scalar.indexCast arg1
  let c0_153 : Index := 0#32
  let c0_154 : Index := 0#32
  ![5, v958.toNat, 0, 0]
def k0_off23 (i : grid0.Coords) : Fin 4 → Nat :=
  let c6_155 : Index := 6#32
  let arg1 : BitVec 32 := BitVec.ofNat 32 (i 1).val
  let v961 : Index := Scalar.indexCast arg1
  let c0_156 : Index := 0#32
  let c0_157 : Index := 0#32
  ![6, v961.toNat, 0, 0]
def k0_off24 (i : grid0.Coords) : Fin 4 → Nat :=
  let c7_158 : Index := 7#32
  let arg1 : BitVec 32 := BitVec.ofNat 32 (i 1).val
  let v964 : Index := Scalar.indexCast arg1
  let c0_159 : Index := 0#32
  let c0_160 : Index := 0#32
  ![7, v964.toNat, 0, 0]
def k0_off25 (i : grid0.Coords) : Fin 4 → Nat :=
  let c8 : Index := 8#32
  let arg1 : BitVec 32 := BitVec.ofNat 32 (i 1).val
  let v967 : Index := Scalar.indexCast arg1
  let c0_161 : Index := 0#32
  let c0_162 : Index := 0#32
  ![8, v967.toNat, 0, 0]
def k0_off26 (i : grid0.Coords) : Fin 4 → Nat :=
  let c9 : Index := 9#32
  let arg1 : BitVec 32 := BitVec.ofNat 32 (i 1).val
  let v970 : Index := Scalar.indexCast arg1
  let c0_163 : Index := 0#32
  let c0_164 : Index := 0#32
  ![9, v970.toNat, 0, 0]
def k0_off27 (i : grid0.Coords) : Fin 4 → Nat :=
  let c10 : Index := 10#32
  let arg1 : BitVec 32 := BitVec.ofNat 32 (i 1).val
  let v973 : Index := Scalar.indexCast arg1
  let c0_165 : Index := 0#32
  let c0_166 : Index := 0#32
  ![10, v973.toNat, 0, 0]
def k0_off28 (i : grid0.Coords) : Fin 4 → Nat :=
  let c11 : Index := 11#32
  let arg1 : BitVec 32 := BitVec.ofNat 32 (i 1).val
  let v976 : Index := Scalar.indexCast arg1
  let c0_167 : Index := 0#32
  let c0_168 : Index := 0#32
  ![11, v976.toNat, 0, 0]
def k0_off29 (i : grid0.Coords) : Fin 4 → Nat :=
  let c12 : Index := 12#32
  let arg1 : BitVec 32 := BitVec.ofNat 32 (i 1).val
  let v979 : Index := Scalar.indexCast arg1
  let c0_169 : Index := 0#32
  let c0_170 : Index := 0#32
  ![12, v979.toNat, 0, 0]
def k0_off30 (i : grid0.Coords) : Fin 4 → Nat :=
  let c13 : Index := 13#32
  let arg1 : BitVec 32 := BitVec.ofNat 32 (i 1).val
  let v982 : Index := Scalar.indexCast arg1
  let c0_171 : Index := 0#32
  let c0_172 : Index := 0#32
  ![13, v982.toNat, 0, 0]
def k0_off31 (i : grid0.Coords) : Fin 4 → Nat :=
  let c14 : Index := 14#32
  let arg1 : BitVec 32 := BitVec.ofNat 32 (i 1).val
  let v985 : Index := Scalar.indexCast arg1
  let c0_173 : Index := 0#32
  let c0_174 : Index := 0#32
  ![14, v985.toNat, 0, 0]
def k0_off32 (i : grid0.Coords) : Fin 4 → Nat :=
  let c15 : Index := 15#32
  let arg1 : BitVec 32 := BitVec.ofNat 32 (i 1).val
  let v988 : Index := Scalar.indexCast arg1
  let c0_175 : Index := 0#32
  let c0_176 : Index := 0#32
  ![15, v988.toNat, 0, 0]
def k0_cond2 (i : grid0.Coords) : BitVec 1 :=
  let arg1 : BitVec 32 := BitVec.ofNat 32 (i 1).val
  let c7_i32_318 : BitVec 32 := 7#32
  let v1338 : BitVec 1 := Scalar.cmpi .eq arg1 c7_i32_318
  let v1339 : BitVec 32 := Scalar.extui v1338
  let c0_i32_319 : BitVec 32 := 0#32
  let v1340 : BitVec 1 := Scalar.cmpi .ne v1339 c0_i32_319
  v1340

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16384x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x17920x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S5x2048x8x128 : Shape := ⟨4, ![5, 2048, 8, 128]⟩
abbrev S5x2048x8 : Shape := ⟨3, ![5, 2048, 8]⟩
abbrev S5x320x56x128 : Shape := ⟨4, ![5, 320, 56, 128]⟩
abbrev S5 : Shape := ⟨1, ![5]⟩
abbrev S_ : Shape := ⟨0, ![]⟩
abbrev S5x56x128 : Shape := ⟨3, ![5, 56, 128]⟩
abbrev S5x1x56x128 : Shape := ⟨4, ![5, 1, 56, 128]⟩
abbrev S5x56x128x128 : Shape := ⟨4, ![5, 56, 128, 128]⟩
abbrev S64 : Shape := ⟨1, ![64]⟩
abbrev S5x1 : Shape := ⟨2, ![5, 1]⟩
abbrev S512 : Shape := ⟨1, ![512]⟩
abbrev S1x512 : Shape := ⟨2, ![1, 512]⟩
abbrev S5x512 : Shape := ⟨2, ![5, 512]⟩
abbrev S5x512x1 : Shape := ⟨3, ![5, 512, 1]⟩
abbrev S1x1x64 : Shape := ⟨3, ![1, 1, 64]⟩
abbrev S5x512x64 : Shape := ⟨3, ![5, 512, 64]⟩
abbrev S5x64 : Shape := ⟨2, ![5, 64]⟩
abbrev S5x128 : Shape := ⟨2, ![5, 128]⟩
abbrev S5x1x128 : Shape := ⟨3, ![5, 1, 128]⟩
abbrev S5x56x64 : Shape := ⟨3, ![5, 56, 64]⟩
abbrev S64x64 : Shape := ⟨2, ![64, 64]⟩
abbrev S64x128 : Shape := ⟨2, ![64, 128]⟩
abbrev S128x128 : Shape := ⟨2, ![128, 128]⟩
abbrev S5x128x1 : Shape := ⟨3, ![5, 128, 1]⟩
abbrev S1x128x128 : Shape := ⟨3, ![1, 128, 128]⟩
abbrev S5x128x128 : Shape := ⟨3, ![5, 128, 128]⟩
abbrev S5x8x7x128 : Shape := ⟨4, ![5, 8, 7, 128]⟩
abbrev S5x8x7x128x128 : Shape := ⟨5, ![5, 8, 7, 128, 128]⟩
abbrev S5x8x7x2048 : Shape := ⟨4, ![5, 8, 7, 2048]⟩
abbrev S5x2048x8x7 : Shape := ⟨4, ![5, 2048, 8, 7]⟩
abbrev S5x8x7x128x2048 : Shape := ⟨5, ![5, 8, 7, 128, 2048]⟩
abbrev S5x2048x8x7x128 : Shape := ⟨5, ![5, 2048, 8, 7, 128]⟩
abbrev S5x2048x8x1x128 : Shape := ⟨5, ![5, 2048, 8, 1, 128]⟩
abbrev S5x2048x8x1 : Shape := ⟨4, ![5, 2048, 8, 1]⟩
abbrev S5x2048x56 : Shape := ⟨3, ![5, 2048, 56]⟩
abbrev S5x56 : Shape := ⟨2, ![5, 56]⟩
abbrev S5x1x56 : Shape := ⟨3, ![5, 1, 56]⟩

abbrev nBuf : Space → Nat
  | .hbm => 158
  | .vmem => 5
  | .smem => 0
  | _ => 0

abbrev hbmTy0_0 (i : Nat) : BufTy := match i % 128 with
  | 0 => ⟨S5x2048x8x128, .fp8e4m3⟩
  | 1 => ⟨S5x2048x8, .f32⟩
  | 2 => ⟨S5x2048x8x128, .fp8e4m3⟩
  | 3 => ⟨S5x2048x8, .f32⟩
  | 4 => ⟨S5x320x56x128, .bf16⟩
  | 5 => ⟨S5, .i32⟩
  | 6 => ⟨S5x2048x8x128, .bf16⟩
  | 7 => ⟨S5x2048x8x128, .f32⟩
  | 8 => ⟨S5x2048x8x128, .f32⟩
  | 9 => ⟨S5x320x56x128, .f32⟩
  | 10 => ⟨S_, .f32⟩
  | 11 => ⟨S5x56x128, .f32⟩
  | 12 => ⟨S_, .f32⟩
  | 13 => ⟨S5x56x128, .f32⟩
  | 14 => ⟨S5x56x128, .f32⟩
  | 15 => ⟨S5x1x56x128, .f32⟩
  | 16 => ⟨S5x320x56x128, .f32⟩
  | 17 => ⟨S5x320x56x128, .f32⟩
  | 18 => ⟨S5x56x128x128, .f32⟩
  | 19 => ⟨S_, .f32⟩
  | 20 => ⟨S5x56x128x128, .f32⟩
  | 21 => ⟨S5x56x128x128, .f32⟩
  | 22 => ⟨S64, .f32⟩
  | 23 => ⟨S_, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S5x1, .i32⟩
  | 34 => ⟨S512, .i32⟩
  | 35 => ⟨S1x512, .i32⟩
  | 36 => ⟨S5x512, .i32⟩
  | 37 => ⟨S5x512, .i32⟩
  | 38 => ⟨S5x512, .i32⟩
  | 39 => ⟨S5x512, .f32⟩
  | 40 => ⟨S5x512x1, .f32⟩
  | 41 => ⟨S1x1x64, .f32⟩
  | 42 => ⟨S5x512x64, .f32⟩
  | 43 => ⟨S5x512x64, .f32⟩
  | 44 => ⟨S5x512x64, .f32⟩
  | 45 => ⟨S5x512x64, .f32⟩
  | 46 => ⟨S_, .f32⟩
  | 47 => ⟨S5x64, .f32⟩
  | 48 => ⟨S_, .f32⟩
  | 49 => ⟨S5x64, .f32⟩
  | 50 => ⟨S5x64, .f32⟩
  | 51 => ⟨S5x512x64, .f32⟩
  | 52 => ⟨S_, .f32⟩
  | 53 => ⟨S5x64, .f32⟩
  | 54 => ⟨S_, .f32⟩
  | 55 => ⟨S5x64, .f32⟩
  | 56 => ⟨S5x64, .f32⟩
  | 57 => ⟨S5x128, .f32⟩
  | 58 => ⟨S5x128, .f32⟩
  | 59 => ⟨S5x1x128, .f32⟩
  | 60 => ⟨S5x56x128, .f32⟩
  | 61 => ⟨S5x56x128, .f32⟩
  | 62 => ⟨S5x1x128, .f32⟩
  | 63 => ⟨S5x56x64, .f32⟩
  | 64 => ⟨S5x56x64, .f32⟩
  | 65 => ⟨S5x56x64, .f32⟩
  | 66 => ⟨S5x56x128, .f32⟩
  | 67 => ⟨S5x56x128, .f32⟩
  | 68 => ⟨S5x56x128, .f32⟩
  | 69 => ⟨S5x56x128, .f32⟩
  | 70 => ⟨S64x64, .i32⟩
  | 71 => ⟨S64x64, .i32⟩
  | 72 => ⟨S_, .i32⟩
  | 73 => ⟨S64x64, .i32⟩
  | 74 => ⟨S64x64, .i32⟩
  | 75 => ⟨S64x64, .i1⟩
  | 76 => ⟨S64x64, .f32⟩
  | 77 => ⟨S_, .f32⟩
  | 78 => ⟨S64x64, .f32⟩
  | 79 => ⟨S64x64, .f32⟩
  | 80 => ⟨S64x128, .f32⟩
  | 81 => ⟨S64x128, .f32⟩
  | 82 => ⟨S128x128, .f32⟩
  | 83 => ⟨S5x128x1, .f32⟩
  | 84 => ⟨S128x128, .i32⟩
  | 85 => ⟨S128x128, .i32⟩
  | 86 => ⟨S_, .i32⟩
  | 87 => ⟨S128x128, .i32⟩
  | 88 => ⟨S128x128, .i32⟩
  | 89 => ⟨S128x128, .i1⟩
  | 90 => ⟨S128x128, .f32⟩
  | 91 => ⟨S1x128x128, .f32⟩
  | 92 => ⟨S5x128x128, .f32⟩
  | 93 => ⟨S5x128x128, .f32⟩
  | 94 => ⟨S5x128x128, .f32⟩
  | 95 => ⟨S5x128x1, .f32⟩
  | 96 => ⟨S1x128x128, .f32⟩
  | 97 => ⟨S5x128x128, .f32⟩
  | 98 => ⟨S5x128x128, .f32⟩
  | 99 => ⟨S5x128x128, .f32⟩
  | 100 => ⟨S5x128x128, .f32⟩
  | 101 => ⟨S5x56x128x128, .f32⟩
  | 102 => ⟨S5x56x128x128, .f32⟩
  | 103 => ⟨S5x56x128x128, .f32⟩
  | 104 => ⟨S5x56x128, .bf16⟩
  | 105 => ⟨S5x8x7x128, .bf16⟩
  | 106 => ⟨S5x56x128x128, .bf16⟩
  | 107 => ⟨S5x8x7x128x128, .bf16⟩
  | 108 => ⟨S5x8x7x2048, .f32⟩
  | 109 => ⟨S5x2048x8x7, .f32⟩
  | 110 => ⟨S5x8x7x128x2048, .f32⟩
  | 111 => ⟨S5x2048x8x7x128, .f32⟩
  | 112 => ⟨S5x2048x8x1x128, .f32⟩
  | 113 => ⟨S5x2048x8x7x128, .f32⟩
  | 114 => ⟨S5x2048x8x7x128, .f32⟩
  | 115 => ⟨S_, .f32⟩
  | 116 => ⟨S5x2048x8x7, .f32⟩
  | 117 => ⟨S5x2048x8x1, .f32⟩
  | 118 => ⟨S5x2048x8x7, .f32⟩
  | 119 => ⟨S5x2048x8x7, .f32⟩
  | 120 => ⟨S_, .f32⟩
  | 121 => ⟨S_, .f32⟩
  | 122 => ⟨S5x2048x8x7, .f32⟩
  | 123 => ⟨S5x2048x8x7, .f32⟩
  | 124 => ⟨S5x2048x8x1, .f32⟩
  | 125 => ⟨S5x2048x8x7, .f32⟩
  | 126 => ⟨S5x2048x8x7, .f32⟩
  | 127 => ⟨S_, .f32⟩
  | _ => ⟨S5x2048x8x128, .fp8e4m3⟩

abbrev hbmTy0_1 (i : Nat) : BufTy := match i % 128 with
  | 0 => ⟨S5x2048x8x7, .f32⟩
  | 1 => ⟨S5x2048x8x7, .f32⟩
  | 2 => ⟨S5x2048x8x7, .f32⟩
  | 3 => ⟨S5x2048x56, .f32⟩
  | 4 => ⟨S_, .f32⟩
  | 5 => ⟨S5x56, .f32⟩
  | 6 => ⟨S5x1x56, .f32⟩
  | 7 => ⟨S5x2048x56, .f32⟩
  | 8 => ⟨S5x2048x56, .f32⟩
  | 9 => ⟨S5x2048x56, .f32⟩
  | 10 => ⟨S_, .f32⟩
  | 11 => ⟨S5x56, .f32⟩
  | 12 => ⟨S5x1x56, .f32⟩
  | 13 => ⟨S_, .f32⟩
  | 14 => ⟨S5x1x56, .f32⟩
  | 15 => ⟨S5x1x56, .f32⟩
  | 16 => ⟨S5x2048x56, .f32⟩
  | 17 => ⟨S5x2048x56, .f32⟩
  | 18 => ⟨S5x2048x8x128, .f32⟩
  | 19 => ⟨S_, .f32⟩
  | 20 => ⟨S5x2048x8, .f32⟩
  | 21 => ⟨S5x2048x8, .f32⟩
  | 22 => ⟨S5x2048x8, .f32⟩
  | 23 => ⟨S5x2048x8x7, .f32⟩
  | 24 => ⟨S_, .f32⟩
  | 25 => ⟨S5x2048x8, .f32⟩
  | 26 => ⟨S_, .f32⟩
  | 27 => ⟨S5x2048x8, .f32⟩
  | 28 => ⟨S5x2048x8, .f32⟩
  | 29 => ⟨S5x2048x8, .f32⟩
  | _ => ⟨S5x2048x8x128, .fp8e4m3⟩

abbrev hbmTy (i : Nat) : BufTy := match i / 128 with
  | 0 => hbmTy0_0 i
  | 1 => hbmTy0_1 i
  | _ => ⟨S5x2048x8x128, .fp8e4m3⟩

abbrev bufTy : (tb : Table) → Fin (tcTables nBuf tb) → BufTy
  | .hbm, ⟨i, _⟩ => hbmTy i
  | .local _ .vmem, ⟨0, _⟩ => ⟨S5x2048x8x128, .fp8e4m3⟩
  | .local _ .vmem, ⟨1, _⟩ => ⟨S5x2048x8x128, .fp8e4m3⟩
  | .local _ .vmem, ⟨2, _⟩ => ⟨S5x2048x8x128, .bf16⟩
  | .local _ .vmem, ⟨3, _⟩ => ⟨S5x2048x8x128, .f32⟩
  | .local _ .vmem, ⟨4, _⟩ => ⟨S5x2048x8x128, .f32⟩
  | _, _ => ⟨S5x2048x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_call0_v0 : Ref sig .tc := ⟨.hbm, 80, rfl⟩
abbrev main_call0_v1 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_11 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_13 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_14 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_15 : Ref sig .tc := ⟨.hbm, 138, rfl⟩
abbrev main_v111 : Ref sig .tc := ⟨.hbm, 139, rfl⟩
abbrev main_v112 : Ref sig .tc := ⟨.hbm, 140, rfl⟩
abbrev main_cst_16 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_17 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_18 : Ref sig .tc := ⟨.hbm, 152, rfl⟩
abbrev main_v122 : Ref sig .tc := ⟨.hbm, 153, rfl⟩
abbrev main_cst_19 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5x2048x8x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x2048x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2048x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/-
  The kernel body of `Kernel` runs: from the table, the input blocks and the scratch held at any contents it reaches its return,
  handing back the table and the inputs as they were and everything else at something.
-/
module

public import proofs.«01_k».proof.Proof.Gen.Kernel.Skeleton
public import proofs.«01_k».proof.Proof.Gen.Kernel.Loops
public import proofs.«01_k».proof.Proof.Gen.Kernel.Launch

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The algebra of the run: the pipeline library's. -/
abbrev UU (nD : Nat) (τ : Topo) : Type := UR sig nD τ
/-- No loop variants. -/
abbrev 𝒱₀ : Variants := Variants.none

/-- The algebra's propositions. -/
local notation "𝕄" => MT nD τ sig Unit (Elt F) ℕ (UU nD τ) ℕ

set_option warn.classDefReducibility false in
set_option maxHeartbeats 4000000 in
set_option maxRecDepth 65536 in
/-- The loop that stages a tile of codes and transposes it: before every trip the inputs as they were, the scratch it writes at something. -/
@[sl_loop] noncomputable def loopInv_k0_t1 (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) (k0_h1 : k0_cond1 i = 1#1) (v1505 : FVec F S128x128 .f32) (v1507 : FVec F S128x128 .f32)
    (X4 : BufTy.Contents (Elt F) arg4.view.ty) (X5 : BufTy.Contents (Elt F) arg5.view.ty) (X6 : BufTy.Contents (Elt F) arg6.view.ty) (X7 : BufTy.Contents (Elt F) arg7.view.ty) :
    Cert.Kernel.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v1505 v1507 where
  inv := fun k acc => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)))
  step := fun k acc => by
    unfold k0_t1_body
    iintro ⟨H4, H5, H6, H7, ⟨%f12, H12⟩, ⟨%f13, H13⟩, ⟨%f14, H14⟩, ⟨%f15, H15⟩⟩
    sl_exec_parts
    sl_step
    isplitl [H4]; · iexact H4
    isplitl [H5]; · iexact H5
    isplitl [H6]; · iexact H6
    isplitl [H7]; · iexact H7
    isplitl [H12]; · iexists _; iexact H12
    isplitl [H13]; · iexists _; iexact H13
    isplitl [H14]; · iexists _; iexact H14
    iexists _; iexact H15

/-- What the first point of a batch does before the common part: the rotary means, the staged codes and the copied window. -/
noncomputable def initB (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) (k0_h1 : k0_cond1 i = 1#1) : Prog (TpuEff nD τ sig (Elt F) Λ₀ .tc) PUnit := do
  let arg0 : BitVec 32 := BitVec.ofNat 32 (i 0).val
  let arg1 : BitVec 32 := BitVec.ofNat 32 (i 1).val
  let ⟨v1345, v1357, v1371, v1372, v1373, v1374, v1375, v1376, v1377, v1378, v1379, v1380, v1381, v1382, v1383, v1384, v1385, v1386, v1387, v1388, v1389, v1390, v1391, v1392, v1393, v1394, v1395, v1396⟩ : Σ' (v1345 : IVec S256x128 32) (v1357 : FVec F S256x128 .f32) (v1371 : FVec F S8x128 .f32) (v1372 : FVec F S8x128 .f32) (v1373 : FVec F S8x128 .f32) (v1374 : FVec F S8x128 .f32) (v1375 : FVec F S8x128 .f32) (v1376 : FVec F S8x128 .f32) (v1377 : FVec F S8x128 .f32) (v1378 : FVec F S8x128 .f32) (v1379 : FVec F S8x128 .f32) (v1380 : FVec F S8x128 .f32) (v1381 : FVec F S8x128 .f32) (v1382 : FVec F S8x128 .f32) (v1383 : FVec F S8x128 .f32) (v1384 : FVec F S8x128 .f32) (v1385 : FVec F S8x128 .f32) (v1386 : FVec F S8x128 .f32) (v1387 : FVec F S8x128 .f32) (v1388 : FVec F S8x128 .f32) (v1389 : FVec F S8x128 .f32) (v1390 : FVec F S8x128 .f32) (v1391 : FVec F S8x128 .f32) (v1392 : FVec F S8x128 .f32) (v1393 : FVec F S8x128 .f32) (v1394 : FVec F S8x128 .f32) (v1395 : FVec F S8x128 .f32), FVec F S8x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1
  let ⟨v1427, v1428, v1429, v1430, v1431, v1432, v1433, v1434, v1435, v1436, v1437, v1438, v1439, v1440, v1441, v1442, v1443, v1444, v1445, v1446, v1447, v1448, v1449, v1450, v1451, v1452, v1453⟩ : Σ' (v1427 : FVec F S1x128 .f32) (v1428 : FVec F S256x128 .f32) (v1429 : FVec F S8x128 .f32) (v1430 : FVec F S8x128 .f32) (v1431 : FVec F S8x128 .f32) (v1432 : FVec F S8x128 .f32) (v1433 : FVec F S8x128 .f32) (v1434 : FVec F S8x128 .f32) (v1435 : FVec F S8x128 .f32) (v1436 : FVec F S8x128 .f32) (v1437 : FVec F S8x128 .f32) (v1438 : FVec F S8x128 .f32) (v1439 : FVec F S8x128 .f32) (v1440 : FVec F S8x128 .f32) (v1441 : FVec F S8x128 .f32) (v1442 : FVec F S8x128 .f32) (v1443 : FVec F S8x128 .f32) (v1444 : FVec F S8x128 .f32) (v1445 : FVec F S8x128 .f32) (v1446 : FVec F S8x128 .f32) (v1447 : FVec F S8x128 .f32) (v1448 : FVec F S8x128 .f32) (v1449 : FVec F S8x128 .f32) (v1450 : FVec F S8x128 .f32) (v1451 : FVec F S8x128 .f32) (v1452 : FVec F S8x128 .f32), FVec F S8x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1357 v1371 v1372 v1373 v1374 v1375 v1376 v1377 v1378 v1379 v1380 v1381 v1382 v1383 v1384 v1385 v1386 v1387 v1388 v1389 v1390 v1391 v1392 v1393 v1394 v1395 v1396
  let ⟨v1505, v1507⟩ : Σ' (v1505 : FVec F S128x128 .f32), FVec F S128x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1345 v1427 v1428 v1429 v1430 v1431 v1432 v1433 v1434 v1435 v1436 v1437 v1438 v1439 v1440 v1441 v1442 v1443 v1444 v1445 v1446 v1447 v1448 v1449 v1450 v1451 v1452 v1453
  let v1534_raw : Vec F S1x320x2x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v1505 v1507
  k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1534_raw
  let v1590 : IVec S320x128 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1590
  let v1647 : IVec S320x128 32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1647
  let v1703 : IVec S320x128 32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1703
  let v1734_raw : Vec F S1x320x2x128 .bf16 ← Prog.lift (.load (arg8.reshape S1x8960x2x128 reshapes_S1x17920x128_S1x8960x2x128.1 reshapes_S1x17920x128_S1x8960x2x128.2 harg8.contiguous) (⟨![0, 26, 0, 0], S1x320x2x128.size, ![1, 28, 1, 1], inb_S1x8960x2x128_S1x320x2x128_0_26_0_0_s_1_28_1_1⟩ : LoadRect S1x8960x2x128) (View.loadsAt_vmem h_S1x320x2x128))
  let v1736 : Vec F S1x320x128 .i32 ← Prog.lift (.load arg20 (Rect.unit (s := S28x320x128) ![26, 0, 0] S1x320x128.size inb_S28x320x128_S1x320x128_26_0_0).toLoadRect (View.loadsAt_vmem h_S1x320x128))
  Prog.lift (.store arg20 (Rect.unit (s := S28x320x128) ![26, 0, 0] S1x320x128.size inb_S28x320x128_S1x320x128_26_0_0) (k0_pay317 v1734_raw) Finset.univ (View.stores_vmem_bits_univ h_S1x320x128 rfl) (.inl rfl))
  let v1742_raw : Vec F S1x320x2x128 .bf16 ← Prog.lift (.load (arg8.reshape S1x8960x2x128 reshapes_S1x17920x128_S1x8960x2x128.1 reshapes_S1x17920x128_S1x8960x2x128.2 harg8.contiguous) (⟨![0, 27, 0, 0], S1x320x2x128.size, ![1, 28, 1, 1], inb_S1x8960x2x128_S1x320x2x128_0_27_0_0_s_1_28_1_1⟩ : LoadRect S1x8960x2x128) (View.loadsAt_vmem h_S1x320x2x128))
  let v1744 : Vec F S1x320x128 .i32 ← Prog.lift (.load arg20 (Rect.unit (s := S28x320x128) ![27, 0, 0] S1x320x128.size inb_S28x320x128_S1x320x128_27_0_0).toLoadRect (View.loadsAt_vmem h_S1x320x128))
  Prog.lift (.store arg20 (Rect.unit (s := S28x320x128) ![27, 0, 0] S1x320x128.size inb_S28x320x128_S1x320x128_27_0_0) (k0_pay318 v1742_raw) Finset.univ (View.stores_vmem_bits_univ h_S1x320x128 rfl) (.inl rfl))
  pure ⟨⟩

/-- It runs at the first point of a batch only. -/
noncomputable def initM (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) : Prog (TpuEff nD τ sig (Elt F) Λ₀ .tc) PUnit :=
  if k0_h1 : k0_cond1 i = 1#1 then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 else pure ⟨⟩

/-- The rest of the part that holds it. -/
noncomputable def tail50 (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) :
    Prog (TpuEff nD τ sig (Elt F) Λ₀ .tc) (Σ' (arg1 : BitVec 32) (v4 : FVec F S1x128 .f32) (v6 : FVec F S1x128 .f32) (v8 : FVec F S128x128 .f32) (v10 : FVec F S128x128 .f32) (v11 : FVec F S320x128 .bf16) (v25 : FVec F S320x128 .f32) (v28 : FVec F S128x256 .f32) (v29 : FVec F S128x128 .f32), FVec F S128x128 .f32) := do
  let arg0 : BitVec 32 := BitVec.ofNat 32 (i 0).val
  let arg1 : BitVec 32 := BitVec.ofNat 32 (i 1).val
  let v3 : Vec F S1x1x128 .f32 ← Prog.lift (.load arg11 (Rect.unit (s := S4x128x128) ![0, 0, 0] S1x1x128.size inb_S4x128x128_S1x1x128_0_0_0).toLoadRect (View.loadsAt_vmem h_S1x1x128))
  let v5 : Vec F S1x1x128 .f32 ← Prog.lift (.load arg11 (Rect.unit (s := S4x128x128) ![1, 0, 0] S1x1x128.size inb_S4x128x128_S1x1x128_1_0_0).toLoadRect (View.loadsAt_vmem h_S1x1x128))
  let v7 : Vec F S1x128x128 .f32 ← Prog.lift (.load arg11 (Rect.unit (s := S4x128x128) ![2, 0, 0] S1x128x128.size inb_S4x128x128_S1x128x128_2_0_0).toLoadRect (View.loadsAt_vmem h_S1x128x128))
  let v9 : Vec F S1x128x128 .f32 ← Prog.lift (.load arg11 (Rect.unit (s := S4x128x128) ![3, 0, 0] S1x128x128.size inb_S4x128x128_S1x128x128_3_0_0).toLoadRect (View.loadsAt_vmem h_S1x128x128))
  let v16 : Vec F S1x320x128 .i32 ← Prog.lift (.load arg20 (Rect.unit (s := S28x320x128) (k0_off13 i 0#32) S1x320x128.size (k0_off13_inb i 0)).toLoadRect (View.loadsAt_vmem h_S1x320x128))
  pure ⟨arg1, k0_pay319 v3, k0_pay320 v5, k0_pay321 v7, k0_pay322 v9, k0_pay323 (F := F), k0_pay324 i v16, k0_pay325 i v16, k0_pay326 i v16, k0_pay327 (F := F)⟩

theorem k0_part46_cut (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) :
    k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = initM i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun _ => tail50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 := by
  rw [k0_part46_eq_skeleton]
  unfold k0_part46_skel initM
  by_cases h : k0_cond1 i = 1#1
  · simp only [dif_pos h]
    unfold initB tail50
    simp only [bind_assoc, pure_bind]
  · simp only [dif_neg h, pure_bind]
    rfl

set_option maxHeartbeats 4000000 in
set_option maxRecDepth 65536 in
/-- The first point's part runs. -/
theorem init_run (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f))) : sProp 𝕄)
      ⊢ wp frame (wpE (defs₀ (F := F)) 𝒱₀ (c : Thread nD τ) none) Set.univ (initM (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)))) := by
  unfold initM
  by_cases h1 : k0_cond1 i = 1#1
  · rw [dif_pos h1]
    unfold initB
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20
  · rw [dif_neg h1]
    iintro H
    sl_step
    iexact H

set_option maxHeartbeats 4000000 in
set_option maxRecDepth 65536 in
/-- The body runs. -/
theorem body_run (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x128 .i32) (harg20 : arg20.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f))) : sProp 𝕄)
      ⊢ wp frame (wpE (defs₀ (F := F)) 𝒱₀ (c : Thread nD τ) none) Set.univ (cc0_expected_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)))) := by
  rw [cc0_expected_attention_eq_skeleton]
  unfold cc0_expected_attention_skel
  rw [k0_part46_cut, bind_assoc, wp_bind]
  iintro H
  iapply (wp_wand_r frame (wpE (defs₀ (F := F)) 𝒱₀ (c : Thread nD τ) none) Set.univ)
  isplitl [H]
  · iapply (init_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8); iexact H
  · iintro %_ ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    by_cases h2 : k0_cond2 i = 1#1 <;>
    · unfold tail50
      sl_exec_parts
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20

end Cert.Proof.Kernel

end
-- ==== Proof.KernelFrame.lean ====
/-
  The launch of `Kernel`: the host lines before the kernel, the forty grid points, and what is left afterwards.
-/
module

public import proofs.«01_k».proof.Proof.KernelRun
public import Idealize.ShloMosaic.Lib.Pipeline.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [BitOps F]

/-- The algebra's propositions. -/
local notation "𝕄" => MT nD τ sig Unit (Elt F) ℕ (UU nD τ) ℕ

variable (m : (ℓ : Loc nD τ sig) → Buf (Elt F) ℓ) (g : Dev nD → PrngReg)

/-- What each buffer holds when the kernel is entered: the host lines have run. -/
abbrev V (c : Dev nD) (b : Ref sig .tc) : Buf (Elt F) ((c.tc : Thread nD τ).loc b) := StableHlo.after hostOps0 (fun b => m (c, b)) b

/-- The host lines write no argument. -/
theorem not_written (b : Ref sig .tc) (hb : b ≠ main_v0 ∧ b ≠ main_cst ∧ b ≠ main_v1 ∧ b ≠ main_v2 ∧ b ≠ main_v3 ∧ b ≠ main_cst_0 ∧ b ≠ main_v4 ∧ b ≠ main_v5 ∧ b ≠ main_cst_1 ∧ b ≠ main_v6 ∧ b ≠ main_v7 ∧ b ≠ main_v8 ∧ b ≠ main_v9 ∧ b ≠ main_v10 ∧ b ≠ main_v11 ∧ b ≠ main_v12 ∧ b ≠ main_v13 ∧ b ≠ main_v14) :
    ∀ op ∈ (hostOps0 (F := F)), Proc.devRef .tc b ∉ op.writes := by
  obtain ⟨h0, h1, h2, h3, h4, h5, h6, h7, h8, h9, h10, h11, h12, h13, h14, h15, h16, h17⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer the host lines do not write reaches the kernel as launched. -/
theorem V_of (c : Dev nD) (b : Ref sig .tc) (hb : b ≠ main_v0 ∧ b ≠ main_cst ∧ b ≠ main_v1 ∧ b ≠ main_v2 ∧ b ≠ main_v3 ∧ b ≠ main_cst_0 ∧ b ≠ main_v4 ∧ b ≠ main_v5 ∧ b ≠ main_cst_1 ∧ b ≠ main_v6 ∧ b ≠ main_v7 ∧ b ≠ main_v8 ∧ b ≠ main_v9 ∧ b ≠ main_v10 ∧ b ≠ main_v11 ∧ b ≠ main_v12 ∧ b ≠ main_v13 ∧ b ≠ main_v14) :
    V m c b = m ((c.tc : Thread nD τ).loc b) :=
  StableHlo.after_of_forall_not_mem (b := Proc.devRef .tc b) hostOps0 (fun b => m (c, b)) (not_written b hb)

/-- The table the kernel reads, as it is at the entry. -/
abbrev tab (_ : Fin 1) : (pcfg0 (F := F)).Adm := ⟨fun k => V m 0 (pre0.ref k), trivial⟩

/-- The pipeline at that table. -/
abbrev cfgT : Cfg sig Λ₀ := cfg0 (tab m 0)

/-- The invariant between grid points: the scratch at something, the table as at entry. -/
def Φc (c : Dev nD) : sProp 𝕄 :=
  iprop(Pipeline.ΦA (cfgT m).spec c ∗ Pipeline.ΦT pre0 (tab m 0).1 c)

/-- The relation of the frame: an input's block is left as found, an output's is anything. -/
def rdat (c : Dev nD) : RDat τ (Elt F) Unit ℕ (UU nD τ) ℕ (cfgT m) c where
  A w := V m c (Pipeline.arrRef (cfgT m).spec w)
  after w _ Y X := ((cfgT m).win w).isOut = true ∨ X = Y
  Φ _ := Φc m c
  q _ := fullShare
  owed _ := 0

-- the body's arguments are met through the configuration at the table
set_option backward.isDefEq.respectTransparency.types false in
set_option maxHeartbeats 4000000 in
/-- Every point's body runs and leaves the invariant. -/
theorem body_obligation (c : Dev nD) : (rdat m c).BodyObligation (defs₀ (F := F)) 𝒱₀ () Set.univ := by
  intro t Y hY
  rw [bigSep_W0, bigSep_W0]
  rw [show (rdat m c).Φ t.castSucc = Φc m c from rfl, show (rdat m c).Φ t.succ = Φc m c from rfl]
  unfold Φc Pipeline.ΦA Pipeline.ΦT Pipeline.prefHeld
  rw [show (cfgT m).spec = spec0 from rfl, scopedRest0_eq]
  rw [show (Finset.univ : Finset (Fin pre0.K)) = {(0 : Fin 1)} from rfl, bigSep_singleton]
  unfold owns
  iintro ⟨⟨⟨⟨H11, H12, H13, H14, H15, H16, H17, H18, H19, H20⟩, Hg⟩, H2⟩, HO, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  iapply (wp_wand_r frame (wpE (defs₀ (F := F)) 𝒱₀ (c : Thread nD τ) none) Set.univ)
  isplitl [H2 H3 H4 H5 H6 H7 H8 H9 H10 H11 H12 H13 H14 H15 H16 H17 H18 H19 H20]
  · iapply (body_run c (grid0.coords t) (Memref.whole main_arg5) (Memref.isWhole_whole _)
      (spec0_0.stage ((cfgT m).slots t 0)) (hstage0_0 (((cfgT m).slots t 0).cast nbuf0_0)) (spec0_1.stage ((cfgT m).slots t 1)) (hstage0_1 (((cfgT m).slots t 1).cast nbuf0_1))
      (spec0_2.stage ((cfgT m).slots t 2)) (hstage0_2 (((cfgT m).slots t 2).cast nbuf0_2)) (spec0_3.stage ((cfgT m).slots t 3)) (hstage0_3 (((cfgT m).slots t 3).cast nbuf0_3))
      (spec0_4.stage ((cfgT m).slots t 4)) (hstage0_4 (((cfgT m).slots t 4).cast nbuf0_4)) (spec0_5.stage ((cfgT m).slots t 5)) (hstage0_5 (((cfgT m).slots t 5).cast nbuf0_5))
      (spec0_6.stage ((cfgT m).slots t 6)) (hstage0_6 (((cfgT m).slots t 6).cast nbuf0_6)) (spec0_7.stage ((cfgT m).slots t 7)) (hstage0_7 (((cfgT m).slots t 7).cast nbuf0_7))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
      fullShare.right ((tab m 0).1 0) f3 f4 f5 f6 f7 f8)
    simp only [Memref.view_whole, View.set_whole]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists f9; iexact H9
    isplitl [H10]; · iexists f10; iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %_ ⟨H2, H3, H4, H5, H6, H7, H8, ⟨%o9, H9⟩, ⟨%o10, H10⟩, H11, H12, H13, H14, H15, H16, H17, H18, H19, H20⟩
  simp only [Memref.view_whole, View.set_whole]
  isplitl [H2 H11 H12 H13 H14 H15 H16 H17 H18 H19 H20 Hg]
  · isplitr [H2]; swap; · iexact H2
    isplitr [Hg]; swap; · iexact Hg
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [HO]; · iexact HO
  isplitl [H3]
  · iexists _; isplitr; swap
    · iexists _; isplitr; swap
      · iexact H3
      · ipureintro; rfl
    · ipureintro; exact Or.inr hf3
  isplitl [H4]
  · iexists _; isplitr; swap
    · iexists _; isplitr; swap
      · iexact H4
      · ipureintro; rfl
    · ipureintro; exact Or.inr hf4
  isplitl [H5]
  · iexists _; isplitr; swap
    · iexists _; isplitr; swap
      · iexact H5
      · ipureintro; rfl
    · ipureintro; exact Or.inr hf5
  isplitl [H6]
  · iexists _; isplitr; swap
    · iexists _; isplitr; swap
      · iexact H6
      · ipureintro; rfl
    · ipureintro; exact Or.inr hf6
  isplitl [H7]
  · iexists _; isplitr; swap
    · iexists _; isplitr; swap
      · iexact H7
      · ipureintro; rfl
    · ipureintro; exact Or.inr hf7
  isplitl [H8]
  · iexists _; isplitr; swap
    · iexists _; isplitr; swap
      · iexact H8
      · ipureintro; rfl
    · ipureintro; exact Or.inr hf8
  isplitl [H9]
  · iexists _; isplitr; swap
    · iexists _; isplitr; swap
      · iexact H9
      · ipureintro; rfl
    · ipureintro; exact Or.inl rfl
  iexists _; isplitr; swap
  · iexists _; isplitr; swap
    · iexact H10
    · ipureintro; rfl
  · ipureintro; exact Or.inl rfl

/-- The run: the arrays, the rest and the counters after the whole program. -/
theorem run (Q' : PUnit × MemSt nD τ sig (Elt F) → Prop)
    (hQ' : ∀ r, RDat.FramePost (cfgT m) (rdat m) (V m) r ∧ r.2.sem = (fun _ => 0) → Q' r) :
    θ_run (defs (F := F)) (onTc (τ := τ) (main (F := F))) ⟨m, fun _ => 0, g⟩ Q' :=
  RDat.θ_run_frameP_track (pcfgs (F := F)) (tab m) 0 launch0 (defs₀ (F := F)) 𝒱₀ (rdat m) m g (main (F := F)) (body_obligation m)
    (fun c w => by unfold RDat.share; split <;> rfl) (fun c t => rfl) (V m)
    (Pipeline.hmainP_prefix (pcfgs (F := F)) 0 (defs₀ (F := F)) 𝒱₀ m (main (F := F)) hostOps0 hostOps0_sub
      (by repeat (first | exact trivial | refine ⟨rfl, ?_⟩ | exact rfl)) main_chain)
    (fun c w => rfl) (fun c k => by obtain rfl := Subsingleton.elim c 0; rfl)
    (fun c => .rfl) (fun c => by
      show Φc m c ⊢ _
      unfold Φc; iintro ⟨H, _⟩; iexact H) Q' hQ'

/-- An input's array is after the run as it was at the kernel's entry. -/
theorem mem_in (r : PUnit × MemSt nD τ sig (Elt F)) (h : RDat.FramePost (cfgT m) (rdat m) (V m) r) (c : Dev nD) (w : Fin (cfgT m).W)
    (hw : ((cfgT m).win w).isOut = false) :
    r.2.mem (((cfgT m).spec w).arr.view.loc (c.tc : Thread nD τ)) = V m c (Pipeline.arrRef (cfgT m).spec w) :=
  (congrFun ((rdat m c).ArrAt_in w hw _) _).mp ((h c).1 w)

/-- The six arguments, at the end as at the start. -/
def Same (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The arguments end as launched. -/
theorem args_same (r : PUnit × MemSt nD τ sig (Elt F)) (h : RDat.FramePost (cfgT m) (rdat m) (V m) r) (c : Dev nD) : Same m r c :=
  ⟨((h c).2 main_arg0 (Pipeline.mem_restRefs_of _ rfl (show ∀ w : Fin 8, (spec0 w).arr.view.ref ≠ main_arg0 by decide))).trans (V_of m c main_arg0 (by decide)),
   (mem_in m r h c 2 rfl).trans (V_of m c main_arg1 (by decide)),
   ((h c).2 main_arg2 (Pipeline.mem_restRefs_of _ rfl (show ∀ w : Fin 8, (spec0 w).arr.view.ref ≠ main_arg2 by decide))).trans (V_of m c main_arg2 (by decide)),
   (mem_in m r h c 4 rfl).trans (V_of m c main_arg3 (by decide)),
   ((h c).2 main_arg4 (Pipeline.mem_restRefs_of _ rfl (show ∀ w : Fin 8, (spec0 w).arr.view.ref ≠ main_arg4 by decide))).trans (V_of m c main_arg4 (by decide)),
   ((h c).2 main_arg5 (Pipeline.mem_restRefs_of _ rfl (show ∀ w : Fin 8, (spec0 w).arr.view.ref ≠ main_arg5 by decide))).trans (V_of m c main_arg5 (by decide))⟩

/-- The program runs to its end from any memory, its arguments unchanged and every counter at zero. -/
theorem frame : θ_run (defs (F := F)) (onTc (τ := τ) (main (F := F))) ⟨m, fun _ => 0, g⟩
    (fun r => (∀ c : Dev nD, Same m r c) ∧ r.2.sem = fun _ => 0) :=
  run m g _ fun r h => ⟨fun c => args_same m r h.1 c, h.2⟩

end Cert.Proof.Kernel

end
-- ==== Proof.KernelIdealRun.lean ====
/-
  The kernel body of `KernelIdeal` runs: from the table, the input blocks and the scratch held at any contents it reaches its return,
  handing back the table and the inputs as they were and everything else at something.
-/
module

public import proofs.«01_k».proof.Proof.Gen.KernelIdeal.Skeleton
public import proofs.«01_k».proof.Proof.Gen.KernelIdeal.Loops
public import proofs.«01_k».proof.Proof.Gen.KernelIdeal.Launch

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the run: the pipeline library's. -/
abbrev UU (nD : Nat) (τ : Topo) : Type := UR sig nD τ
/-- No loop variants. -/
abbrev 𝒱₀ : Variants := Variants.none

/-- The algebra's propositions. -/
local notation "𝕄" => MT nD τ sig Unit (Elt F) ℕ (UU nD τ) ℕ

set_option warn.classDefReducibility false in
set_option maxHeartbeats 4000000 in
set_option maxRecDepth 65536 in
/-- The loop that stages a tile of codes and transposes it: before every trip the inputs as they were, the scratch it writes at something. -/
@[sl_loop] noncomputable def loopInv_k0_t1 (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (k0_h1 : k0_cond1 i = 1#1) (v1505 : FVec F S128x128 .f32) (v1507 : FVec F S128x128 .f32)
    (X4 : BufTy.Contents (Elt F) arg4.view.ty) (X5 : BufTy.Contents (Elt F) arg5.view.ty) (X6 : BufTy.Contents (Elt F) arg6.view.ty) (X7 : BufTy.Contents (Elt F) arg7.view.ty) :
    Cert.KernelIdeal.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v1505 v1507 where
  inv := fun k acc => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)))
  step := fun k acc => by
    unfold k0_t1_body
    iintro ⟨H4, H5, H6, H7, ⟨%f12, H12⟩, ⟨%f13, H13⟩, ⟨%f14, H14⟩, ⟨%f15, H15⟩⟩
    sl_exec_parts
    sl_step
    isplitl [H4]; · iexact H4
    isplitl [H5]; · iexact H5
    isplitl [H6]; · iexact H6
    isplitl [H7]; · iexact H7
    isplitl [H12]; · iexists _; iexact H12
    isplitl [H13]; · iexists _; iexact H13
    isplitl [H14]; · iexists _; iexact H14
    iexists _; iexact H15

/-- What the first point of a batch does before the common part: the rotary means, the staged codes and the copied window. -/
noncomputable def initB (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (k0_h1 : k0_cond1 i = 1#1) : Prog (TpuEff nD τ sig (Elt F) Λ₀ .tc) PUnit := do
  let arg0 : BitVec 32 := BitVec.ofNat 32 (i 0).val
  let arg1 : BitVec 32 := BitVec.ofNat 32 (i 1).val
  let k0_w28 : Vec F S1x320x2x128 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h1
  Prog.lift (.store arg20 (Rect.unit (s := S28x320x2x128) ![27, 0, 0, 0] S1x320x2x128.size inb_S28x320x2x128_S1x320x2x128_27_0_0_0) k0_w28 Finset.univ (View.stores_vmem h_S1x320x2x128 ((harg20.pairWhole rank2_S28x320x2x128).storeExact_slice rfl _ (Rect.wholeRows_unit rank2_S28x320x2x128 rfl rfl) pairs_S28x320x2x128_bf16) (fun _ => rfl)) (.inl rfl))
  pure ⟨⟩

/-- It runs at the first point of a batch only. -/
noncomputable def initM (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) : Prog (TpuEff nD τ sig (Elt F) Λ₀ .tc) PUnit :=
  if k0_h1 : k0_cond1 i = 1#1 then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 else pure ⟨⟩

/-- The rest of the part that holds it. -/
noncomputable def tail50 (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) :
    Prog (TpuEff nD τ sig (Elt F) Λ₀ .tc) (Σ' (arg1 : BitVec 32) (v4 : FVec F S1x128 .f32) (v6 : FVec F S1x128 .f32) (v8 : FVec F S128x128 .f32) (v10 : FVec F S128x128 .f32) (v11 : FVec F S320x128 .bf16) (v25 : FVec F S320x128 .f32) (v28 : FVec F S128x256 .f32), FVec F S128x128 .f32) := do
  let arg0 : BitVec 32 := BitVec.ofNat 32 (i 0).val
  let arg1 : BitVec 32 := BitVec.ofNat 32 (i 1).val
  let v3 : Vec F S1x1x128 .f32 ← Prog.lift (.load arg11 (Rect.unit (s := S4x128x128) ![0, 0, 0] S1x1x128.size inb_S4x128x128_S1x1x128_0_0_0).toLoadRect (View.loadsAt_vmem h_S1x1x128))
  let v5 : Vec F S1x1x128 .f32 ← Prog.lift (.load arg11 (Rect.unit (s := S4x128x128) ![1, 0, 0] S1x1x128.size inb_S4x128x128_S1x1x128_1_0_0).toLoadRect (View.loadsAt_vmem h_S1x1x128))
  let v7 : Vec F S1x128x128 .f32 ← Prog.lift (.load arg11 (Rect.unit (s := S4x128x128) ![2, 0, 0] S1x128x128.size inb_S4x128x128_S1x128x128_2_0_0).toLoadRect (View.loadsAt_vmem h_S1x128x128))
  let v9 : Vec F S1x128x128 .f32 ← Prog.lift (.load arg11 (Rect.unit (s := S4x128x128) ![3, 0, 0] S1x128x128.size inb_S4x128x128_S1x128x128_3_0_0).toLoadRect (View.loadsAt_vmem h_S1x128x128))
  let v16_raw : Vec F S1x320x2x128 .bf16 ← Prog.lift (.load arg20 (Rect.unit (s := S28x320x2x128) (k0_off13 i 0#32) S1x320x2x128.size (k0_off13_inb i 0)).toLoadRect (View.loadsAt_vmem h_S1x320x2x128))
  pure ⟨arg1, k0_pay320 v3, k0_pay321 v5, k0_pay322 v7, k0_pay323 v9, k0_pay324 (F := F), k0_pay325 i v16_raw, k0_pay326 i v16_raw, k0_pay327 i v16_raw⟩

theorem k0_part50_cut (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) :
    k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = initM i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun _ => tail50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 := by
  rw [k0_part50_eq_skeleton]
  unfold k0_part50_skel initM
  by_cases h : k0_cond1 i = 1#1
  · simp only [dif_pos h]
    unfold initB tail50
    simp only [bind_assoc, pure_bind]
  · simp only [dif_neg h, pure_bind]
    rfl

set_option maxHeartbeats 4000000 in
set_option maxRecDepth 65536 in
/-- The first point's part runs. -/
theorem init_run (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f))) : sProp 𝕄)
      ⊢ wp frame (wpE (defs₀ (F := F)) 𝒱₀ (c : Thread nD τ) none) Set.univ (initM (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)))) := by
  unfold initM
  by_cases h1 : k0_cond1 i = 1#1
  · rw [dif_pos h1]
    unfold initB
    simp only [k0_part24_eq_skeleton]
    unfold k0_part24_skel
    simp only [k0_part13_eq_skeleton]
    unfold k0_part13_skel
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20
  · rw [dif_neg h1]
    iintro H
    sl_step
    iexact H

set_option maxHeartbeats 4000000 in
set_option maxRecDepth 65536 in
/-- The body runs. -/
theorem body_run (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f))) : sProp 𝕄)
      ⊢ wp frame (wpE (defs₀ (F := F)) 𝒱₀ (c : Thread nD τ) none) Set.univ (cc0_expected_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)))) := by
  rw [cc0_expected_attention_eq_skeleton]
  unfold cc0_expected_attention_skel
  rw [k0_part50_cut, bind_assoc, wp_bind]
  iintro H
  iapply (wp_wand_r frame (wpE (defs₀ (F := F)) 𝒱₀ (c : Thread nD τ) none) Set.univ)
  isplitl [H]
  · iapply (init_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8); iexact H
  · iintro %_ ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
    by_cases h2 : k0_cond2 i = 1#1 <;>
    · unfold tail50
      sl_exec_parts
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20

end Cert.Proof.KernelIdeal

end
-- ==== Proof.KernelIdealFrame.lean ====
/-
  The launch of `KernelIdeal`: the host lines before the kernel, the forty grid points, and what is left afterwards.
-/
module

public import proofs.«01_k».proof.Proof.KernelIdealRun
public import Idealize.ShloMosaic.Lib.Pipeline.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [Named F]

/-- The algebra's propositions. -/
local notation "𝕄" => MT nD τ sig Unit (Elt F) ℕ (UU nD τ) ℕ

variable (m : (ℓ : Loc nD τ sig) → Buf (Elt F) ℓ) (g : Dev nD → PrngReg)

/-- What each buffer holds when the kernel is entered: the host lines have run. -/
abbrev V (c : Dev nD) (b : Ref sig .tc) : Buf (Elt F) ((c.tc : Thread nD τ).loc b) := StableHlo.after hostOps0 (fun b => m (c, b)) b

/-- The host lines write no argument. -/
theorem not_written (b : Ref sig .tc) (hb : b ≠ main_v0 ∧ b ≠ main_cst ∧ b ≠ main_v1 ∧ b ≠ main_v2 ∧ b ≠ main_v3 ∧ b ≠ main_cst_0 ∧ b ≠ main_v4 ∧ b ≠ main_v5 ∧ b ≠ main_cst_1 ∧ b ≠ main_v6 ∧ b ≠ main_v7 ∧ b ≠ main_v8 ∧ b ≠ main_v9 ∧ b ≠ main_v10 ∧ b ≠ main_v11 ∧ b ≠ main_v12 ∧ b ≠ main_v13 ∧ b ≠ main_v14) :
    ∀ op ∈ (hostOps0 (F := F)), Proc.devRef .tc b ∉ op.writes := by
  obtain ⟨h0, h1, h2, h3, h4, h5, h6, h7, h8, h9, h10, h11, h12, h13, h14, h15, h16, h17⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer the host lines do not write reaches the kernel as launched. -/
theorem V_of (c : Dev nD) (b : Ref sig .tc) (hb : b ≠ main_v0 ∧ b ≠ main_cst ∧ b ≠ main_v1 ∧ b ≠ main_v2 ∧ b ≠ main_v3 ∧ b ≠ main_cst_0 ∧ b ≠ main_v4 ∧ b ≠ main_v5 ∧ b ≠ main_cst_1 ∧ b ≠ main_v6 ∧ b ≠ main_v7 ∧ b ≠ main_v8 ∧ b ≠ main_v9 ∧ b ≠ main_v10 ∧ b ≠ main_v11 ∧ b ≠ main_v12 ∧ b ≠ main_v13 ∧ b ≠ main_v14) :
    V m c b = m ((c.tc : Thread nD τ).loc b) :=
  StableHlo.after_of_forall_not_mem (b := Proc.devRef .tc b) hostOps0 (fun b => m (c, b)) (not_written b hb)

/-- The table the kernel reads, as it is at the entry. -/
abbrev tab (_ : Fin 1) : (pcfg0 (F := F)).Adm := ⟨fun k => V m 0 (pre0.ref k), trivial⟩

/-- The pipeline at that table. -/
abbrev cfgT : Cfg sig Λ₀ := cfg0 (tab m 0)

/-- The invariant between grid points: the scratch at something, the table as at entry. -/
def Φc (c : Dev nD) : sProp 𝕄 :=
  iprop(Pipeline.ΦA (cfgT m).spec c ∗ Pipeline.ΦT pre0 (tab m 0).1 c)

/-- The relation of the frame: an input's block is left as found, an output's is anything. -/
def rdat (c : Dev nD) : RDat τ (Elt F) Unit ℕ (UU nD τ) ℕ (cfgT m) c where
  A w := V m c (Pipeline.arrRef (cfgT m).spec w)
  after w _ Y X := ((cfgT m).win w).isOut = true ∨ X = Y
  Φ _ := Φc m c
  q _ := fullShare
  owed _ := 0

-- the body's arguments are met through the configuration at the table
set_option backward.isDefEq.respectTransparency.types false in
set_option maxHeartbeats 4000000 in
/-- Every point's body runs and leaves the invariant. -/
theorem body_obligation (c : Dev nD) : (rdat m c).BodyObligation (defs₀ (F := F)) 𝒱₀ () Set.univ := by
  intro t Y hY
  rw [bigSep_W0, bigSep_W0]
  rw [show (rdat m c).Φ t.castSucc = Φc m c from rfl, show (rdat m c).Φ t.succ = Φc m c from rfl]
  unfold Φc Pipeline.ΦA Pipeline.ΦT Pipeline.prefHeld
  rw [show (cfgT m).spec = spec0 from rfl, scopedRest0_eq]
  rw [show (Finset.univ : Finset (Fin pre0.K)) = {(0 : Fin 1)} from rfl, bigSep_singleton]
  unfold owns
  iintro ⟨⟨⟨⟨H11, H12, H13, H14, H15, H16, H17, H18, H19, H20⟩, Hg⟩, H2⟩, HO, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  iapply (wp_wand_r frame (wpE (defs₀ (F := F)) 𝒱₀ (c : Thread nD τ) none) Set.univ)
  isplitl [H2 H3 H4 H5 H6 H7 H8 H9 H10 H11 H12 H13 H14 H15 H16 H17 H18 H19 H20]
  · iapply (body_run c (grid0.coords t) (Memref.whole main_arg5) (Memref.isWhole_whole _)
      (spec0_0.stage ((cfgT m).slots t 0)) (hstage0_0 (((cfgT m).slots t 0).cast nbuf0_0)) (spec0_1.stage ((cfgT m).slots t 1)) (hstage0_1 (((cfgT m).slots t 1).cast nbuf0_1))
      (spec0_2.stage ((cfgT m).slots t 2)) (hstage0_2 (((cfgT m).slots t 2).cast nbuf0_2)) (spec0_3.stage ((cfgT m).slots t 3)) (hstage0_3 (((cfgT m).slots t 3).cast nbuf0_3))
      (spec0_4.stage ((cfgT m).slots t 4)) (hstage0_4 (((cfgT m).slots t 4).cast nbuf0_4)) (spec0_5.stage ((cfgT m).slots t 5)) (hstage0_5 (((cfgT m).slots t 5).cast nbuf0_5))
      (spec0_6.stage ((cfgT m).slots t 6)) (hstage0_6 (((cfgT m).slots t 6).cast nbuf0_6)) (spec0_7.stage ((cfgT m).slots t 7)) (hstage0_7 (((cfgT m).slots t 7).cast nbuf0_7))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
      fullShare.right ((tab m 0).1 0) f3 f4 f5 f6 f7 f8)
    simp only [Memref.view_whole, View.set_whole]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists f9; iexact H9
    isplitl [H10]; · iexists f10; iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %_ ⟨H2, H3, H4, H5, H6, H7, H8, ⟨%o9, H9⟩, ⟨%o10, H10⟩, H11, H12, H13, H14, H15, H16, H17, H18, H19, H20⟩
  simp only [Memref.view_whole, View.set_whole]
  isplitl [H2 H11 H12 H13 H14 H15 H16 H17 H18 H19 H20 Hg]
  · isplitr [H2]; swap; · iexact H2
    isplitr [Hg]; swap; · iexact Hg
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [HO]; · iexact HO
  isplitl [H3]
  · iexists _; isplitr; swap
    · iexists _; isplitr; swap
      · iexact H3
      · ipureintro; rfl
    · ipureintro; exact Or.inr hf3
  isplitl [H4]
  · iexists _; isplitr; swap
    · iexists _; isplitr; swap
      · iexact H4
      · ipureintro; rfl
    · ipureintro; exact Or.inr hf4
  isplitl [H5]
  · iexists _; isplitr; swap
    · iexists _; isplitr; swap
      · iexact H5
      · ipureintro; rfl
    · ipureintro; exact Or.inr hf5
  isplitl [H6]
  · iexists _; isplitr; swap
    · iexists _; isplitr; swap
      · iexact H6
      · ipureintro; rfl
    · ipureintro; exact Or.inr hf6
  isplitl [H7]
  · iexists _; isplitr; swap
    · iexists _; isplitr; swap
      · iexact H7
      · ipureintro; rfl
    · ipureintro; exact Or.inr hf7
  isplitl [H8]
  · iexists _; isplitr; swap
    · iexists _; isplitr; swap
      · iexact H8
      · ipureintro; rfl
    · ipureintro; exact Or.inr hf8
  isplitl [H9]
  · iexists _; isplitr; swap
    · iexists _; isplitr; swap
      · iexact H9
      · ipureintro; rfl
    · ipureintro; exact Or.inl rfl
  iexists _; isplitr; swap
  · iexists _; isplitr; swap
    · iexact H10
    · ipureintro; rfl
  · ipureintro; exact Or.inl rfl

/-- The run: the arrays, the rest and the counters after the whole program. -/
theorem run (Q' : PUnit × MemSt nD τ sig (Elt F) → Prop)
    (hQ' : ∀ r, RDat.FramePost (cfgT m) (rdat m) (V m) r ∧ r.2.sem = (fun _ => 0) → Q' r) :
    θ_run (defs (F := F)) (onTc (τ := τ) (main (F := F))) ⟨m, fun _ => 0, g⟩ Q' :=
  RDat.θ_run_frameP_track (pcfgs (F := F)) (tab m) 0 launch0 (defs₀ (F := F)) 𝒱₀ (rdat m) m g (main (F := F)) (body_obligation m)
    (fun c w => by unfold RDat.share; split <;> rfl) (fun c t => rfl) (V m)
    (Pipeline.hmainP_prefix (pcfgs (F := F)) 0 (defs₀ (F := F)) 𝒱₀ m (main (F := F)) hostOps0 hostOps0_sub
      (by repeat (first | exact trivial | refine ⟨rfl, ?_⟩ | exact rfl)) main_chain)
    (fun c w => rfl) (fun c k => by obtain rfl := Subsingleton.elim c 0; rfl)
    (fun c => .rfl) (fun c => by
      show Φc m c ⊢ _
      unfold Φc; iintro ⟨H, _⟩; iexact H) Q' hQ'

/-- An input's array is after the run as it was at the kernel's entry. -/
theorem mem_in (r : PUnit × MemSt nD τ sig (Elt F)) (h : RDat.FramePost (cfgT m) (rdat m) (V m) r) (c : Dev nD) (w : Fin (cfgT m).W)
    (hw : ((cfgT m).win w).isOut = false) :
    r.2.mem (((cfgT m).spec w).arr.view.loc (c.tc : Thread nD τ)) = V m c (Pipeline.arrRef (cfgT m).spec w) :=
  (congrFun ((rdat m c).ArrAt_in w hw _) _).mp ((h c).1 w)

/-- The six arguments, at the end as at the start. -/
def Same (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The arguments end as launched. -/
theorem args_same (r : PUnit × MemSt nD τ sig (Elt F)) (h : RDat.FramePost (cfgT m) (rdat m) (V m) r) (c : Dev nD) : Same m r c :=
  ⟨((h c).2 main_arg0 (Pipeline.mem_restRefs_of _ rfl (show ∀ w : Fin 8, (spec0 w).arr.view.ref ≠ main_arg0 by decide))).trans (V_of m c main_arg0 (by decide)),
   (mem_in m r h c 2 rfl).trans (V_of m c main_arg1 (by decide)),
   ((h c).2 main_arg2 (Pipeline.mem_restRefs_of _ rfl (show ∀ w : Fin 8, (spec0 w).arr.view.ref ≠ main_arg2 by decide))).trans (V_of m c main_arg2 (by decide)),
   (mem_in m r h c 4 rfl).trans (V_of m c main_arg3 (by decide)),
   ((h c).2 main_arg4 (Pipeline.mem_restRefs_of _ rfl (show ∀ w : Fin 8, (spec0 w).arr.view.ref ≠ main_arg4 by decide))).trans (V_of m c main_arg4 (by decide)),
   ((h c).2 main_arg5 (Pipeline.mem_restRefs_of _ rfl (show ∀ w : Fin 8, (spec0 w).arr.view.ref ≠ main_arg5 by decide))).trans (V_of m c main_arg5 (by decide))⟩

/-- The program runs to its end from any memory, its arguments unchanged and every counter at zero. -/
theorem frame : θ_run (defs (F := F)) (onTc (τ := τ) (main (F := F))) ⟨m, fun _ => 0, g⟩
    (fun r => (∀ c : Dev nD, Same m r c) ∧ r.2.sem = fun _ => 0) :=
  run m g _ fun r h => ⟨fun c => args_same m r h.1 c, h.2⟩

end Cert.Proof.KernelIdeal

end
-- ==== Proof.Ops.lean ====
/-
  The operations that the kernel composes again and again — the sum of blocks of eight rows, the packing of eight row sums into the
  rows of one tile, a head's covariance brought through the rotation — as functions, and what each is at an index over the extended reals.
-/
module

public import proofs.«01_k».proof.Proof.Gen.KernelIdeal.Skeleton
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.Tactic

section
variable {F : FTy → Type} [FloatOps F] [Named F]

/-- The 16 blocks of eight rows added up, in pairs. -/
def rows16 (x : FVec F S128x256 .f32) : FVec F S8x256 .f32 :=
  (addf (addf (addf (addf (extractStridedSlice S8x256 ![0, 0] x slices_S128x256_o0_0_S8x256) (extractStridedSlice S8x256 ![8, 0] x slices_S128x256_o8_0_S8x256)) (addf (extractStridedSlice S8x256 ![16, 0] x slices_S128x256_o16_0_S8x256) (extractStridedSlice S8x256 ![24, 0] x slices_S128x256_o24_0_S8x256))) (addf (addf (extractStridedSlice S8x256 ![32, 0] x slices_S128x256_o32_0_S8x256) (extractStridedSlice S8x256 ![40, 0] x slices_S128x256_o40_0_S8x256)) (addf (extractStridedSlice S8x256 ![48, 0] x slices_S128x256_o48_0_S8x256) (extractStridedSlice S8x256 ![56, 0] x slices_S128x256_o56_0_S8x256)))) (addf (addf (addf (extractStridedSlice S8x256 ![64, 0] x slices_S128x256_o64_0_S8x256) (extractStridedSlice S8x256 ![72, 0] x slices_S128x256_o72_0_S8x256)) (addf (extractStridedSlice S8x256 ![80, 0] x slices_S128x256_o80_0_S8x256) (extractStridedSlice S8x256 ![88, 0] x slices_S128x256_o88_0_S8x256))) (addf (addf (extractStridedSlice S8x256 ![96, 0] x slices_S128x256_o96_0_S8x256) (extractStridedSlice S8x256 ![104, 0] x slices_S128x256_o104_0_S8x256)) (addf (extractStridedSlice S8x256 ![112, 0] x slices_S128x256_o112_0_S8x256) (extractStridedSlice S8x256 ![120, 0] x slices_S128x256_o120_0_S8x256)))))

/-- The 32 blocks of eight rows added up, in pairs. -/
def rows32 (x : FVec F S256x128 .f32) : FVec F S8x128 .f32 :=
  (addf (addf (addf (addf (addf (extractStridedSlice S8x128 ![0, 0] x slices_S256x128_o0_0_S8x128) (extractStridedSlice S8x128 ![8, 0] x slices_S256x128_o8_0_S8x128)) (addf (extractStridedSlice S8x128 ![16, 0] x slices_S256x128_o16_0_S8x128) (extractStridedSlice S8x128 ![24, 0] x slices_S256x128_o24_0_S8x128))) (addf (addf (extractStridedSlice S8x128 ![32, 0] x slices_S256x128_o32_0_S8x128) (extractStridedSlice S8x128 ![40, 0] x slices_S256x128_o40_0_S8x128)) (addf (extractStridedSlice S8x128 ![48, 0] x slices_S256x128_o48_0_S8x128) (extractStridedSlice S8x128 ![56, 0] x slices_S256x128_o56_0_S8x128)))) (addf (addf (addf (extractStridedSlice S8x128 ![64, 0] x slices_S256x128_o64_0_S8x128) (extractStridedSlice S8x128 ![72, 0] x slices_S256x128_o72_0_S8x128)) (addf (extractStridedSlice S8x128 ![80, 0] x slices_S256x128_o80_0_S8x128) (extractStridedSlice S8x128 ![88, 0] x slices_S256x128_o88_0_S8x128))) (addf (addf (extractStridedSlice S8x128 ![96, 0] x slices_S256x128_o96_0_S8x128) (extractStridedSlice S8x128 ![104, 0] x slices_S256x128_o104_0_S8x128)) (addf (extractStridedSlice S8x128 ![112, 0] x slices_S256x128_o112_0_S8x128) (extractStridedSlice S8x128 ![120, 0] x slices_S256x128_o120_0_S8x128))))) (addf (addf (addf (addf (extractStridedSlice S8x128 ![128, 0] x slices_S256x128_o128_0_S8x128) (extractStridedSlice S8x128 ![136, 0] x slices_S256x128_o136_0_S8x128)) (addf (extractStridedSlice S8x128 ![144, 0] x slices_S256x128_o144_0_S8x128) (extractStridedSlice S8x128 ![152, 0] x slices_S256x128_o152_0_S8x128))) (addf (addf (extractStridedSlice S8x128 ![160, 0] x slices_S256x128_o160_0_S8x128) (extractStridedSlice S8x128 ![168, 0] x slices_S256x128_o168_0_S8x128)) (addf (extractStridedSlice S8x128 ![176, 0] x slices_S256x128_o176_0_S8x128) (extractStridedSlice S8x128 ![184, 0] x slices_S256x128_o184_0_S8x128)))) (addf (addf (addf (extractStridedSlice S8x128 ![192, 0] x slices_S256x128_o192_0_S8x128) (extractStridedSlice S8x128 ![200, 0] x slices_S256x128_o200_0_S8x128)) (addf (extractStridedSlice S8x128 ![208, 0] x slices_S256x128_o208_0_S8x128) (extractStridedSlice S8x128 ![216, 0] x slices_S256x128_o216_0_S8x128))) (addf (addf (extractStridedSlice S8x128 ![224, 0] x slices_S256x128_o224_0_S8x128) (extractStridedSlice S8x128 ![232, 0] x slices_S256x128_o232_0_S8x128)) (addf (extractStridedSlice S8x128 ![240, 0] x slices_S256x128_o240_0_S8x128) (extractStridedSlice S8x128 ![248, 0] x slices_S256x128_o248_0_S8x128))))))

/-- The 40 blocks of eight rows added up, in pairs. -/
def rows40 (x : FVec F S320x128 .f32) : FVec F S8x128 .f32 :=
  (addf (addf (addf (addf (addf (addf (extractStridedSlice S8x128 ![0, 0] x slices_S320x128_o0_0_S8x128) (extractStridedSlice S8x128 ![8, 0] x slices_S320x128_o8_0_S8x128)) (addf (extractStridedSlice S8x128 ![16, 0] x slices_S320x128_o16_0_S8x128) (extractStridedSlice S8x128 ![24, 0] x slices_S320x128_o24_0_S8x128))) (addf (addf (extractStridedSlice S8x128 ![32, 0] x slices_S320x128_o32_0_S8x128) (extractStridedSlice S8x128 ![40, 0] x slices_S320x128_o40_0_S8x128)) (addf (extractStridedSlice S8x128 ![48, 0] x slices_S320x128_o48_0_S8x128) (extractStridedSlice S8x128 ![56, 0] x slices_S320x128_o56_0_S8x128)))) (addf (addf (addf (extractStridedSlice S8x128 ![64, 0] x slices_S320x128_o64_0_S8x128) (extractStridedSlice S8x128 ![72, 0] x slices_S320x128_o72_0_S8x128)) (addf (extractStridedSlice S8x128 ![80, 0] x slices_S320x128_o80_0_S8x128) (extractStridedSlice S8x128 ![88, 0] x slices_S320x128_o88_0_S8x128))) (addf (addf (extractStridedSlice S8x128 ![96, 0] x slices_S320x128_o96_0_S8x128) (extractStridedSlice S8x128 ![104, 0] x slices_S320x128_o104_0_S8x128)) (addf (extractStridedSlice S8x128 ![112, 0] x slices_S320x128_o112_0_S8x128) (extractStridedSlice S8x128 ![120, 0] x slices_S320x128_o120_0_S8x128))))) (addf (addf (addf (addf (extractStridedSlice S8x128 ![128, 0] x slices_S320x128_o128_0_S8x128) (extractStridedSlice S8x128 ![136, 0] x slices_S320x128_o136_0_S8x128)) (addf (extractStridedSlice S8x128 ![144, 0] x slices_S320x128_o144_0_S8x128) (extractStridedSlice S8x128 ![152, 0] x slices_S320x128_o152_0_S8x128))) (addf (addf (extractStridedSlice S8x128 ![160, 0] x slices_S320x128_o160_0_S8x128) (extractStridedSlice S8x128 ![168, 0] x slices_S320x128_o168_0_S8x128)) (addf (extractStridedSlice S8x128 ![176, 0] x slices_S320x128_o176_0_S8x128) (extractStridedSlice S8x128 ![184, 0] x slices_S320x128_o184_0_S8x128)))) (addf (addf (addf (extractStridedSlice S8x128 ![192, 0] x slices_S320x128_o192_0_S8x128) (extractStridedSlice S8x128 ![200, 0] x slices_S320x128_o200_0_S8x128)) (addf (extractStridedSlice S8x128 ![208, 0] x slices_S320x128_o208_0_S8x128) (extractStridedSlice S8x128 ![216, 0] x slices_S320x128_o216_0_S8x128))) (addf (addf (extractStridedSlice S8x128 ![224, 0] x slices_S320x128_o224_0_S8x128) (extractStridedSlice S8x128 ![232, 0] x slices_S320x128_o232_0_S8x128)) (addf (extractStridedSlice S8x128 ![240, 0] x slices_S320x128_o240_0_S8x128) (extractStridedSlice S8x128 ![248, 0] x slices_S320x128_o248_0_S8x128)))))) (addf (addf (addf (extractStridedSlice S8x128 ![256, 0] x slices_S320x128_o256_0_S8x128) (extractStridedSlice S8x128 ![264, 0] x slices_S320x128_o264_0_S8x128)) (addf (extractStridedSlice S8x128 ![272, 0] x slices_S320x128_o272_0_S8x128) (extractStridedSlice S8x128 ![280, 0] x slices_S320x128_o280_0_S8x128))) (addf (addf (extractStridedSlice S8x128 ![288, 0] x slices_S320x128_o288_0_S8x128) (extractStridedSlice S8x128 ![296, 0] x slices_S320x128_o296_0_S8x128)) (addf (extractStridedSlice S8x128 ![304, 0] x slices_S320x128_o304_0_S8x128) (extractStridedSlice S8x128 ![312, 0] x slices_S320x128_o312_0_S8x128)))))

/-- Where the row number has bit `m` clear. -/
def bitClear (m : BitVec 32) : IVec S8x256 1 :=
  cmpi .eq (andi (iota .tc S8x256 32 [0] iota_S8x256_d0_w32) (broadcast S8x256 m)) (broadcast S8x256 0#32)

/-- Two tiles folded into one: the first in the rows with the bit clear, the second in the others, each with its partner row added. -/
def fold4 (a b : FVec F S8x256 .f32) : FVec F S8x256 .f32 :=
  addf (select (bitClear 4#32) a b) (dynamicRotate 0 4#32 none (select (bitClear 4#32) b a) rotates_S8x256_d0)

/-- The same for the two low bits, where the partner row lies above or below. -/
def fold2 (m u : BitVec 32) (a b : FVec F S8x256 .f32) : FVec F S8x256 .f32 :=
  addf (select (bitClear m) a b) (select (bitClear m) (dynamicRotate 0 u none (select (bitClear m) b a) rotates_S8x256_d0)
    (dynamicRotate 0 m none (select (bitClear m) b a) rotates_S8x256_d0))

/-- Eight tiles to one: row `r` of the result sums the rows of tile `r`. -/
def pack8 (a b c d e f g h : FVec F S8x256 .f32) : FVec F S8x256 .f32 :=
  fold2 1#32 7#32 (fold2 2#32 6#32 (fold4 a e) (fold4 c g)) (fold2 2#32 6#32 (fold4 b f) (fold4 d h))

/-- A head's window out of the words that hold two heads side by side. -/
def pickHead (s : BitVec 1) (x : Vec F S1x320x2x128 .bf16) : FVec F S320x128 .f32 :=
  extf .f32 (Scalar.select s
    (shapeCast S320x128 (shapeCast S1x320x128 (rowsOfParity 1 S1x320x1x128 x bitcasts_S1x320x2x128_w16_S1x320x1x128_w32) shapeCasts_S1x320x1x128_S1x320x128) shapeCasts_S1x320x128_S320x128)
    (shapeCast S320x128 (shapeCast S1x320x128 (rowsOfParity 0 S1x320x1x128 x bitcasts_S1x320x2x128_w16_S1x320x1x128_w32) shapeCasts_S1x320x1x128_S1x320x128) shapeCasts_S1x320x128_S320x128)) bitsLt_bf16_f32

/-- A head's second moments, beside its column sums. -/
def moments (q : FVec F S320x128 .f32) : FVec F S128x256 .f32 :=
  matmul dot_S320x128_S320x256_S128x256_0_0_1_1_n_n none (truncf .bf16 q bitsLt_bf16_f32)
    (concatenate S320x256 1 [⟨S320x128, truncf .bf16 q bitsLt_bf16_f32⟩, ⟨S320x128, broadcast S320x128 (Scalar.ofBits .bf16 0x3F80#16 : F .bf16)⟩] concatenates_S320x128_S320x128_S320x256_d1)
    (constant S128x256 .f32 0x00000000#32)

/-- A head's mean, a row. -/
def meanRow (q : FVec F S320x128 .f32) : FVec F S1x128 .f32 :=
  mulf (shapeCast S1x128 (multiReduction .add [0] S128 (rows40 q) 0x00000000#32 reduces_S8x128_S128 (.inl rfl) rfl) shapeCasts_S128_S1x128)
    (broadcast S1x128 (Named.named κ "inv_n" 0x3B4CCCCD#32 : F .f32))

/-- A head's covariance. -/
def covar (q : FVec F S320x128 .f32) : FVec F S128x128 .f32 :=
  subf (mulf (extractStridedSlice S128x128 ![0, 0] (moments q) slices_S128x256_o0_0_S128x128) (broadcast S128x128 (Named.named κ "inv_n" 0x3B4CCCCD#32 : F .f32)))
    (mulf (mulf (extractStridedSlice S128x128 ![0, 128] (moments q) slices_S128x256_o0_128_S128x128) (broadcast S128x128 (Named.named κ "inv_n" 0x3B4CCCCD#32 : F .f32)))
      (broadcastTo S128x128 (meanRow q) broadcasts_S1x128_S128x128))

/-- A square matrix with its rows turned by half. -/
def turnRows (v8 v10 x : FVec F S128x128 .f32) : FVec F S128x128 .f32 :=
  addf (mulf v8 x) (mulf v10 (concatenate S128x128 0 [⟨S64x128, extractStridedSlice S64x128 ![64, 0] x slices_S128x128_o64_0_S64x128⟩,
    ⟨S64x128, extractStridedSlice S64x128 ![0, 0] x slices_S128x128_o0_0_S64x128⟩] concatenates_S64x128_S64x128_S128x128_d0))

/-- And its columns. -/
def turnCols (v4 v6 : FVec F S1x128 .f32) (x : FVec F S128x128 .f32) : FVec F S128x128 .f32 :=
  addf (mulf (broadcastTo S128x128 v4 broadcasts_S1x128_S128x128) x)
    (mulf (broadcastTo S128x128 v6 broadcasts_S1x128_S128x128) (dynamicRotate 1 64#32 none x rotates_S128x128_d1))

/-- The quadratic form's matrix of a head. -/
def quadOf (v4 v6 : FVec F S1x128 .f32) (v8 v10 : FVec F S128x128 .f32) (q : FVec F S320x128 .f32) : FVec F S128x128 .bf16 :=
  shapeCast S128x128 (truncf .bf16 (turnCols v4 v6 (turnRows v8 v10 (covar q))) bitsLt_bf16_f32) shapeCasts_S128x128_S128x128

/-- The linear form's vector of a head. -/
def linOf (v4 v6 : FVec F S1x128 .f32) (q : FVec F S320x128 .f32) : FVec F S1x128 .f32 :=
  shapeCast S1x128 (addf (mulf v4 (meanRow q)) (mulf v6 (dynamicRotate 1 64#32 none (meanRow q) rotates_S1x128_d1))) shapeCasts_S1x128_S1x128

end

theorem rows16_apply (x : FVec Ideal S128x256 .f32) (r : Fin 8) (l : Fin 256) :
    rows16 x (ix2 r l) = ∑ a : Fin 16, x (ix2 ⟨8 * a.val + r.val, by omega⟩ l) := by
  simp only [Fin.sum_univ_succ, Fin.sum_univ_zero, Fin.val_zero, Fin.val_succ, Nat.mul_zero, Nat.zero_add, Nat.reduceAdd, Nat.reduceMul, add_zero]
  pointwise [rows16]
  ac_rfl

theorem rows32_apply (x : FVec Ideal S256x128 .f32) (r : Fin 8) (l : Fin 128) :
    rows32 x (ix2 r l) = ∑ a : Fin 32, x (ix2 ⟨8 * a.val + r.val, by omega⟩ l) := by
  simp only [Fin.sum_univ_succ, Fin.sum_univ_zero, Fin.val_zero, Fin.val_succ, Nat.mul_zero, Nat.zero_add, Nat.reduceAdd, Nat.reduceMul, add_zero]
  pointwise [rows32]
  ac_rfl

theorem rows40_apply (x : FVec Ideal S320x128 .f32) (r : Fin 8) (l : Fin 128) :
    rows40 x (ix2 r l) = ∑ a : Fin 40, x (ix2 ⟨8 * a.val + r.val, by omega⟩ l) := by
  simp only [Fin.sum_univ_succ, Fin.sum_univ_zero, Fin.val_zero, Fin.val_succ, Nat.mul_zero, Nat.zero_add, Nat.reduceAdd, Nat.reduceMul, add_zero]
  pointwise [rows40]
  ac_rfl

/-- A sum over rows cut into rows of eight. -/
theorem sum_rows8 (n : ℕ) (f : Fin (8 * n) → EReal) :
    ∑ r : Fin 8, ∑ a : Fin n, f ⟨8 * a.val + r.val, by omega⟩ = ∑ k, f k := by
  rw [Finset.sum_comm, ← Finset.sum_product', Finset.univ_product_univ]
  refine Fintype.sum_equiv ⟨fun p => ⟨8 * p.1.val + p.2.val, by omega⟩, fun k => (⟨k.val / 8, by omega⟩, ⟨k.val % 8, by omega⟩), fun p => ?_, fun k => ?_⟩ _ _ fun p => rfl
  · ext <;> simp <;> omega
  · ext; simp; omega

theorem fold4_apply (a b : FVec Ideal S8x256 .f32) (r : Fin 8) (l : Fin 256) :
    fold4 a b (ix2 r l) = if r.val < 4 then a (ix2 r l) + a (ix2 ⟨(r.val + 4) % 8, by omega⟩ l) else b (ix2 r l) + b (ix2 ⟨(r.val + 4) % 8, by omega⟩ l) := by
  pointwise [fold4, bitClear]
  fin_cases r <;> rfl

theorem fold2_2_apply (a b : FVec Ideal S8x256 .f32) (r : Fin 8) (l : Fin 256) :
    fold2 2#32 6#32 a b (ix2 r l) = if r.val / 2 % 2 = 0 then a (ix2 r l) + a (ix2 ⟨(r.val + 2) % 8, by omega⟩ l) else b (ix2 r l) + b (ix2 ⟨(r.val + 6) % 8, by omega⟩ l) := by
  pointwise [fold2, bitClear]
  fin_cases r <;> rfl

theorem fold2_1_apply (a b : FVec Ideal S8x256 .f32) (r : Fin 8) (l : Fin 256) :
    fold2 1#32 7#32 a b (ix2 r l) = if r.val % 2 = 0 then a (ix2 r l) + a (ix2 ⟨(r.val + 1) % 8, by omega⟩ l) else b (ix2 r l) + b (ix2 ⟨(r.val + 7) % 8, by omega⟩ l) := by
  pointwise [fold2, bitClear]
  fin_cases r <;> rfl

/-- Row `r` of the packed tile is the sum of tile `r`'s rows. -/
theorem pack8_apply (x : Fin 8 → FVec Ideal S8x256 .f32) (r : Fin 8) (l : Fin 256) :
    pack8 (x 0) (x 1) (x 2) (x 3) (x 4) (x 5) (x 6) (x 7) (ix2 r l) = ∑ s : Fin 8, x r (ix2 s l) := by
  unfold pack8
  simp only [fold2_1_apply, fold2_2_apply, fold4_apply]
  fin_cases r <;> simp [Fin.sum_univ_eight] <;> abel

theorem rows40_sum (x : FVec Ideal S320x128 .f32) (l : Fin 128) : ∑ r : Fin 8, rows40 x (ix2 r l) = ∑ n : Fin 320, x (ix2 n l) := by
  simp only [rows40_apply]
  exact sum_rows8 40 fun n => x (ix2 n l)

theorem rows32_sum (x : FVec Ideal S256x128 .f32) (l : Fin 128) : ∑ r : Fin 8, rows32 x (ix2 r l) = ∑ n : Fin 256, x (ix2 n l) := by
  simp only [rows32_apply]
  exact sum_rows8 32 fun n => x (ix2 n l)

theorem rows16_sum (x : FVec Ideal S128x256 .f32) (l : Fin 256) : ∑ r : Fin 8, rows16 x (ix2 r l) = ∑ n : Fin 128, x (ix2 n l) := by
  simp only [rows16_apply]
  exact sum_rows8 16 fun n => x (ix2 n l)

/-- The reciprocal of the window's length. -/
def invN : EReal := ((1 / 320 : ℝ) : EReal)
/-- The reciprocal of the root of the head's width. -/
def linS : EReal := (((Real.sqrt 128)⁻¹ : ℝ) : EReal)

theorem named_invN : (Named.named κ "inv_n" 0x3B4CCCCD#32 : Ideal .f32) = invN := rfl
theorem named_linS : (Named.named κ "lin_scale" 0x3DB504F3#32 : Ideal .f32) = linS := rfl

/-- The lane half a turn away. -/
def sw (d : Fin 128) : Fin 128 := ⟨(d.val + 64) % 128, by omega⟩

/-- A head's mean. -/
def mean (q : Fin 320 → Fin 128 → EReal) (e : Fin 128) : EReal := (∑ n, q n e) * invN
/-- A head's covariance as the kernel takes it. -/
def cov (q : Fin 320 → Fin 128 → EReal) (d e : Fin 128) : EReal :=
  (∑ n, q n d * q n e) * invN - ((∑ n, q n d) * invN) * mean q e
/-- The covariance's rows rotated. -/
def rowsT (C S : Fin 128 → EReal) (q : Fin 320 → Fin 128 → EReal) (d e : Fin 128) : EReal :=
  C d * cov q d e + S d * cov q (sw d) e
/-- The quadratic form. -/
def quadM (C S : Fin 128 → EReal) (q : Fin 320 → Fin 128 → EReal) (d e : Fin 128) : EReal :=
  C e * rowsT C S q d e + S e * rowsT C S q d (sw e)
/-- The linear form. -/
def linM (C S : Fin 128 → EReal) (q : Fin 320 → Fin 128 → EReal) (d : Fin 128) : EReal :=
  C d * mean q d + S d * mean q (sw d)

theorem pickHead_apply (s : BitVec 1) (x : Vec Ideal S1x320x2x128 .bf16) (n : Fin 320) (d : Fin 128) :
    pickHead s x (ix2 n d) = x (ix4 0 n (if s = 1#1 then 1 else 0) d) := by
  pointwise [pickHead]
  rcases BitVec.eq_zero_or_eq_one s with rfl | rfl <;> rfl

theorem moments_lo (q : FVec Ideal S320x128 .f32) (d e : Fin 128) :
    moments q (ix2 d ⟨e.val, by omega⟩) = ∑ n : Fin 320, q (ix2 n d) * q (ix2 n e) := by
  pointwise [moments]

theorem moments_hi (q : FVec Ideal S320x128 .f32) (d e : Fin 128) :
    moments q (ix2 d ⟨128 + e.val, by omega⟩) = ∑ n : Fin 320, q (ix2 n d) := by
  pointwise [moments]

theorem meanRow_apply (q : FVec Ideal S320x128 .f32) (e : Fin 128) :
    meanRow q (ix2 0 e) = mean (fun n d => q (ix2 n d)) e := by
  pointwise [meanRow]
  rw [rows40_sum]; rfl

theorem covar_apply (q : FVec Ideal S320x128 .f32) (d e : Fin 128) :
    covar q (ix2 d e) = cov (fun n d => q (ix2 n d)) d e := by
  pointwise [covar]
  rw [moments_lo, moments_hi, meanRow_apply, named_invN]; rfl

theorem turnRows_apply (C S : Fin 128 → EReal) (v8 v10 x : FVec Ideal S128x128 .f32) (h8 : ∀ d e, v8 (ix2 d e) = C d) (h10 : ∀ d e, v10 (ix2 d e) = S d) (d e : Fin 128) :
    turnRows v8 v10 x (ix2 d e) = C d * x (ix2 d e) + S d * x (ix2 (sw d) e) := by
  pointwise [turnRows]
  rw [h8, h10]
  have e1 : sw d = if h : d.val < 64 then ⟨64 + d.val, by omega⟩ else ⟨d.val - 64, by omega⟩ := by
    unfold sw; split <;> (ext; simp; omega)
  rw [e1]; split <;> rfl

theorem turnCols_apply (C S : Fin 128 → EReal) (v4 v6 : FVec Ideal S1x128 .f32) (x : FVec Ideal S128x128 .f32) (h4 : ∀ e, v4 (ix2 0 e) = C e) (h6 : ∀ e, v6 (ix2 0 e) = S e) (d e : Fin 128) :
    turnCols v4 v6 x (ix2 d e) = C e * x (ix2 d e) + S e * x (ix2 d (sw e)) := by
  pointwise [turnCols]
  rw [h4, h6]
  have e1 : sw e = ⟨(e.val + 128 - 64) % 128, by omega⟩ := by unfold sw; ext; simp
  rw [e1]

theorem quadOf_apply (C S : Fin 128 → EReal) (v4 v6 : FVec Ideal S1x128 .f32) (v8 v10 : FVec Ideal S128x128 .f32) (q : FVec Ideal S320x128 .f32)
    (h4 : ∀ e, v4 (ix2 0 e) = C e) (h6 : ∀ e, v6 (ix2 0 e) = S e) (h8 : ∀ d e, v8 (ix2 d e) = C d) (h10 : ∀ d e, v10 (ix2 d e) = S d) (d e : Fin 128) :
    quadOf v4 v6 v8 v10 q (ix2 d e) = quadM C S (fun n d => q (ix2 n d)) d e := by
  pointwise [quadOf]
  rw [turnCols_apply C S _ _ _ h4 h6, turnRows_apply C S _ _ _ h8 h10, turnRows_apply C S _ _ _ h8 h10]
  simp only [covar_apply]; rfl

theorem linOf_apply (C S : Fin 128 → EReal) (v4 v6 : FVec Ideal S1x128 .f32) (q : FVec Ideal S320x128 .f32)
    (h4 : ∀ e, v4 (ix2 0 e) = C e) (h6 : ∀ e, v6 (ix2 0 e) = S e) (d : Fin 128) :
    linOf v4 v6 q (ix2 0 d) = linM C S (fun n d => q (ix2 n d)) d := by
  pointwise [linOf]
  rw [h4, h6]
  have e1 : sw d = ⟨(d.val + 128 - 64) % 128, by omega⟩ := by unfold sw; ext; simp
  rw [← e1, meanRow_apply, meanRow_apply]; rfl

end Cert.Proof.KernelIdeal

end
-- ==== Proof.Tile.lean ====
/-
  One tile of the loop over the tokens: what it leaves in the scratch of the logits, as a function of the matrices, the rotated means, the
  transposed codes and the scales.
-/
module

public import proofs.«01_k».proof.Proof.Ops
public import proofs.«01_k».proof.Proof.Gen.KernelIdeal.Loops
public import Idealize.ShloMosaic.Lib.Pipeline.ValueKit.Tiles
public import Idealize.ShloMosaic.Lib.Writes

@[expose] public section

noncomputable section

namespace Cert.Proof.KernelIdeal

open Cert.KernelIdeal Cert.KernelIdeal.Gen
open Idealize.ShloMosaic Idealize.ShloMosaic.Tactic

set_option maxRecDepth 65536

/-- The scale of the quadratic form. -/
def quadS : EReal := (Scalar.ofBits .f32 0x3B800000#32 : Ideal .f32)

/-- A logit of row `r` at token `t`. -/
def zOf (W : Fin 8 → Fin 128 → Fin 128 → EReal) (mu : Fin 8 → Fin 128 → EReal) (K : Fin 128 → Fin 2048 → EReal) (ks : Fin 2048 → EReal) (r : Fin 8) (t : Fin 2048) : EReal :=
  ks t * (∑ d, mu r d * K d t) * linS + ks t * ks t * ((∑ d, (∑ e, W r d e * K e t) * K d t) * quadS)

section
variable {F : FTy → Type} [FloatOps F] [Named F]
/-- The quadratic form of one head on a tile, eight partial sums a token. -/
def quadTile (kt : FVec F S128x256 .bf16) (w : Vec F S128x128 .bf16) : FVec F S8x256 .f32 :=
  rows16 (mulf (matmul dot_S128x128_S128x256_S128x256_1_0_0_1_n_n none w kt (constant S128x256 .f32 0x00000000#32)) (extf .f32 kt bitsLt_bf16_f32))
/-- A group's quadratic forms on a tile. -/
def quadRows (kt : FVec F S128x256 .bf16) (w : Fin 7 → Vec F S128x128 .bf16) : FVec F S8x256 .f32 :=
  pack8 (quadTile kt (w 0)) (quadTile kt (w 1)) (quadTile kt (w 2)) (quadTile kt (w 3)) (quadTile kt (w 4)) (quadTile kt (w 5)) (quadTile kt (w 6))
    (broadcast S8x256 (Scalar.ofBits .f32 0x00000000#32 : F .f32))
/-- A group's logits on a tile. -/
def zTile (arg1 : BitVec 32) (kt : FVec F S128x256 .bf16) (ks : Vec F S8x256 .f32) (mu : Vec F S16x128 .f32) (w : Fin 7 → Vec F S128x128 .bf16) : FVec F S8x256 .f32 :=
  k0_pay567 (mulf (mulf (broadcastTo S8x256 (k0_pay209 arg1 ks) broadcasts_S1x256_S8x256)
      (extractStridedSlice S8x256 ![0, 0] (matmul dot_S16x128_S128x256_S16x256_1_0_0_1_n_n none (k0_pay566 mu) kt (constant S16x256 .f32 0x00000000#32)) slices_S16x256_o0_0_S8x256))
      (broadcast S8x256 (Named.named κ "lin_scale" 0x3DB504F3#32 : F .f32)))
    (mulf (k0_pay209 arg1 ks) (k0_pay209 arg1 ks)) (mulf (quadRows kt w) (broadcast S8x256 (Scalar.ofBits .f32 0x3B800000#32 : F .f32)))
end

theorem quadTile_sum (kt : FVec Ideal S128x256 .bf16) (w : Vec Ideal S128x128 .bf16) (l : Fin 256) :
    ∑ s : Fin 8, quadTile kt w (ix2 s l) = ∑ d : Fin 128, (∑ e : Fin 128, w (ix2 d e) * kt (ix2 e l)) * kt (ix2 d l) := by
  unfold quadTile
  rw [rows16_sum]
  pointwise

theorem quadRows_apply (kt : FVec Ideal S128x256 .bf16) (w : Fin 7 → Vec Ideal S128x128 .bf16) (W : Fin 8 → Fin 128 → Fin 128 → EReal)
    (hW : ∀ g : Fin 7, ∀ d e, w g (ix2 d e) = W g.castSucc d e) (h7 : ∀ d e, W 7 d e = 0) (r : Fin 8) (l : Fin 256) :
    quadRows kt w (ix2 r l) = ∑ d : Fin 128, (∑ e : Fin 128, W r d e * kt (ix2 e l)) * kt (ix2 d l) := by
  unfold quadRows
  refine (pack8_apply ![quadTile kt (w 0), quadTile kt (w 1), quadTile kt (w 2), quadTile kt (w 3), quadTile kt (w 4), quadTile kt (w 5), quadTile kt (w 6),
    (broadcast S8x256 (Scalar.ofBits .f32 0x00000000#32 : Ideal .f32))] r l).trans ?_
  fin_cases r
  case «7» =>
    have e : ∀ d e, W ((fun i => i) ⟨7, by omega⟩) d e = 0 := h7
    simp only [e, zero_mul, Finset.sum_const_zero]
    refine Finset.sum_eq_zero fun s _ => ?_
    show (broadcast S8x256 (Scalar.ofBits .f32 0x00000000#32 : Ideal .f32)) (ix2 s l) = 0
    pointwise
  all_goals
    refine (quadTile_sum kt _ l).trans ?_
    simp only [hW]
    rfl

/-- A sum that keeps one row. -/
theorem select_row (f : Fin 8 → EReal) (h : Fin 8) :
    (∑ x : Fin 8, Scalar.select (IntOp.cmpi CmpIPredicate.eq (BitVec.ofNat 32 ↑x) (BitVec.ofNat 32 ↑h)) (f x) 0) = f h := by
  rw [Finset.sum_eq_single h]
  · rw [show IntOp.cmpi CmpIPredicate.eq (BitVec.ofNat 32 ↑h) (BitVec.ofNat 32 ↑h) = 1#1 by revert h; decide]; rfl
  · intro x _ hx
    rw [show IntOp.cmpi CmpIPredicate.eq (BitVec.ofNat 32 ↑x) (BitVec.ofNat 32 ↑h) = 0#1 by revert x h; decide]; rfl
  · simp

theorem zTile_apply (h : Fin 8) (kt : FVec Ideal S128x256 .bf16) (ks : Vec Ideal S8x256 .f32) (mu : Vec Ideal S16x128 .f32) (w : Fin 7 → Vec Ideal S128x128 .bf16) (W : Fin 8 → Fin 128 → Fin 128 → EReal)
    (hW : ∀ g : Fin 7, ∀ d e, w g (ix2 d e) = W g.castSucc d e) (h7 : ∀ d e, W 7 d e = 0) (r : Fin 8) (l : Fin 256) :
    zTile (BitVec.ofNat 32 h.val) kt ks mu w (ix2 r l)
      = ks (ix2 h l) * (∑ d : Fin 128, mu (ix2 ⟨r.val, by omega⟩ d) * kt (ix2 d l)) * linS
        + ks (ix2 h l) * ks (ix2 h l) * ((∑ d : Fin 128, (∑ e : Fin 128, W r d e * kt (ix2 e l)) * kt (ix2 d l)) * quadS) := by
  pointwise [zTile, k0_pay567, k0_pay209, k0_pay566]
  rw [quadRows_apply kt w W hW h7]
  simp only [select_row (fun x => ks (ix2 x l)) h]
  rfl

theorem trip_quad (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole)  (i : grid0.Coords) (X12 : BufTy.Contents (Elt Ideal) arg12.view.ty) (X16 : BufTy.Contents (Elt Ideal) arg16.view.ty) (k : Fin k0_t2_loop.trips) :
    trip_k0_t2.sl.r_2 (F := Ideal) i arg12 arg16 X12 X16 k
      = mulf (quadRows (k0_pay168 (View.readAt (Elt Ideal) arg12.view (Rect.unit (s := S8x128x2048) (k0_off14 i k) S1x128x256.size (k0_off14_inb i k)).toLoadRect X12)) ![(View.readAt (Elt Ideal) arg16.view (Rect.unit (s := S896x128) ![0, 0] S128x128.size inb_S896x128_S128x128_0_0).toLoadRect X16), (View.readAt (Elt Ideal) arg16.view (Rect.unit (s := S896x128) ![128, 0] S128x128.size inb_S896x128_S128x128_128_0).toLoadRect X16), (View.readAt (Elt Ideal) arg16.view (Rect.unit (s := S896x128) ![256, 0] S128x128.size inb_S896x128_S128x128_256_0).toLoadRect X16), (View.readAt (Elt Ideal) arg16.view (Rect.unit (s := S896x128) ![384, 0] S128x128.size inb_S896x128_S128x128_384_0).toLoadRect X16), (View.readAt (Elt Ideal) arg16.view (Rect.unit (s := S896x128) ![512, 0] S128x128.size inb_S896x128_S128x128_512_0).toLoadRect X16), (View.readAt (Elt Ideal) arg16.view (Rect.unit (s := S896x128) ![640, 0] S128x128.size inb_S896x128_S128x128_640_0).toLoadRect X16), (View.readAt (Elt Ideal) arg16.view (Rect.unit (s := S896x128) ![768, 0] S128x128.size inb_S896x128_S128x128_768_0).toLoadRect X16)]) (broadcast S8x256 (Scalar.ofBits .f32 0x3B800000#32 : Ideal .f32)) := rfl

set_option maxHeartbeats 4000000 in
/-- A trip's two stores. -/
theorem trip_eq (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole)  (arg1 : BitVec 32) (v4 v6 : FVec Ideal S1x128 .f32) (v8 v10 v823 v826 : FVec Ideal S128x128 .f32) (v901 v902 v903 : FVec Ideal S8x128 .f32) (v940 : Vec Ideal S16x128 .f32)
    (X12 : BufTy.Contents (Elt Ideal) arg12.view.ty) (X14 : BufTy.Contents (Elt Ideal) arg14.view.ty) (X16 : BufTy.Contents (Elt Ideal) arg16.view.ty) (k : Fin k0_t2_loop.trips) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v10 v823 v826 v901 v902 v903 v940 X12 X14 X16 k
      = [⟨Rect.unit (s := S16x8x8x128) (k0_off16 i k 1#32) S1x1x8x128.size (k0_off16_inb i k 1), shapeCast S1x1x8x128 (extractStridedSlice S8x128 ![0, 128] (zTile arg1 (k0_pay168 (View.readAt (Elt Ideal) arg12.view (Rect.unit (s := S8x128x2048) (k0_off14 i k) S1x128x256.size (k0_off14_inb i k)).toLoadRect X12)) (View.readAt (Elt Ideal) arg14.view (Rect.unit (s := S8x2048) (k0_off15 k) S8x256.size (k0_off15_inb k)).toLoadRect X14) v940 ![(View.readAt (Elt Ideal) arg16.view (Rect.unit (s := S896x128) ![0, 0] S128x128.size inb_S896x128_S128x128_0_0).toLoadRect X16), (View.readAt (Elt Ideal) arg16.view (Rect.unit (s := S896x128) ![128, 0] S128x128.size inb_S896x128_S128x128_128_0).toLoadRect X16), (View.readAt (Elt Ideal) arg16.view (Rect.unit (s := S896x128) ![256, 0] S128x128.size inb_S896x128_S128x128_256_0).toLoadRect X16), (View.readAt (Elt Ideal) arg16.view (Rect.unit (s := S896x128) ![384, 0] S128x128.size inb_S896x128_S128x128_384_0).toLoadRect X16), (View.readAt (Elt Ideal) arg16.view (Rect.unit (s := S896x128) ![512, 0] S128x128.size inb_S896x128_S128x128_512_0).toLoadRect X16), (View.readAt (Elt Ideal) arg16.view (Rect.unit (s := S896x128) ![640, 0] S128x128.size inb_S896x128_S128x128_640_0).toLoadRect X16), (View.readAt (Elt Ideal) arg16.view (Rect.unit (s := S896x128) ![768, 0] S128x128.size inb_S896x128_S128x128_768_0).toLoadRect X16)]) slices_S8x256_o0_128_S8x128) shapeCasts_S8x128_S1x1x8x128⟩,
        ⟨Rect.unit (s := S16x8x8x128) (k0_off16 i k 0#32) S1x1x8x128.size (k0_off16_inb i k 0), shapeCast S1x1x8x128 (extractStridedSlice S8x128 ![0, 0] (zTile arg1 (k0_pay168 (View.readAt (Elt Ideal) arg12.view (Rect.unit (s := S8x128x2048) (k0_off14 i k) S1x128x256.size (k0_off14_inb i k)).toLoadRect X12)) (View.readAt (Elt Ideal) arg14.view (Rect.unit (s := S8x2048) (k0_off15 k) S8x256.size (k0_off15_inb k)).toLoadRect X14) v940 ![(View.readAt (Elt Ideal) arg16.view (Rect.unit (s := S896x128) ![0, 0] S128x128.size inb_S896x128_S128x128_0_0).toLoadRect X16), (View.readAt (Elt Ideal) arg16.view (Rect.unit (s := S896x128) ![128, 0] S128x128.size inb_S896x128_S128x128_128_0).toLoadRect X16), (View.readAt (Elt Ideal) arg16.view (Rect.unit (s := S896x128) ![256, 0] S128x128.size inb_S896x128_S128x128_256_0).toLoadRect X16), (View.readAt (Elt Ideal) arg16.view (Rect.unit (s := S896x128) ![384, 0] S128x128.size inb_S896x128_S128x128_384_0).toLoadRect X16), (View.readAt (Elt Ideal) arg16.view (Rect.unit (s := S896x128) ![512, 0] S128x128.size inb_S896x128_S128x128_512_0).toLoadRect X16), (View.readAt (Elt Ideal) arg16.view (Rect.unit (s := S896x128) ![640, 0] S128x128.size inb_S896x128_S128x128_640_0).toLoadRect X16), (View.readAt (Elt Ideal) arg16.view (Rect.unit (s := S896x128) ![768, 0] S128x128.size inb_S896x128_S128x128_768_0).toLoadRect X16)]) slices_S8x256_o0_0_S8x128) shapeCasts_S8x128_S1x1x8x128⟩] := by
  unfold tripL_k0_t2 trip_k0_t2
  rfl

theorem off14_eq (i : grid0.Coords) (k : Fin k0_t2_loop.trips) : k0_off14 i k = ![(i 1).val, 0, 256 * k.val] := by
  unfold k0_off14
  generalize i 1 = h
  revert h k
  decide +kernel
theorem off15_eq (k : Fin k0_t2_loop.trips) : k0_off15 k = ![0, 256 * k.val] := by
  revert k
  decide +kernel
theorem off16_eq0 (i : grid0.Coords) (k : Fin k0_t2_loop.trips) : k0_off16 i k 0#32 = ![2 * k.val, (i 1).val, 0, 0] := by
  unfold k0_off16
  generalize i 1 = h
  revert h k
  decide +kernel
theorem off16_eq1 (i : grid0.Coords) (k : Fin k0_t2_loop.trips) : k0_off16 i k 1#32 = ![2 * k.val + 1, (i 1).val, 0, 0] := by
  unfold k0_off16
  generalize i 1 = h
  revert h k
  decide +kernel

/-- The group index of a point. -/
abbrev kv (i : grid0.Coords) : Fin 8 := ⟨(i 1).val, (i 1).isLt⟩

/-- The token of lane `l` in the lane tile `j`. -/
abbrev tok (j : Fin 16) (l : Fin 128) : Fin 2048 := ⟨128 * j.val + l.val, by omega⟩

theorem trips_le (k : Fin k0_t2_loop.trips) : k.val < 8 := k.isLt

theorem emb16 {off : Fin 4 → Nat} (j : Fin 16) (h : Fin 8) (hoff : off = ![j.val, h.val, 0, 0]) (inb : ∀ a, off a + S1x1x8x128.size a ≤ S16x8x8x128.size a)
    (x : (Rect.unit (s := S16x8x8x128) off S1x1x8x128.size inb).shape.Idx) :
    (Rect.unit (s := S16x8x8x128) off S1x1x8x128.size inb).emb x = ix4 j h (x 2) (x 3) := by
  subst hoff
  refine Rect.emb_eq_of_coords _ _ _ fun a => ?_
  fin_cases a
  · have : (x 0).val < 1 := (x 0).isLt
    show j.val = j.val + 1 * (x 0).val
    omega
  · have : (x 1).val < 1 := (x 1).isLt
    show h.val = h.val + 1 * (x 1).val
    omega
  · show (x 2).val = 0 + 1 * (x 2).val
    omega
  · show (x 3).val = 0 + 1 * (x 3).val
    omega

theorem mem16 {off : Fin 4 → Nat} (j : Fin 16) (h : Fin 8) (hoff : off = ![j.val, h.val, 0, 0]) (inb : ∀ a, off a + S1x1x8x128.size a ≤ S16x8x8x128.size a) (r : Fin 8) (l : Fin 128) :
    (ix4 j h r l : S16x8x8x128.Idx) ∈ (Rect.unit (s := S16x8x8x128) off S1x1x8x128.size inb).set := by
  subst hoff
  refine (LoadRect.mem_set _).mpr fun a => ?_
  fin_cases a
  · exact ⟨0, Nat.one_pos, by show j.val = j.val + 1 * 0; omega⟩
  · exact ⟨0, Nat.one_pos, by show h.val = h.val + 1 * 0; omega⟩
  · exact ⟨r.val, r.isLt, by show r.val = 0 + 1 * r.val; omega⟩
  · exact ⟨l.val, l.isLt, by show l.val = 0 + 1 * l.val; omega⟩

theorem half_lo (z : FVec Ideal S8x256 .f32) (x : S1x1x8x128.Idx) :
    shapeCast S1x1x8x128 (extractStridedSlice S8x128 ![0, 0] z slices_S8x256_o0_0_S8x128) shapeCasts_S8x128_S1x1x8x128 x = z (ix2 (x 2) ⟨(x 3).val, lt_trans (x 3).isLt (by decide)⟩) := by
  idx_vars x
  pointwise
theorem half_hi (z : FVec Ideal S8x256 .f32) (x : S1x1x8x128.Idx) :
    shapeCast S1x1x8x128 (extractStridedSlice S8x128 ![0, 128] z slices_S8x256_o0_128_S8x128) shapeCasts_S8x128_S1x1x8x128 x = z (ix2 (x 2) ⟨128 + (x 3).val, by have : (x 3).val < 128 := (x 3).isLt; omega⟩) := by
  idx_vars x
  pointwise

set_option maxHeartbeats 4000000 in
/-- The tile's logits, in the scratch's own terms. -/
theorem zTile_read (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole)  (i : grid0.Coords) (k : Fin k0_t2_loop.trips) (v940 : Vec Ideal S16x128 .f32)
    (X12 : BufTy.Contents (Elt Ideal) arg12.view.ty) (X14 : BufTy.Contents (Elt Ideal) arg14.view.ty) (X16 : BufTy.Contents (Elt Ideal) arg16.view.ty)
    (W : Fin 8 → Fin 128 → Fin 128 → EReal) (mu : Fin 8 → Fin 128 → EReal) (K : Fin 8 → Fin 128 → Fin 2048 → EReal) (ks : Fin 8 → Fin 2048 → EReal)
    (h940 : ∀ (r : Fin 8) d, v940 (ix2 ⟨r.val, by omega⟩ d) = mu r d)
    (h12 : ∀ h d t, arg12.view.read (Elt Ideal) X12 (ix3 h d t) = K h d t)
    (h14 : ∀ h t, arg14.view.read (Elt Ideal) X14 (ix2 h t) = ks h t)
    (h16 : ∀ (g : Fin 7) (d e : Fin 128), arg16.view.read (Elt Ideal) X16 (ix2 ⟨128 * g.val + d.val, by omega⟩ e) = W g.castSucc d e) (h7 : ∀ d e, W 7 d e = 0)
    (r : Fin 8) (l : Fin 256) (t : Fin 2048) (ht : t.val = 256 * k.val + l.val) :
    zTile (BitVec.ofNat 32 (kv i).val) (k0_pay168 (View.readAt (Elt Ideal) arg12.view (Rect.unit (s := S8x128x2048) (k0_off14 i k) S1x128x256.size (k0_off14_inb i k)).toLoadRect X12)) (View.readAt (Elt Ideal) arg14.view (Rect.unit (s := S8x2048) (k0_off15 k) S8x256.size (k0_off15_inb k)).toLoadRect X14) v940 ![(View.readAt (Elt Ideal) arg16.view (Rect.unit (s := S896x128) ![0, 0] S128x128.size inb_S896x128_S128x128_0_0).toLoadRect X16), (View.readAt (Elt Ideal) arg16.view (Rect.unit (s := S896x128) ![128, 0] S128x128.size inb_S896x128_S128x128_128_0).toLoadRect X16), (View.readAt (Elt Ideal) arg16.view (Rect.unit (s := S896x128) ![256, 0] S128x128.size inb_S896x128_S128x128_256_0).toLoadRect X16), (View.readAt (Elt Ideal) arg16.view (Rect.unit (s := S896x128) ![384, 0] S128x128.size inb_S896x128_S128x128_384_0).toLoadRect X16), (View.readAt (Elt Ideal) arg16.view (Rect.unit (s := S896x128) ![512, 0] S128x128.size inb_S896x128_S128x128_512_0).toLoadRect X16), (View.readAt (Elt Ideal) arg16.view (Rect.unit (s := S896x128) ![640, 0] S128x128.size inb_S896x128_S128x128_640_0).toLoadRect X16), (View.readAt (Elt Ideal) arg16.view (Rect.unit (s := S896x128) ![768, 0] S128x128.size inb_S896x128_S128x128_768_0).toLoadRect X16)] (ix2 r l) = zOf W mu (K (kv i)) (ks (kv i)) r t := by
  have hk : ∀ d : Fin 128, (k0_pay168 (View.readAt (Elt Ideal) arg12.view (Rect.unit (s := S8x128x2048) (k0_off14 i k) S1x128x256.size (k0_off14_inb i k)).toLoadRect X12)) (ix2 d l) = K (kv i) d t := fun d => by
    pointwise [k0_pay168]
    rw [← h12]
    refine View.ld_unit_apply_of (arg12.view.read (Elt Ideal) X12) _ _ _ _ _ fun a => ?_
    refine Eq.trans ?_ (congrArg (· + _) (congrFun (off14_eq i k) a).symm)
    fin_cases a
    · show (i 1).val = (i 1).val + 0; rfl
    · show d.val = 0 + d.val; omega
    · show t.val = 256 * k.val + l.val; omega
  have hs : ∀ h : Fin 8, (View.readAt (Elt Ideal) arg14.view (Rect.unit (s := S8x2048) (k0_off15 k) S8x256.size (k0_off15_inb k)).toLoadRect X14) (ix2 h l) = ks h t := fun h => by
    rw [← h14]
    refine View.ld_unit_apply_of (arg14.view.read (Elt Ideal) X14) _ _ _ _ _ fun a => ?_
    refine Eq.trans ?_ (congrArg (· + _) (congrFun (off15_eq k) a).symm)
    fin_cases a
    · show h.val = 0 + h.val; omega
    · show t.val = 256 * k.val + l.val; omega
  rw [zTile_apply (kv i) _ _ _ _ W ?_ h7]
  · simp only [hk, hs, h940]; rfl
  · intro g d e
    rw [← h16]
    fin_cases g
    all_goals
      refine View.ld_unit_apply_of (arg16.view.read (Elt Ideal) X16) _ _ _ _ _ fun a => ?_
      fin_cases a
      · rfl
      · show e.val = 0 + e.val; omega

set_option maxHeartbeats 4000000 in
/-- What the loop's first `n` trips store: every store is of the logits, in the point's group, and covers the lane tiles passed. -/
theorem pb_spec (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole)  (arg1 : BitVec 32) (v4 v6 : FVec Ideal S1x128 .f32) (v8 v10 v823 v826 : FVec Ideal S128x128 .f32) (v901 v902 v903 : FVec Ideal S8x128 .f32) (v940 : Vec Ideal S16x128 .f32)
    (X12 : BufTy.Contents (Elt Ideal) arg12.view.ty) (X14 : BufTy.Contents (Elt Ideal) arg14.view.ty) (X16 : BufTy.Contents (Elt Ideal) arg16.view.ty)
    (W : Fin 8 → Fin 128 → Fin 128 → EReal) (mu : Fin 8 → Fin 128 → EReal) (K : Fin 8 → Fin 128 → Fin 2048 → EReal) (ks : Fin 8 → Fin 2048 → EReal)
    (h1 : arg1 = BitVec.ofNat 32 (i 1).val)
    (h940 : ∀ (r : Fin 8) d, v940 (ix2 ⟨r.val, by omega⟩ d) = mu r d)
    (h12 : ∀ h d t, arg12.view.read (Elt Ideal) X12 (ix3 h d t) = K h d t)
    (h14 : ∀ h t, arg14.view.read (Elt Ideal) X14 (ix2 h t) = ks h t)
    (h16 : ∀ (g : Fin 7) d e, arg16.view.read (Elt Ideal) X16 (ix2 ⟨128 * g.val + d.val, by omega⟩ e) = W g.castSucc d e) (h7 : ∀ d e, W 7 d e = 0)
    (n : ℕ) (hn : n ≤ 8) :
    (∀ p ∈ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v10 v823 v826 v901 v902 v903 v940 X12 X14 X16 n,
        ∀ x, (p.1.emb x) 1 = kv i ∧ p.2 x = zOf W mu (K (kv i)) (ks (kv i)) ((p.1.emb x) 2) (tok ((p.1.emb x) 0) ((p.1.emb x) 3)))
    ∧ ∀ j : Fin 16, j.val < 2 * n → ∀ r l, ∃ p ∈ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v10 v823 v826 v901 v902 v903 v940 X12 X14 X16 n, (ix4 j (kv i) r l : S16x8x8x128.Idx) ∈ p.1.set := by
  induction n with
  | zero => exact ⟨fun p hp => absurd hp (List.not_mem_nil), fun j hj => absurd hj (by omega)⟩
  | succ n ih =>
    obtain ⟨ihp, ihc⟩ := ih (by omega)
    have e := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v10 v823 v826 v901 v902 v903 v940 X12 X14 X16 (⟨n, hn⟩ : Fin k0_t2_loop.trips)
    rw [trip_eq] at e
    have e0 := off16_eq0 i (⟨n, hn⟩ : Fin k0_t2_loop.trips)
    have e1 := off16_eq1 i (⟨n, hn⟩ : Fin k0_t2_loop.trips)
    have E0 := emb16 ⟨2 * n, by omega⟩ (kv i) e0
    have E1 := emb16 ⟨2 * n + 1, by omega⟩ (kv i) e1
    subst h1
    constructor
    · intro p hp
      rw [e] at hp
      rcases List.mem_append.mp hp with hp | hp
      · rcases List.mem_cons.mp hp with rfl | hp
        · intro x
          rw [E1]
          refine ⟨rfl, (half_hi _ x).trans (zTile_read arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 i _ _ _ _ _ W mu K ks h940 h12 h14 h16 h7 _ _ _ ?_)⟩
          show 128 * (2 * n + 1) + (x 3).val = 256 * n + (128 + (x 3).val)
          omega
        · rcases List.mem_cons.mp hp with rfl | hp
          · intro x
            rw [E0]
            refine ⟨rfl, (half_lo _ x).trans (zTile_read arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 i _ _ _ _ _ W mu K ks h940 h12 h14 h16 h7 _ _ _ ?_)⟩
            show 128 * (2 * n) + (x 3).val = 256 * n + (x 3).val
            omega
          · exact absurd hp List.not_mem_nil
      · exact ihp p hp
    · intro j hj r l
      rw [e]
      by_cases hj' : j.val < 2 * n
      · obtain ⟨p, hp, hm⟩ := ihc j hj' r l
        exact ⟨p, List.mem_append_right _ hp, hm⟩
      · by_cases hj0 : j.val = 2 * n
        · refine ⟨_, List.mem_append_left _ (List.mem_cons_of_mem _ (List.mem_cons_self ..)), ?_⟩
          have hjj : j = ⟨2 * n, by omega⟩ := Fin.ext hj0
          rw [hjj]
          exact mem16 _ _ e0 (k0_off16_inb i ⟨n, hn⟩ 0) r l
        · refine ⟨_, List.mem_append_left _ (List.mem_cons_self ..), ?_⟩
          have hjj : j = ⟨2 * n + 1, by omega⟩ := Fin.ext (by show j.val = 2 * n + 1; omega)
          rw [hjj]
          exact mem16 _ _ e1 (k0_off16_inb i ⟨n, hn⟩ 1) r l

/-- The logits of the groups below `n` stand in the scratch. -/
def LogitsTo (Z : Fin 8 → Fin 8 → Fin 2048 → EReal) (n : ℕ) (X : S16x8x8x128.Idx → EReal) : Prop :=
  ∀ (j : Fin 16) (h r : Fin 8) (l : Fin 128), h.val < n → X (ix4 j h r l) = Z h r (tok j l)

set_option maxHeartbeats 4000000 in
/-- The loop adds a group's logits to those of the groups before. -/
theorem logits_step (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole)  (arg1 : BitVec 32) (v4 v6 : FVec Ideal S1x128 .f32) (v8 v10 v823 v826 : FVec Ideal S128x128 .f32) (v901 v902 v903 : FVec Ideal S8x128 .f32) (v940 : Vec Ideal S16x128 .f32)
    (X12 : BufTy.Contents (Elt Ideal) arg12.view.ty) (X14 : BufTy.Contents (Elt Ideal) arg14.view.ty) (X16 : BufTy.Contents (Elt Ideal) arg16.view.ty) (X18 : BufTy.Contents (Elt Ideal) arg18.view.ty)
    (W : Fin 8 → Fin 128 → Fin 128 → EReal) (mu : Fin 8 → Fin 128 → EReal) (K : Fin 8 → Fin 128 → Fin 2048 → EReal) (ks : Fin 8 → Fin 2048 → EReal) (Z : Fin 8 → Fin 8 → Fin 2048 → EReal)
    (h1 : arg1 = BitVec.ofNat 32 (i 1).val)
    (h940 : ∀ (r : Fin 8) d, v940 (ix2 ⟨r.val, by omega⟩ d) = mu r d)
    (h12 : ∀ h d t, arg12.view.read (Elt Ideal) X12 (ix3 h d t) = K h d t)
    (h14 : ∀ h t, arg14.view.read (Elt Ideal) X14 (ix2 h t) = ks h t)
    (h16 : ∀ (g : Fin 7) (d e : Fin 128), arg16.view.read (Elt Ideal) X16 (ix2 ⟨128 * g.val + d.val, by omega⟩ e) = W g.castSucc d e) (h7 : ∀ d e, W 7 d e = 0)
    (hZ : ∀ r t, Z (kv i) r t = zOf W mu (K (kv i)) (ks (kv i)) r t)
    (h18 : LogitsTo Z (i 1).val (arg18.view.read (Elt Ideal) X18)) :
    LogitsTo Z ((i 1).val + 1) (arg18.view.read (Elt Ideal) (arg18.view.writes (Elt Ideal) X18
      (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v10 v823 v826 v901 v902 v903 v940 X12 X14 X16 8))) := by
  obtain ⟨hp, hc⟩ := pb_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v10 v823 v826 v901 v902 v903 v940 X12 X14 X16 W mu K ks h1 h940 h12 h14 h16 h7 8 le_rfl
  intro j h r l hh
  by_cases hhi : h = kv i
  · subst hhi
    rw [View.read_writes_apply_of_pieces (Val := Elt Ideal) _ _ (fun y => zOf W mu (K (kv i)) (ks (kv i)) (y 2) (tok (y 0) (y 3))) _ (fun p h x => (hp p h x).2) _ (hc j (by omega) r l)]
    exact (hZ _ _).symm
  · rw [View.read_writes_apply_of_forall_not_mem]
    · refine h18 j h r l ?_
      have : h.val ≠ (i 1).val := fun e => hhi (Fin.ext e)
      omega
    · intro p hpm hm
      choose x hx hx' using (p.1.mem_set).mp hm
      have e := p.1.emb_eq_of_coords (fun a => ⟨x a, hx a⟩) _ hx'
      exact hhi ((congrFun e 1).symm.trans (hp p hpm _).1)

end Cert.Proof.KernelIdeal

end
-- ==== Proof.Spec.lean ====
/-
  What the kernel's scratch holds, as functions of a batch's inputs, over the extended reals.
-/
module

public import proofs.«01_k».proof.Proof.Tile

@[expose] public section

noncomputable section

namespace Cert.Proof.KernelIdeal

open Cert.KernelIdeal Cert.KernelIdeal.Gen
open Idealize.ShloMosaic Idealize.ShloMosaic.Tactic

/-- The rotary means: the cosines and the signed sines, along the lanes and along the rows. -/
def cwOf (C S : Fin 128 → EReal) (k : Fin 4) (r d : Fin 128) : EReal :=
  if k.val = 0 then C d else if k.val = 1 then S d else if k.val = 2 then C r else S r

/-- The scratch of the rotary means holds `C` and `S`. -/
def CwIs (C S : Fin 128 → EReal) (X : S4x128x128.Idx → EReal) : Prop := ∀ k r d, X (ix3 k r d) = cwOf C S k r d
/-- The scratch of the transposed codes holds `K`. -/
def KtIs (K : Fin 8 → Fin 128 → Fin 2048 → EReal) (X : S8x128x2048.Idx → EReal) : Prop := ∀ h d t, X (ix3 h d t) = K h d t
/-- A scratch of one number a token holds `f`. -/
def RowIs (f : Fin 8 → Fin 2048 → EReal) (X : S8x2048.Idx → EReal) : Prop := ∀ h t, X (ix2 h t) = f h t
/-- The scratch of the windows holds `Q`, two heads side by side. -/
def QxIs (Q : Fin 320 → Fin 56 → Fin 128 → EReal) (X : S28x320x2x128.Idx → EReal) : Prop :=
  ∀ (j : Fin 28) (n : Fin 320) (r : Fin 2) (d : Fin 128), X (ix4 j n r d) = Q n ⟨2 * j.val + r.val, by omega⟩ d

/-- The window of a group's head. -/
def headQ (Q : Fin 320 → Fin 56 → Fin 128 → EReal) (h : Fin 8) (g : Fin 7) (n : Fin 320) (d : Fin 128) : EReal := Q n ⟨7 * h.val + g.val, by omega⟩ d

/-- The matrices of a group, the eighth zero. -/
def WQ (C S : Fin 128 → EReal) (Q : Fin 320 → Fin 56 → Fin 128 → EReal) (h r : Fin 8) (d e : Fin 128) : EReal :=
  if hr : r.val < 7 then quadM C S (headQ Q h ⟨r.val, hr⟩) d e else 0
/-- The rotated means of a group, the eighth zero. -/
def MQ (C S : Fin 128 → EReal) (Q : Fin 320 → Fin 56 → Fin 128 → EReal) (h r : Fin 8) (d : Fin 128) : EReal :=
  if hr : r.val < 7 then linM C S (headQ Q h ⟨r.val, hr⟩) d else 0
/-- A batch's logits. -/
def ZQ (C S : Fin 128 → EReal) (Q : Fin 320 → Fin 56 → Fin 128 → EReal) (K : Fin 8 → Fin 128 → Fin 2048 → EReal) (ks : Fin 8 → Fin 2048 → EReal) (h r : Fin 8) (t : Fin 2048) : EReal :=
  zOf (WQ C S Q h) (MQ C S Q h) (K h) (ks h) r t

/-- A row's largest logit. -/
def zMax (z : Fin 8 → Fin 2048 → EReal) (r : Fin 8) : EReal := Finset.univ.sup (z r)
/-- A row's sum of exponentials. -/
def zSum (z : Fin 8 → Fin 2048 → EReal) (r : Fin 8) : EReal := ∑ t, Ideal.exp (z r t - zMax z r)
/-- The factor of a row: one over seven times the sum, nothing for the eighth row. -/
def zInv (z : Fin 8 → Fin 2048 → EReal) (r : Fin 8) : EReal := if r.val < 7 then Ideal.div 1 (zSum z r * 7) else 0
/-- The score of a token in a group. -/
def sOf (z : Fin 8 → Fin 2048 → EReal) (vn : Fin 2048 → EReal) (t : Fin 2048) : EReal := (∑ r, Ideal.exp (z r t - zMax z r) * zInv z r) * vn t

/-- The scores of the groups below `n` stand in the scratch. -/
def ScoresTo (Sc : Fin 8 → Fin 2048 → EReal) (n : ℕ) (X : S16x8x128.Idx → EReal) : Prop :=
  ∀ (j : Fin 16) (h : Fin 8) (l : Fin 128), h.val < n → X (ix3 j h l) = Sc h (tok j l)

/-- The output block of the logits. -/
def ZOut (Z : Fin 8 → Fin 8 → Fin 2048 → EReal) (X : S1x2048x56.Idx → EReal) : Prop :=
  ∀ (t : Fin 2048) (h : Fin 8) (g : Fin 7), X (ix3 0 t ⟨7 * h.val + g.val, by omega⟩) = Z h g.castSucc t
/-- The output block of the scores. -/
def SOut (Sc : Fin 8 → Fin 2048 → EReal) (X : S1x2048x8.Idx → EReal) : Prop := ∀ (t : Fin 2048) (h : Fin 8), X (ix3 0 t h) = Sc h t

end Cert.Proof.KernelIdeal

end
-- ==== Proof.Softmax.lean ====
/-
  The softmax over the tokens and the scores of a group, as the kernel composes them, and what they are at an index.
-/
module

public import proofs.«01_k».proof.Proof.Spec

@[expose] public section

set_option maxRecDepth 16384

noncomputable section

namespace Cert.Proof.KernelIdeal

open Cert.KernelIdeal Cert.KernelIdeal.Gen
open Idealize.ShloMosaic Idealize.ShloMosaic.Tactic

section
variable {F : FTy → Type} [FloatOps F] [Named F]

/-- A lane tile of logits as a matrix. -/
def za (x : Vec F S1x1x8x128 .f32) : FVec F S8x128 .f32 := shapeCast S8x128 x shapeCasts_S1x1x8x128_S8x128
/-- Every row's largest logit. -/
def smM (x : Fin 16 → Vec F S1x1x8x128 .f32) : FVec F S8x1 .f32 :=
  shapeCast S8x1 (multiReduction .maximumf [1] S8 (maximumf (maximumf (maximumf (maximumf (maximumf (maximumf (maximumf (maximumf (maximumf (maximumf (maximumf (maximumf (maximumf (maximumf (maximumf (za (x 0)) (za (x 1))) (za (x 2))) (za (x 3))) (za (x 4))) (za (x 5))) (za (x 6))) (za (x 7))) (za (x 8))) (za (x 9))) (za (x 10))) (za (x 11))) (za (x 12))) (za (x 13))) (za (x 14))) (za (x 15))) 0xFF800000#32 reduces_S8x128_S8 (.inl rfl) rfl) shapeCasts_S8_S8x1
/-- A lane tile's exponentials. -/
def smE (x : Fin 16 → Vec F S1x1x8x128 .f32) (j : Fin 16) : FVec F S8x128 .f32 := exp (subf (za (x j)) (broadcastTo S8x128 (smM x) broadcasts_S8x1_S8x128))
/-- Every row's sum of exponentials. -/
def smL (x : Fin 16 → Vec F S1x1x8x128 .f32) : FVec F S8x1 .f32 :=
  shapeCast S8x1 (multiReduction .add [1] S8 (addf (addf (addf (addf (addf (addf (addf (addf (addf (addf (addf (addf (addf (addf (addf (smE x 0) (smE x 1)) (smE x 2)) (smE x 3)) (smE x 4)) (smE x 5)) (smE x 6)) (smE x 7)) (smE x 8)) (smE x 9)) (smE x 10)) (smE x 11)) (smE x 12)) (smE x 13)) (smE x 14)) (smE x 15)) 0x00000000#32 reduces_S8x128_S8 (.inl rfl) rfl) shapeCasts_S8_S8x1
/-- A lane tile's probabilities, summed over the group. -/
def smP (x : Fin 16 → Vec F S1x1x8x128 .f32) (j : Fin 16) : FVec F S1x128 .f32 :=
  shapeCast S1x128 (multiReduction .add [0] S128 (mulf (smE x j) (broadcastTo S8x128 (k0_pay604 (smL x)) broadcasts_S8x1_S8x128)) 0x00000000#32 reduces_S8x128_S128 (.inl rfl) rfl) shapeCasts_S128_S1x128
/-- What is stored for a lane tile: the group's row new, the others as they were. -/
def smS (arg1 : BitVec 32) (x : Fin 16 → Vec F S1x1x8x128 .f32) (j : Fin 16) (vn : Vec F S8x128 .f32) (st : Vec F S1x8x128 .f32) : FVec F S1x8x128 .f32 :=
  shapeCast S1x8x128 (select (cmpi .eq (iota .tc S8x128 32 [0] iota_S8x128_d0_w32) (broadcast S8x128 arg1)) (mulf (broadcastTo S8x128 (smP x j) broadcasts_S1x128_S8x128) vn)
    (shapeCast S8x128 st shapeCasts_S1x8x128_S8x128)) shapeCasts_S8x128_S1x8x128
end

theorem seven_f32 : Ideal.ofBits .f32 0x40E00000#32 = 7 := by
  have e : Ideal.ofBits .f32 0x40E00000#32 = ((7 : ℝ) : EReal) := by
    simp [Ideal.ofBits, Ideal.ieee, -EReal.coe_mul]; norm_num
  rw [e]; rfl

theorem negInf_f32 : Ideal.ofBits .f32 0xFF800000#32 = ⊥ := by
  simp [Ideal.ofBits, Ideal.ieee]

theorem max16 (f : Fin 16 → EReal) : (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) = Finset.univ.sup f := by
  apply le_antisymm
  · simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact Finset.le_sup (f := f) (Finset.mem_univ _)
  · refine Finset.sup_le fun j _ => ?_
    simp only [le_max_iff]
    fin_cases j <;> simp

theorem sum16 (f : Fin 16 → EReal) : (f 0 + f 1 + f 2 + f 3 + f 4 + f 5 + f 6 + f 7 + f 8 + f 9 + f 10 + f 11 + f 12 + f 13 + f 14 + f 15) = ∑ j, f j := by
  simp only [Fin.sum_univ_succ, Fin.sum_univ_zero, add_zero, add_assoc]
  rfl

theorem sum_tok (f : Fin 2048 → EReal) : ∑ l : Fin 128, ∑ j : Fin 16, f (tok j l) = ∑ t, f t := by
  rw [← Finset.sum_product', Finset.univ_product_univ]
  refine Fintype.sum_equiv ⟨fun p => tok p.2 p.1, fun k => (⟨k.val % 128, by omega⟩, ⟨k.val / 128, by omega⟩), fun p => ?_, fun k => ?_⟩ _ _ fun p => rfl
  · ext <;> simp <;> omega
  · ext; simp; omega

theorem sup_tok (f : Fin 2048 → EReal) : (Finset.univ.sup fun l : Fin 128 => Finset.univ.sup fun j : Fin 16 => f (tok j l)) = Finset.univ.sup f := by
  apply le_antisymm
  · exact Finset.sup_le fun l _ => Finset.sup_le fun j _ => Finset.le_sup (f := f) (Finset.mem_univ _)
  · refine Finset.sup_le fun t _ => ?_
    have e : t = tok ⟨t.val / 128, by omega⟩ ⟨t.val % 128, by omega⟩ := by ext; show t.val = 128 * (t.val / 128) + t.val % 128; omega
    rw [e]
    exact (Finset.le_sup (f := fun j : Fin 16 => f (tok j ⟨t.val % 128, by omega⟩)) (Finset.mem_univ _)).trans
      (Finset.le_sup (f := fun l : Fin 128 => Finset.univ.sup fun j : Fin 16 => f (tok j l)) (Finset.mem_univ _))

section
variable (z : Fin 8 → Fin 2048 → EReal) (x : Fin 16 → Vec Ideal S1x1x8x128 .f32) (hx : ∀ j r l, x j (ix4 0 0 r l) = z r (tok j l))
include hx

theorem za_apply (j : Fin 16) (r : Fin 8) (l : Fin 128) : za (x j) (ix2 r l) = z r (tok j l) := by
  pointwise [za]
  exact hx j r l

theorem smM_apply (r : Fin 8) : smM x (ix2 r 0) = zMax z r := by
  unfold zMax
  rw [← sup_tok]
  pointwise [smM]
  simp only [za_apply z x hx, negInf_f32]
  exact congrArg (fun g : Fin 128 → EReal => Finset.univ.sup g) (funext fun l => max16 fun j => z r (tok j l))

theorem smE_apply (j : Fin 16) (r : Fin 8) (l : Fin 128) : smE x j (ix2 r l) = Ideal.exp (z r (tok j l) - zMax z r) := by
  pointwise [smE]
  rw [za_apply z x hx, smM_apply z x hx]

theorem smL_apply (r : Fin 8) : smL x (ix2 r 0) = zSum z r := by
  unfold zSum
  rw [← sum_tok]
  pointwise [smL]
  simp only [smE_apply z x hx]
  exact Finset.sum_congr rfl fun l _ => sum16 fun j => Ideal.exp (z r (tok j l) - zMax z r)

theorem smP_apply (j : Fin 16) (l : Fin 128) : smP x j (ix2 0 l) = ∑ r, Ideal.exp (z r (tok j l) - zMax z r) * zInv z r := by
  pointwise [smP, k0_pay604]
  simp only [smE_apply z x hx, smL_apply z x hx, seven_f32]
  refine Finset.sum_congr rfl fun r _ => ?_
  unfold zInv
  by_cases e : r.val < 7
  · rw [if_pos e, show IntOp.cmpi CmpIPredicate.slt (BitVec.ofNat 32 ↑r) 7#32 = 1#1 by revert r; decide]; rfl
  · rw [if_neg e, show IntOp.cmpi CmpIPredicate.slt (BitVec.ofNat 32 ↑r) 7#32 = 0#1 by revert r; decide, mul_zero]; rfl

theorem smS_apply (h : Fin 8) (j : Fin 16) (vn : Vec Ideal S8x128 .f32) (st : Vec Ideal S1x8x128 .f32) (h' : Fin 8) (l : Fin 128) :
    smS (BitVec.ofNat 32 h.val) x j vn st (ix3 0 h' l) = if h' = h then (∑ r, Ideal.exp (z r (tok j l) - zMax z r) * zInv z r) * vn (ix2 h l) else st (ix3 0 h' l) := by
  pointwise [smS]
  rw [smP_apply z x hx]
  by_cases e : h' = h
  · subst e
    rw [if_pos rfl]
    rw [show IntOp.cmpi CmpIPredicate.eq (BitVec.ofNat 32 ↑h') (BitVec.ofNat 32 ↑h') = 1#1 by revert h'; decide]; rfl
  · rw [if_neg e, show IntOp.cmpi CmpIPredicate.eq (BitVec.ofNat 32 ↑h') (BitVec.ofNat 32 ↑h) = 0#1 by revert h' h; decide]; rfl
end

end Cert.Proof.KernelIdeal

end
-- ==== Proof.Groups.lean ====
/-
  The groups' matrices and means: what the point's heads leave in their scratch, from the rotary means and the windows.
-/
module

public import proofs.«01_k».proof.Proof.Spec
public import Idealize.ShloMosaic.Lib.Ring

@[expose] public section

set_option maxRecDepth 16384

noncomputable section

namespace Cert.Proof.KernelIdeal

open Cert.KernelIdeal Cert.KernelIdeal.Gen
open Idealize.ShloMosaic Idealize.ShloMosaic.Tactic

section
variable (C S : Fin 128 → EReal) (arg11 : Memref sig .tc .vmem S4x128x128 .f32) (f11 : BufTy.Contents (Elt Ideal) arg11.view.ty) (h11 : CwIs C S (arg11.view.read (Elt Ideal) f11))

/-- The cosine row as loaded. -/
abbrev cRow : FVec Ideal S1x128 .f32 := k0_pay320 (View.readAt (Elt Ideal) arg11.view (Rect.unit (s := S4x128x128) ![0, 0, 0] S1x1x128.size inb_S4x128x128_S1x1x128_0_0_0).toLoadRect f11)
/-- The sine row. -/
abbrev sRow : FVec Ideal S1x128 .f32 := k0_pay321 (View.readAt (Elt Ideal) arg11.view (Rect.unit (s := S4x128x128) ![1, 0, 0] S1x1x128.size inb_S4x128x128_S1x1x128_1_0_0).toLoadRect f11)
/-- The cosine columns. -/
abbrev cCol : FVec Ideal S128x128 .f32 := k0_pay322 (View.readAt (Elt Ideal) arg11.view (Rect.unit (s := S4x128x128) ![2, 0, 0] S1x128x128.size inb_S4x128x128_S1x128x128_2_0_0).toLoadRect f11)
/-- The sine columns. -/
abbrev sCol : FVec Ideal S128x128 .f32 := k0_pay323 (View.readAt (Elt Ideal) arg11.view (Rect.unit (s := S4x128x128) ![3, 0, 0] S1x128x128.size inb_S4x128x128_S1x128x128_3_0_0).toLoadRect f11)

include h11
theorem cRow_apply (e : Fin 128) : cRow arg11 f11 (ix2 0 e) = C e := by
  pointwise [cRow, k0_pay320]
  refine (View.ld_unit_apply_of (arg11.view.read (Elt Ideal) f11) _ _ _ _ (ix3 0 0 e) fun a => ?_).trans (h11 0 0 e)
  fin_cases a
  · rfl
  · rfl
  · show e.val = 0 + e.val; omega
theorem sRow_apply (e : Fin 128) : sRow arg11 f11 (ix2 0 e) = S e := by
  pointwise [sRow, k0_pay321]
  refine (View.ld_unit_apply_of (arg11.view.read (Elt Ideal) f11) _ _ _ _ (ix3 1 0 e) fun a => ?_).trans (h11 1 0 e)
  fin_cases a
  · rfl
  · rfl
  · show e.val = 0 + e.val; omega
theorem cCol_apply (d e : Fin 128) : cCol arg11 f11 (ix2 d e) = C d := by
  pointwise [cCol, k0_pay322]
  refine (View.ld_unit_apply_of (arg11.view.read (Elt Ideal) f11) _ _ _ _ (ix3 2 d e) fun a => ?_).trans (h11 2 d e)
  fin_cases a
  · rfl
  · show d.val = 0 + d.val; omega
  · show e.val = 0 + e.val; omega
theorem sCol_apply (d e : Fin 128) : sCol arg11 f11 (ix2 d e) = S d := by
  pointwise [sCol, k0_pay323]
  refine (View.ld_unit_apply_of (arg11.view.read (Elt Ideal) f11) _ _ _ _ (ix3 3 d e) fun a => ?_).trans (h11 3 d e)
  fin_cases a
  · rfl
  · show d.val = 0 + d.val; omega
  · show e.val = 0 + e.val; omega
end

/-- Which of a pair's two heads a group's head is. -/
def selOf (i : grid0.Coords) (g : BitVec 32) : BitVec 1 :=
  Scalar.cmpi .eq (Scalar.andi (Scalar.addi (Scalar.muli (BitVec.ofNat 32 (i 1).val) 7#32) g) 1#32) 1#32

theorem sel_eq (i : grid0.Coords) (g : Fin 7) : (if selOf i (BitVec.ofNat 32 g.val) = 1#1 then (1 : Fin 2) else 0) = ⟨(7 * (i 1).val + g.val) % 2, by omega⟩ := by
  have key : ∀ (h : Fin 8) (g : Fin 7), (if Scalar.cmpi .eq (Scalar.andi (Scalar.addi (Scalar.muli (BitVec.ofNat 32 h.val) 7#32) (BitVec.ofNat 32 g.val)) 1#32) 1#32 = 1#1 then (1 : Fin 2) else 0)
      = ⟨(7 * h.val + g.val) % 2, by omega⟩ := by decide +kernel
  exact key (i 1) g
theorem off13_eq (i : grid0.Coords) (g : Fin 7) : k0_off13 i (BitVec.ofNat 32 g.val) = ![(7 * (i 1).val + g.val) / 2, 0, 0, 0] := by
  unfold k0_off13
  generalize i 1 = h
  revert h g
  decide +kernel

section
variable (arg20 : Memref sig .tc .vmem S28x320x2x128 .bf16) (f20 : BufTy.Contents (Elt Ideal) arg20.view.ty)
/-- A group's head's window as loaded. -/
def qOf (i : grid0.Coords) (g : BitVec 32) (inb : ∀ a, k0_off13 i g a + S1x320x2x128.size a ≤ S28x320x2x128.size a) : FVec Ideal S320x128 .f32 :=
  pickHead (selOf i g) (View.readAt (Elt Ideal) arg20.view (Rect.unit (s := S28x320x2x128) (k0_off13 i g) S1x320x2x128.size inb).toLoadRect f20)

theorem qOf_apply (Q : Fin 320 → Fin 56 → Fin 128 → EReal) (h20 : QxIs Q (arg20.view.read (Elt Ideal) f20)) (i : grid0.Coords) (g : Fin 7) (inb) (n : Fin 320) (d : Fin 128) :
    qOf arg20 f20 i (BitVec.ofNat 32 g.val) inb (ix2 n d) = headQ Q (kv i) g n d := by
  unfold qOf
  rw [pickHead_apply, sel_eq]
  have hi : (i 1).val < 8 := (i 1).isLt
  refine (View.ld_unit_apply_of (arg20.view.read (Elt Ideal) f20) _ _ _ _
    (ix4 (⟨(7 * (i 1).val + g.val) / 2, by omega⟩ : Fin 28) n (⟨(7 * (i 1).val + g.val) % 2, by omega⟩ : Fin 2) d) fun a => ?_).trans ?_
  · refine Eq.trans ?_ (congrArg (· + _) (congrFun (off13_eq i g) a).symm)
    fin_cases a
    · rfl
    · show n.val = 0 + n.val; omega
    · show (7 * (i 1).val + g.val) % 2 = 0 + (7 * (i 1).val + g.val) % 2; omega
    · show d.val = 0 + d.val; omega
  · rw [h20]
    unfold headQ
    congr 1
    ext
    show 2 * ((7 * (i 1).val + g.val) / 2) + (7 * (i 1).val + g.val) % 2 = 7 * (i 1).val + g.val
    omega
end

/-- A group's window lies in the scratch. -/
theorem inb13 (i : grid0.Coords) (g : Fin 7) : ∀ a, k0_off13 i (BitVec.ofNat 32 g.val) a + S1x320x2x128.size a ≤ S28x320x2x128.size a := by
  intro a
  have hi : (i 1).val < 8 := (i 1).isLt
  rw [off13_eq]
  fin_cases a
  · show (7 * (i 1).val + g.val) / 2 + 1 ≤ 28; omega
  · exact Nat.le_refl 320
  · exact Nat.le_refl 2
  · exact Nat.le_refl 128

/-- The matrices as stored. -/
abbrev pieceW (p : Fin 7 → FVec Ideal S128x128 .bf16) : List (View.Piece (Elt Ideal) S896x128 .bf16) :=
  [⟨Rect.unit (s := S896x128) ![768, 0] S128x128.size inb_S896x128_S128x128_768_0, p 6⟩, ⟨Rect.unit (s := S896x128) ![640, 0] S128x128.size inb_S896x128_S128x128_640_0, p 5⟩, ⟨Rect.unit (s := S896x128) ![512, 0] S128x128.size inb_S896x128_S128x128_512_0, p 4⟩, ⟨Rect.unit (s := S896x128) ![384, 0] S128x128.size inb_S896x128_S128x128_384_0, p 3⟩, ⟨Rect.unit (s := S896x128) ![256, 0] S128x128.size inb_S896x128_S128x128_256_0, p 2⟩, ⟨Rect.unit (s := S896x128) ![128, 0] S128x128.size inb_S896x128_S128x128_128_0, p 1⟩, ⟨Rect.unit (s := S896x128) ![0, 0] S128x128.size inb_S896x128_S128x128_0_0, p 0⟩]
/-- The means as stored. -/
abbrev pieceM (p : Fin 7 → FVec Ideal S1x128 .f32) : List (View.Piece (Elt Ideal) S16x128 .f32) :=
  [⟨Rect.unit (s := S16x128) ![7, 0] S9x128.size inb_S16x128_S9x128_7_0, (k0_pay565 : FVec Ideal S9x128 .f32)⟩, ⟨Rect.unit (s := S16x128) ![6, 0] S1x128.size inb_S16x128_S1x128_6_0, p 6⟩, ⟨Rect.unit (s := S16x128) ![5, 0] S1x128.size inb_S16x128_S1x128_5_0, p 5⟩, ⟨Rect.unit (s := S16x128) ![4, 0] S1x128.size inb_S16x128_S1x128_4_0, p 4⟩, ⟨Rect.unit (s := S16x128) ![3, 0] S1x128.size inb_S16x128_S1x128_3_0, p 3⟩, ⟨Rect.unit (s := S16x128) ![2, 0] S1x128.size inb_S16x128_S1x128_2_0, p 2⟩, ⟨Rect.unit (s := S16x128) ![1, 0] S1x128.size inb_S16x128_S1x128_1_0, p 1⟩, ⟨Rect.unit (s := S16x128) ![0, 0] S1x128.size inb_S16x128_S1x128_0_0, p 0⟩]

/-- Blocks of 128 rows one under the other. -/
def stackW (p : Fin 7 → FVec Ideal S128x128 .bf16) (y : S896x128.Idx) : EReal :=
  p ⟨(y 0).val / 128, by have : (y 0).val < 896 := (y 0).isLt; omega⟩ (ix2 ⟨(y 0).val % 128, by omega⟩ (y 1))
theorem stackW_at (p : Fin 7 → FVec Ideal S128x128 .bf16) (g : Fin 7) (d e : Fin 128) (n : ℕ) (hn : n = 128 * g.val + d.val) (h : n < 896) : stackW p (ix2 ⟨n, h⟩ e) = p g (ix2 d e) := by
  subst hn
  have e1 : (⟨(128 * g.val + d.val) / 128, by omega⟩ : Fin 7) = g := by ext; show (128 * g.val + d.val) / 128 = g.val; omega
  have e2 : (⟨(128 * g.val + d.val) % 128, by omega⟩ : Fin 128) = d := by ext; show (128 * g.val + d.val) % 128 = d.val; omega
  show p ⟨(128 * g.val + d.val) / 128, _⟩ (ix2 ⟨(128 * g.val + d.val) % 128, _⟩ e) = _
  rw [e1, e2]
theorem stackW_emb (p : Fin 7 → FVec Ideal S128x128 .bf16) (g : Fin 7) (n : ℕ) (hn : n = 128 * g.val) (inb) (x : S128x128.Idx) :
    p g x = stackW p ((Rect.unit (s := S896x128) ![n, 0] S128x128.size inb).emb x) := by
  idx_vars x
  refine (stackW_at p g x0 x1 (128 * g.val + x0.val) rfl (by omega)).symm.trans (congrArg (stackW p) (Rect.emb_eq_of_coords _ _ _ fun a => ?_).symm)
  subst hn
  fin_cases a
  · show 128 * g.val + x0.val = 128 * g.val + 1 * x0.val; omega
  · show x1.val = 0 + 1 * x1.val; omega

/-- The groups' matrices, one under the other. -/
theorem groups_W (C S : Fin 128 → EReal) (Q : Fin 320 → Fin 56 → Fin 128 → EReal) (arg11 : Memref sig .tc .vmem S4x128x128 .f32) (f11 : BufTy.Contents (Elt Ideal) arg11.view.ty) (h11 : CwIs C S (arg11.view.read (Elt Ideal) f11))
    (arg20 : Memref sig .tc .vmem S28x320x2x128 .bf16) (f20 : BufTy.Contents (Elt Ideal) arg20.view.ty) (h20 : QxIs Q (arg20.view.read (Elt Ideal) f20)) (i : grid0.Coords)
    (arg16 : Memref sig .tc .vmem S896x128 .bf16) (f : BufTy.Contents (Elt Ideal) arg16.view.ty) (p : Fin 7 → FVec Ideal S128x128 .bf16)
    (hp : p = fun g : Fin 7 => quadOf (cRow arg11 f11) (sRow arg11 f11) (cCol arg11 f11) (sCol arg11 f11) (qOf arg20 f20 i (BitVec.ofNat 32 g.val) (inb13 i g)))
    (g : Fin 7) (d e : Fin 128) :
    arg16.view.read (Elt Ideal) (arg16.view.writes (Elt Ideal) f (pieceW p)) (ix2 ⟨128 * g.val + d.val, by omega⟩ e) = WQ C S Q (kv i) g.castSucc d e := by
  rw [View.read_writes_apply_of_pieces (Val := Elt Ideal) _ _ (stackW p) _ ?_ _ (View.cover_of_tiledL (pieceW p) S128x128.size (by sl_kernel_rfl) _)]
  · rw [stackW_at p g d e _ rfl, hp]
    show quadOf _ _ _ _ _ _ = _
    rw [quadOf_apply C S _ _ _ _ _ (cRow_apply C S arg11 f11 h11) (sRow_apply C S arg11 f11 h11) (cCol_apply C S arg11 f11 h11) (sCol_apply C S arg11 f11 h11)]
    simp only [qOf_apply arg20 f20 Q h20 i g]
    unfold WQ
    rw [dif_pos (show g.castSucc.val < 7 from g.isLt)]
    rfl
  · intro q hq x
    simp only [List.mem_cons, List.not_mem_nil, or_false] at hq
    rcases hq with rfl | rfl | rfl | rfl | rfl | rfl | rfl
    · exact stackW_emb p 6 768 rfl inb_S896x128_S128x128_768_0 x
    · exact stackW_emb p 5 640 rfl inb_S896x128_S128x128_640_0 x
    · exact stackW_emb p 4 512 rfl inb_S896x128_S128x128_512_0 x
    · exact stackW_emb p 3 384 rfl inb_S896x128_S128x128_384_0 x
    · exact stackW_emb p 2 256 rfl inb_S896x128_S128x128_256_0 x
    · exact stackW_emb p 1 128 rfl inb_S896x128_S128x128_128_0 x
    · exact stackW_emb p 0 0 rfl inb_S896x128_S128x128_0_0 x

/-- Seven rows and zeros below. -/
def stackM (p : Fin 7 → FVec Ideal S1x128 .f32) (y : S16x128.Idx) : EReal :=
  if h : (y 0).val < 7 then p ⟨(y 0).val, h⟩ (ix2 0 (y 1)) else 0
/-- The rows below the groups'. -/
theorem stackM_zero (p : Fin 7 → FVec Ideal S1x128 .f32) (x : S9x128.Idx) :
    k0_pay565 (F := Ideal) x = stackM p ((Rect.unit (s := S16x128) ![7, 0] S9x128.size inb_S16x128_S9x128_7_0).emb x) := by
  have e : ¬ ((Rect.unit (s := S16x128) ![7, 0] S9x128.size inb_S16x128_S9x128_7_0).emb x 0).val < 7 := by
    show ¬ (7 + 1 * (x 0).val < 7); omega
  unfold stackM
  rw [dif_neg e]
  pointwise [k0_pay565]

theorem stackM_emb (p : Fin 7 → FVec Ideal S1x128 .f32) (g : Fin 7) (n : ℕ) (hn : n = g.val) (inb) (x : S1x128.Idx) :
    p g x = stackM p ((Rect.unit (s := S16x128) ![n, 0] S1x128.size inb).emb x) := by
  subst hn
  idx_vars x
  have e : (Rect.unit (s := S16x128) ![g.val, 0] S1x128.size inb).emb (ix2 x0 x1) = (ix2 (⟨g.val, by omega⟩ : Fin 16) x1 : S16x128.Idx) := by
    refine Rect.emb_eq_of_coords _ _ _ fun a => ?_
    fin_cases a
    · show g.val = g.val + 1 * x0.val; omega
    · show x1.val = 0 + 1 * x1.val; omega
  rw [e]
  have e0 : x0 = 0 := by omega
  subst e0
  show p g (ix2 0 x1) = if h : g.val < 7 then p ⟨g.val, h⟩ (ix2 0 x1) else 0
  rw [dif_pos g.isLt]

/-- The groups' means, one under the other. -/
theorem groups_M (C S : Fin 128 → EReal) (Q : Fin 320 → Fin 56 → Fin 128 → EReal) (arg11 : Memref sig .tc .vmem S4x128x128 .f32) (f11 : BufTy.Contents (Elt Ideal) arg11.view.ty) (h11 : CwIs C S (arg11.view.read (Elt Ideal) f11))
    (arg20 : Memref sig .tc .vmem S28x320x2x128 .bf16) (f20 : BufTy.Contents (Elt Ideal) arg20.view.ty) (h20 : QxIs Q (arg20.view.read (Elt Ideal) f20)) (i : grid0.Coords)
    (arg17 : Memref sig .tc .vmem S16x128 .f32) (p : Fin 7 → FVec Ideal S1x128 .f32)
    (hp : p = fun g : Fin 7 => linOf (cRow arg11 f11) (sRow arg11 f11) (qOf arg20 f20 i (BitVec.ofNat 32 g.val) (inb13 i g)))
    (r : Fin 8) (d : Fin 128) :
    View.readCov (Val := Elt Ideal) arg17.view (pieceM p) (Rect.unit (s := S16x128) ![0, 0] S16x128.size inb_S16x128_S16x128_0_0).toLoadRect (ix2 ⟨r.val, by omega⟩ d) = MQ C S Q (kv i) r d := by
  have hread : ∀ y, arg17.view.read (Elt Ideal) (arg17.view.writes (Elt Ideal) (View.junk _) (pieceM p)) y = stackM p y := by
    intro y
    refine View.read_writes_apply_of_pieces (Val := Elt Ideal) arg17.view _ (stackM p) (pieceM p) ?_ y ?_
    · intro q hq x
      simp only [List.mem_cons, List.not_mem_nil, or_false] at hq
      rcases hq with rfl | rfl | rfl | rfl | rfl | rfl | rfl | rfl
      · exact stackM_zero p x
      · exact stackM_emb p 6 6 rfl inb_S16x128_S1x128_6_0 x
      · exact stackM_emb p 5 5 rfl inb_S16x128_S1x128_5_0 x
      · exact stackM_emb p 4 4 rfl inb_S16x128_S1x128_4_0 x
      · exact stackM_emb p 3 3 rfl inb_S16x128_S1x128_3_0 x
      · exact stackM_emb p 2 2 rfl inb_S16x128_S1x128_2_0 x
      · exact stackM_emb p 1 1 rfl inb_S16x128_S1x128_1_0 x
      · exact stackM_emb p 0 0 rfl inb_S16x128_S1x128_0_0 x
    · exact View.cover_of_tiledBy (pieceM p) ![1, 128] (by sl_kernel_rfl) y
  refine (View.ld_unit_apply_of _ _ _ _ _ (ix2 (⟨r.val, by omega⟩ : Fin 16) d) fun a => ?_).trans ((hread _).trans ?_)
  · fin_cases a
    · show r.val = 0 + r.val; omega
    · show d.val = 0 + d.val; omega
  · unfold stackM MQ
    show (if h : r.val < 7 then p ⟨r.val, h⟩ (ix2 0 d) else 0) = _
    by_cases hr : r.val < 7
    · rw [dif_pos hr, dif_pos hr, hp]
      show linOf _ _ _ _ = _
      rw [linOf_apply C S _ _ _ (cRow_apply C S arg11 f11 h11) (sRow_apply C S arg11 f11 h11)]
      simp only [qOf_apply arg20 f20 Q h20 i ⟨r.val, hr⟩]
    · rw [dif_neg hr, dif_neg hr]

end Cert.Proof.KernelIdeal

end
-- ==== Proof.Scores.lean ====
/-
  A group's scores: what the point loads for its softmax, and what it leaves in the scratch of the scores.
-/
module

public import proofs.«01_k».proof.Proof.Softmax
public import proofs.«01_k».proof.Proof.Groups

@[expose] public section

set_option maxRecDepth 16384

noncomputable section

namespace Cert.Proof.KernelIdeal

open Cert.KernelIdeal Cert.KernelIdeal.Gen
open Idealize.ShloMosaic Idealize.ShloMosaic.Tactic

/-- Where a lane tile of the group's logits starts. -/
def zOff (i : grid0.Coords) : Fin 16 → Fin 4 → ℕ :=
  ![k0_off17 i, k0_off18 i, k0_off19 i, k0_off20 i, k0_off21 i, k0_off22 i, k0_off23 i, k0_off24 i, k0_off25 i, k0_off26 i, k0_off27 i, k0_off28 i, k0_off29 i, k0_off30 i, k0_off31 i, k0_off32 i]
theorem zOff_eq (i : grid0.Coords) (j : Fin 16) : zOff i j = ![j.val, (i 1).val, 0, 0] :=
  match j with
  | ⟨0, _⟩ => k0_off17_eq i
  | ⟨1, _⟩ => k0_off18_eq i
  | ⟨2, _⟩ => k0_off19_eq i
  | ⟨3, _⟩ => k0_off20_eq i
  | ⟨4, _⟩ => k0_off21_eq i
  | ⟨5, _⟩ => k0_off22_eq i
  | ⟨6, _⟩ => k0_off23_eq i
  | ⟨7, _⟩ => k0_off24_eq i
  | ⟨8, _⟩ => k0_off25_eq i
  | ⟨9, _⟩ => k0_off26_eq i
  | ⟨10, _⟩ => k0_off27_eq i
  | ⟨11, _⟩ => k0_off28_eq i
  | ⟨12, _⟩ => k0_off29_eq i
  | ⟨13, _⟩ => k0_off30_eq i
  | ⟨14, _⟩ => k0_off31_eq i
  | ⟨15, _⟩ => k0_off32_eq i
  | ⟨n + 16, h⟩ => absurd h (by omega)
theorem zOff_inb (i : grid0.Coords) (j : Fin 16) : ∀ a, zOff i j a + S1x1x8x128.size a ≤ S16x8x8x128.size a := by
  intro a
  have hi : (i 1).val < 8 := (i 1).isLt
  rw [zOff_eq]
  fin_cases a
  · show j.val + 1 ≤ 16; omega
  · show (i 1).val + 1 ≤ 8; omega
  · exact Nat.le_refl 8
  · exact Nat.le_refl 128
theorem vOff_inb (j : Fin 16) : ∀ a, (![0, 128 * j.val] : Fin 2 → ℕ) a + S8x128.size a ≤ S8x2048.size a := by
  intro a
  fin_cases a
  · exact Nat.le_refl 8
  · show 128 * j.val + 128 ≤ 2048; omega
theorem sOff_inb (j : Fin 16) : ∀ a, (![j.val, 0, 0] : Fin 3 → ℕ) a + S1x8x128.size a ≤ S16x8x128.size a := by
  intro a
  fin_cases a
  · show j.val + 1 ≤ 16; omega
  · exact Nat.le_refl 8
  · exact Nat.le_refl 128

/-- The group's logits as loaded, a lane tile at a time. -/
def zLoad (arg18 : Memref sig .tc .vmem S16x8x8x128 .f32) (f : BufTy.Contents (Elt Ideal) arg18.view.ty) (i : grid0.Coords) (j : Fin 16) : Vec Ideal S1x1x8x128 .f32 :=
  View.readAt (Elt Ideal) arg18.view (Rect.unit (s := S16x8x8x128) (zOff i j) S1x1x8x128.size (zOff_inb i j)).toLoadRect f
/-- The values' norms as loaded. -/
def vLoad (arg15 : Memref sig .tc .vmem S8x2048 .f32) (f : BufTy.Contents (Elt Ideal) arg15.view.ty) (j : Fin 16) : Vec Ideal S8x128 .f32 :=
  View.readAt (Elt Ideal) arg15.view (Rect.unit (s := S8x2048) ![0, 128 * j.val] S8x128.size (vOff_inb j)).toLoadRect f
/-- The scores so far as loaded. -/
def sLoad (arg19 : Memref sig .tc .vmem S16x8x128 .f32) (f : BufTy.Contents (Elt Ideal) arg19.view.ty) (j : Fin 16) : Vec Ideal S1x8x128 .f32 :=
  View.readAt (Elt Ideal) arg19.view (Rect.unit (s := S16x8x128) ![j.val, 0, 0] S1x8x128.size (sOff_inb j)).toLoadRect f

theorem zLoad_off (off : Fin 4 → ℕ) (j : Fin 16) (h : Fin 8) (e : off = ![j.val, h.val, 0, 0]) (r : Fin 8) (l : Fin 128) (a : Fin 4) :
    ((ix4 j h r l : S16x8x8x128.Idx) a).val = off a + ((ix4 0 0 r l : S1x1x8x128.Idx) a).val := by
  subst e
  fin_cases a
  · rfl
  · rfl
  · show r.val = 0 + r.val; omega
  · show l.val = 0 + l.val; omega
theorem vLoad_off (j : Fin 16) (h : Fin 8) (l : Fin 128) (a : Fin 2) :
    ((ix2 h (tok j l) : S8x2048.Idx) a).val = (![0, 128 * j.val] : Fin 2 → ℕ) a + ((ix2 h l : S8x128.Idx) a).val := by
  fin_cases a
  · show h.val = 0 + h.val; omega
  · rfl
theorem sLoad_off (j : Fin 16) (h : Fin 8) (l : Fin 128) (a : Fin 3) :
    ((ix3 j h l : S16x8x128.Idx) a).val = (![j.val, 0, 0] : Fin 3 → ℕ) a + ((ix3 0 h l : S1x8x128.Idx) a).val := by
  fin_cases a
  · rfl
  · show h.val = 0 + h.val; omega
  · show l.val = 0 + l.val; omega

theorem zLoad_apply (Z : Fin 8 → Fin 8 → Fin 2048 → EReal) (arg18 : Memref sig .tc .vmem S16x8x8x128 .f32) (f : BufTy.Contents (Elt Ideal) arg18.view.ty) (i : grid0.Coords) (n : ℕ)
    (h18 : LogitsTo Z n (arg18.view.read (Elt Ideal) f)) (hn : (i 1).val < n) (j : Fin 16) (r : Fin 8) (l : Fin 128) : zLoad arg18 f i j (ix4 0 0 r l) = Z (kv i) r (tok j l) := by
  exact (View.ld_unit_apply_of (arg18.view.read (Elt Ideal) f) _ _ _ _ (ix4 j (kv i) r l) (zLoad_off _ j (kv i) (zOff_eq i j) r l)).trans (h18 j (kv i) r l hn)

theorem vLoad_apply (vn : Fin 8 → Fin 2048 → EReal) (arg15 : Memref sig .tc .vmem S8x2048 .f32) (f : BufTy.Contents (Elt Ideal) arg15.view.ty)
    (h15 : RowIs vn (arg15.view.read (Elt Ideal) f)) (j : Fin 16) (h : Fin 8) (l : Fin 128) : vLoad arg15 f j (ix2 h l) = vn h (tok j l) := by
  exact (View.ld_unit_apply_of (arg15.view.read (Elt Ideal) f) _ _ _ _ (ix2 h (tok j l)) (vLoad_off j h l)).trans (h15 h (tok j l))

theorem sLoad_apply (arg19 : Memref sig .tc .vmem S16x8x128 .f32) (f : BufTy.Contents (Elt Ideal) arg19.view.ty)
    (j : Fin 16) (h : Fin 8) (l : Fin 128) : sLoad arg19 f j (ix3 0 h l) = arg19.view.read (Elt Ideal) f (ix3 j h l) := by
  exact View.ld_unit_apply_of (arg19.view.read (Elt Ideal) f) _ _ _ _ (ix3 j h l) (sLoad_off j h l)

/-- The lane tiles as stored. -/
abbrev pieceS (p : Fin 16 → FVec Ideal S1x8x128 .f32) : List (View.Piece (Elt Ideal) S16x8x128 .f32) :=
  [⟨Rect.unit (s := S16x8x128) ![15, 0, 0] S1x8x128.size inb_S16x8x128_S1x8x128_15_0_0, p 15⟩, ⟨Rect.unit (s := S16x8x128) ![14, 0, 0] S1x8x128.size inb_S16x8x128_S1x8x128_14_0_0, p 14⟩, ⟨Rect.unit (s := S16x8x128) ![13, 0, 0] S1x8x128.size inb_S16x8x128_S1x8x128_13_0_0, p 13⟩, ⟨Rect.unit (s := S16x8x128) ![12, 0, 0] S1x8x128.size inb_S16x8x128_S1x8x128_12_0_0, p 12⟩, ⟨Rect.unit (s := S16x8x128) ![11, 0, 0] S1x8x128.size inb_S16x8x128_S1x8x128_11_0_0, p 11⟩, ⟨Rect.unit (s := S16x8x128) ![10, 0, 0] S1x8x128.size inb_S16x8x128_S1x8x128_10_0_0, p 10⟩, ⟨Rect.unit (s := S16x8x128) ![9, 0, 0] S1x8x128.size inb_S16x8x128_S1x8x128_9_0_0, p 9⟩, ⟨Rect.unit (s := S16x8x128) ![8, 0, 0] S1x8x128.size inb_S16x8x128_S1x8x128_8_0_0, p 8⟩, ⟨Rect.unit (s := S16x8x128) ![7, 0, 0] S1x8x128.size inb_S16x8x128_S1x8x128_7_0_0, p 7⟩, ⟨Rect.unit (s := S16x8x128) ![6, 0, 0] S1x8x128.size inb_S16x8x128_S1x8x128_6_0_0, p 6⟩, ⟨Rect.unit (s := S16x8x128) ![5, 0, 0] S1x8x128.size inb_S16x8x128_S1x8x128_5_0_0, p 5⟩, ⟨Rect.unit (s := S16x8x128) ![4, 0, 0] S1x8x128.size inb_S16x8x128_S1x8x128_4_0_0, p 4⟩, ⟨Rect.unit (s := S16x8x128) ![3, 0, 0] S1x8x128.size inb_S16x8x128_S1x8x128_3_0_0, p 3⟩, ⟨Rect.unit (s := S16x8x128) ![2, 0, 0] S1x8x128.size inb_S16x8x128_S1x8x128_2_0_0, p 2⟩, ⟨Rect.unit (s := S16x8x128) ![1, 0, 0] S1x8x128.size inb_S16x8x128_S1x8x128_1_0_0, p 1⟩, ⟨Rect.unit (s := S16x8x128) ![0, 0, 0] S1x8x128.size inb_S16x8x128_S1x8x128_0_0_0, p 0⟩]
/-- Lane tiles one after the other. -/
def stackS (p : Fin 16 → FVec Ideal S1x8x128 .f32) (y : S16x8x128.Idx) : EReal := p (y 0) (ix3 0 (y 1) (y 2))
theorem stackS_emb (p : Fin 16 → FVec Ideal S1x8x128 .f32) (j : Fin 16) (n : ℕ) (hn : n = j.val) (inb) (x : S1x8x128.Idx) :
    p j x = stackS p ((Rect.unit (s := S16x8x128) ![n, 0, 0] S1x8x128.size inb).emb x) := by
  subst hn
  idx_vars x
  have e0 : x0 = 0 := by omega
  subst e0
  have e : (Rect.unit (s := S16x8x128) ![j.val, 0, 0] S1x8x128.size inb).emb (ix3 0 x1 x2) = (ix3 j x1 x2 : S16x8x128.Idx) := by
    refine Rect.emb_eq_of_coords _ _ _ fun a => ?_
    fin_cases a
    · show j.val = j.val + 1 * 0; omega
    · show x1.val = 0 + 1 * x1.val; omega
    · show x2.val = 0 + 1 * x2.val; omega
  rw [e]; rfl

/-- A point leaves its own group's scores beside the earlier ones. -/
theorem scores_step (Z : Fin 8 → Fin 8 → Fin 2048 → EReal) (vn : Fin 8 → Fin 2048 → EReal) (i : grid0.Coords) (arg15 : Memref sig .tc .vmem S8x2048 .f32) (f15 : BufTy.Contents (Elt Ideal) arg15.view.ty) (h15 : RowIs vn (arg15.view.read (Elt Ideal) f15))
    (arg18 : Memref sig .tc .vmem S16x8x8x128 .f32) (f18 : BufTy.Contents (Elt Ideal) arg18.view.ty) (h18 : LogitsTo Z ((i 1).val + 1) (arg18.view.read (Elt Ideal) f18))
    (arg19 : Memref sig .tc .vmem S16x8x128 .f32) (f19 : BufTy.Contents (Elt Ideal) arg19.view.ty) (h19 : ScoresTo (fun h => sOf (Z h) (vn h)) (i 1).val (arg19.view.read (Elt Ideal) f19))
    (b19 : BufTy.Contents (Elt Ideal) arg19.view.ty) (p : Fin 16 → FVec Ideal S1x8x128 .f32) (hp : p = fun j : Fin 16 => smS (BitVec.ofNat 32 (i 1).val) (zLoad arg18 f18 i) j (vLoad arg15 f15 j) (sLoad arg19 f19 j)) :
    ScoresTo (fun h => sOf (Z h) (vn h)) ((i 1).val + 1) (arg19.view.read (Elt Ideal) (arg19.view.writes (Elt Ideal) b19 (pieceS p))) := by
  intro j h l hh
  rw [View.read_writes_apply_of_pieces (Val := Elt Ideal) _ _ (stackS p) (pieceS p) ?_ _ (View.cover_of_tiledL (pieceS p) S1x8x128.size (by sl_kernel_rfl) _)]
  · rw [hp]
    show smS (BitVec.ofNat 32 (kv i).val) (zLoad arg18 f18 i) j (vLoad arg15 f15 j) (sLoad arg19 f19 j) (ix3 0 h l) = _
    rw [smS_apply (Z (kv i)) (zLoad arg18 f18 i) (fun j r l => zLoad_apply Z arg18 f18 i _ h18 (Nat.lt_succ_self _) j r l), vLoad_apply vn arg15 f15 h15, sLoad_apply]
    by_cases e : h = kv i
    · subst e
      rw [if_pos rfl]; rfl
    · rw [if_neg e]
      refine h19 j h l ?_
      have : h.val ≠ (i 1).val := fun e' => e (Fin.ext e')
      omega
  · intro q hq x
    simp only [List.mem_cons, List.not_mem_nil, or_false] at hq
    rcases hq with rfl | rfl | rfl | rfl | rfl | rfl | rfl | rfl | rfl | rfl | rfl | rfl | rfl | rfl | rfl | rfl
    · exact stackS_emb p 15 15 rfl inb_S16x8x128_S1x8x128_15_0_0 x
    · exact stackS_emb p 14 14 rfl inb_S16x8x128_S1x8x128_14_0_0 x
    · exact stackS_emb p 13 13 rfl inb_S16x8x128_S1x8x128_13_0_0 x
    · exact stackS_emb p 12 12 rfl inb_S16x8x128_S1x8x128_12_0_0 x
    · exact stackS_emb p 11 11 rfl inb_S16x8x128_S1x8x128_11_0_0 x
    · exact stackS_emb p 10 10 rfl inb_S16x8x128_S1x8x128_10_0_0 x
    · exact stackS_emb p 9 9 rfl inb_S16x8x128_S1x8x128_9_0_0 x
    · exact stackS_emb p 8 8 rfl inb_S16x8x128_S1x8x128_8_0_0 x
    · exact stackS_emb p 7 7 rfl inb_S16x8x128_S1x8x128_7_0_0 x
    · exact stackS_emb p 6 6 rfl inb_S16x8x128_S1x8x128_6_0_0 x
    · exact stackS_emb p 5 5 rfl inb_S16x8x128_S1x8x128_5_0_0 x
    · exact stackS_emb p 4 4 rfl inb_S16x8x128_S1x8x128_4_0_0 x
    · exact stackS_emb p 3 3 rfl inb_S16x8x128_S1x8x128_3_0_0 x
    · exact stackS_emb p 2 2 rfl inb_S16x8x128_S1x8x128_2_0_0 x
    · exact stackS_emb p 1 1 rfl inb_S16x8x128_S1x8x128_1_0_0 x
    · exact stackS_emb p 0 0 rfl inb_S16x8x128_S1x8x128_0_0_0 x

end Cert.Proof.KernelIdeal

end
-- ==== Proof.Epilogue.lean ====
/-
  The last point of a batch: the two output blocks, out of the scratch of the logits and of the scores.
-/
module

public import proofs.«01_k».proof.Proof.Scores

@[expose] public section

set_option maxRecDepth 16384

noncomputable section

namespace Cert.Proof.KernelIdeal

open Cert.KernelIdeal Cert.KernelIdeal.Gen
open Idealize.ShloMosaic Idealize.ShloMosaic.Tactic

theorem oOff_inb (j : Fin 16) (h : Fin 8) : ∀ a, (![j.val, h.val, 0, 0] : Fin 4 → ℕ) a + S1x1x7x128.size a ≤ S16x8x8x128.size a := by
  intro a
  fin_cases a
  · show j.val + 1 ≤ 16; omega
  · show h.val + 1 ≤ 8; omega
  · show 0 + 7 ≤ 8; omega
  · exact Nat.le_refl 128
/-- A group's logits in a lane tile as loaded for the output. -/
def oLoad (arg18 : Memref sig .tc .vmem S16x8x8x128 .f32) (f : BufTy.Contents (Elt Ideal) arg18.view.ty) (j : Fin 16) (h : Fin 8) : Vec Ideal S1x1x7x128 .f32 :=
  View.readAt (Elt Ideal) arg18.view (Rect.unit (s := S16x8x8x128) ![j.val, h.val, 0, 0] S1x1x7x128.size (oOff_inb j h)).toLoadRect f
theorem oLoad_apply (Z : Fin 8 → Fin 8 → Fin 2048 → EReal) (arg18 : Memref sig .tc .vmem S16x8x8x128 .f32) (f : BufTy.Contents (Elt Ideal) arg18.view.ty)
    (h18 : LogitsTo Z 8 (arg18.view.read (Elt Ideal) f)) (j : Fin 16) (h : Fin 8) (g : Fin 7) (l : Fin 128) : oLoad arg18 f j h (ix4 0 0 g l) = Z h g.castSucc (tok j l) := by
  refine (View.ld_unit_apply_of (arg18.view.read (Elt Ideal) f) _ _ _ _ (ix4 j h g.castSucc l) fun a => ?_).trans (h18 j h g.castSucc l h.isLt)
  fin_cases a
  · rfl
  · rfl
  · show g.val = 0 + g.val; omega
  · show l.val = 0 + l.val; omega

/-- A lane tile of the two outputs side by side, the tokens along the rows. -/
def outT (arg18 : Memref sig .tc .vmem S16x8x8x128 .f32) (f18 : BufTy.Contents (Elt Ideal) arg18.view.ty) (arg19 : Memref sig .tc .vmem S16x8x128 .f32) (f19 : BufTy.Contents (Elt Ideal) arg19.view.ty) (j : Fin 16) : FVec Ideal S128x64 .f32 :=
  k0_pay213 (oLoad arg18 f18 j 0) (oLoad arg18 f18 j 1) (oLoad arg18 f18 j 2) (oLoad arg18 f18 j 3) (oLoad arg18 f18 j 4) (oLoad arg18 f18 j 5) (oLoad arg18 f18 j 6) (oLoad arg18 f18 j 7) (sLoad arg19 f19 j)

section
variable (Z : Fin 8 → Fin 8 → Fin 2048 → EReal) (Sc : Fin 8 → Fin 2048 → EReal) (arg18 : Memref sig .tc .vmem S16x8x8x128 .f32) (f18 : BufTy.Contents (Elt Ideal) arg18.view.ty) (h18 : LogitsTo Z 8 (arg18.view.read (Elt Ideal) f18))
  (arg19 : Memref sig .tc .vmem S16x8x128 .f32) (f19 : BufTy.Contents (Elt Ideal) arg19.view.ty) (h19 : ScoresTo Sc 8 (arg19.view.read (Elt Ideal) f19))

include h18 in
theorem outT_z (j : Fin 16) (h : Fin 8) (g : Fin 7) (l : Fin 128) : outT arg18 f18 arg19 f19 j (ix2 l ⟨7 * h.val + g.val, by omega⟩) = Z h g.castSucc (tok j l) := by
  rw [← oLoad_apply Z arg18 f18 h18 j h g l]
  pointwise [outT, k0_pay213]
  fin_cases h <;> fin_cases g <;> rfl
include h19 in
theorem outT_s (j : Fin 16) (h : Fin 8) (l : Fin 128) : outT arg18 f18 arg19 f19 j (ix2 l ⟨56 + h.val, by omega⟩) = Sc h (tok j l) := by
  refine Eq.trans ?_ ((sLoad_apply arg19 f19 j h l).trans (h19 j h l h.isLt))
  pointwise [outT, k0_pay213]
  fin_cases h <;> rfl
end

/-- The lane tiles of an output block of width 8 as stored. -/
abbrev pieceO8 (p : Fin 16 → FVec Ideal S1x128x8 .f32) : List (View.Piece (Elt Ideal) S1x2048x8 .f32) :=
  [⟨Rect.unit (s := S1x2048x8) ![0, 1920, 0] S1x128x8.size inb_S1x2048x8_S1x128x8_0_1920_0, p 15⟩, ⟨Rect.unit (s := S1x2048x8) ![0, 1792, 0] S1x128x8.size inb_S1x2048x8_S1x128x8_0_1792_0, p 14⟩, ⟨Rect.unit (s := S1x2048x8) ![0, 1664, 0] S1x128x8.size inb_S1x2048x8_S1x128x8_0_1664_0, p 13⟩, ⟨Rect.unit (s := S1x2048x8) ![0, 1536, 0] S1x128x8.size inb_S1x2048x8_S1x128x8_0_1536_0, p 12⟩, ⟨Rect.unit (s := S1x2048x8) ![0, 1408, 0] S1x128x8.size inb_S1x2048x8_S1x128x8_0_1408_0, p 11⟩, ⟨Rect.unit (s := S1x2048x8) ![0, 1280, 0] S1x128x8.size inb_S1x2048x8_S1x128x8_0_1280_0, p 10⟩, ⟨Rect.unit (s := S1x2048x8) ![0, 1152, 0] S1x128x8.size inb_S1x2048x8_S1x128x8_0_1152_0, p 9⟩, ⟨Rect.unit (s := S1x2048x8) ![0, 1024, 0] S1x128x8.size inb_S1x2048x8_S1x128x8_0_1024_0, p 8⟩, ⟨Rect.unit (s := S1x2048x8) ![0, 896, 0] S1x128x8.size inb_S1x2048x8_S1x128x8_0_896_0, p 7⟩, ⟨Rect.unit (s := S1x2048x8) ![0, 768, 0] S1x128x8.size inb_S1x2048x8_S1x128x8_0_768_0, p 6⟩, ⟨Rect.unit (s := S1x2048x8) ![0, 640, 0] S1x128x8.size inb_S1x2048x8_S1x128x8_0_640_0, p 5⟩, ⟨Rect.unit (s := S1x2048x8) ![0, 512, 0] S1x128x8.size inb_S1x2048x8_S1x128x8_0_512_0, p 4⟩, ⟨Rect.unit (s := S1x2048x8) ![0, 384, 0] S1x128x8.size inb_S1x2048x8_S1x128x8_0_384_0, p 3⟩, ⟨Rect.unit (s := S1x2048x8) ![0, 256, 0] S1x128x8.size inb_S1x2048x8_S1x128x8_0_256_0, p 2⟩, ⟨Rect.unit (s := S1x2048x8) ![0, 128, 0] S1x128x8.size inb_S1x2048x8_S1x128x8_0_128_0, p 1⟩, ⟨Rect.unit (s := S1x2048x8) ![0, 0, 0] S1x128x8.size inb_S1x2048x8_S1x128x8_0_0_0, p 0⟩]
/-- Lane tiles of width 8 one after the other. -/
def stackO8 (p : Fin 16 → FVec Ideal S1x128x8 .f32) (y : S1x2048x8.Idx) : EReal :=
  p ⟨(y 1).val / 128, by have : (y 1).val < 2048 := (y 1).isLt; omega⟩ (ix3 0 ⟨(y 1).val % 128, by omega⟩ (y 2))
theorem stackO8_at (p : Fin 16 → FVec Ideal S1x128x8 .f32) (j : Fin 16) (l : Fin 128) (e : Fin 8) : stackO8 p (ix3 0 (tok j l) e) = p j (ix3 0 l e) := by
  have e1 : (⟨(128 * j.val + l.val) / 128, by omega⟩ : Fin 16) = j := by ext; show (128 * j.val + l.val) / 128 = j.val; omega
  have e2 : (⟨(128 * j.val + l.val) % 128, by omega⟩ : Fin 128) = l := by ext; show (128 * j.val + l.val) % 128 = l.val; omega
  show p ⟨(128 * j.val + l.val) / 128, _⟩ (ix3 0 ⟨(128 * j.val + l.val) % 128, _⟩ e) = _
  rw [e1, e2]
theorem stackO8_emb (p : Fin 16 → FVec Ideal S1x128x8 .f32) (j : Fin 16) (n : ℕ) (hn : n = 128 * j.val) (inb) (x : S1x128x8.Idx) :
    p j x = stackO8 p ((Rect.unit (s := S1x2048x8) ![0, n, 0] S1x128x8.size inb).emb x) := by
  subst hn
  idx_vars x
  have e0 : x0 = 0 := by omega
  subst e0
  refine (stackO8_at p j x1 x2).symm.trans (congrArg (stackO8 p) (Rect.emb_eq_of_coords _ _ _ fun a => ?_).symm)
  fin_cases a
  · rfl
  · show 128 * j.val + x1.val = 128 * j.val + 1 * x1.val; omega
  · show x2.val = 0 + 1 * x2.val; omega
theorem readO8 (arg : Memref sig .tc .vmem S1x2048x8 .f32) (f : BufTy.Contents (Elt Ideal) arg.view.ty) (p : Fin 16 → FVec Ideal S1x128x8 .f32) (t : Fin 2048) (e : Fin 8) :
    arg.view.read (Elt Ideal) (arg.view.writes (Elt Ideal) f (pieceO8 p)) (ix3 0 t e) = p ⟨t.val / 128, by omega⟩ (ix3 0 ⟨t.val % 128, by omega⟩ e) := by
  rw [View.read_writes_apply_of_pieces (Val := Elt Ideal) _ _ (stackO8 p) (pieceO8 p) ?_ _ (View.cover_of_tiledL (pieceO8 p) S1x128x8.size (by sl_kernel_rfl) _)]
  · rfl
  · intro q hq x
    simp only [List.mem_cons, List.not_mem_nil, or_false] at hq
    rcases hq with rfl | rfl | rfl | rfl | rfl | rfl | rfl | rfl | rfl | rfl | rfl | rfl | rfl | rfl | rfl | rfl
    · exact stackO8_emb p 15 1920 rfl inb_S1x2048x8_S1x128x8_0_1920_0 x
    · exact stackO8_emb p 14 1792 rfl inb_S1x2048x8_S1x128x8_0_1792_0 x
    · exact stackO8_emb p 13 1664 rfl inb_S1x2048x8_S1x128x8_0_1664_0 x
    · exact stackO8_emb p 12 1536 rfl inb_S1x2048x8_S1x128x8_0_1536_0 x
    · exact stackO8_emb p 11 1408 rfl inb_S1x2048x8_S1x128x8_0_1408_0 x
    · exact stackO8_emb p 10 1280 rfl inb_S1x2048x8_S1x128x8_0_1280_0 x
    · exact stackO8_emb p 9 1152 rfl inb_S1x2048x8_S1x128x8_0_1152_0 x
    · exact stackO8_emb p 8 1024 rfl inb_S1x2048x8_S1x128x8_0_1024_0 x
    · exact stackO8_emb p 7 896 rfl inb_S1x2048x8_S1x128x8_0_896_0 x
    · exact stackO8_emb p 6 768 rfl inb_S1x2048x8_S1x128x8_0_768_0 x
    · exact stackO8_emb p 5 640 rfl inb_S1x2048x8_S1x128x8_0_640_0 x
    · exact stackO8_emb p 4 512 rfl inb_S1x2048x8_S1x128x8_0_512_0 x
    · exact stackO8_emb p 3 384 rfl inb_S1x2048x8_S1x128x8_0_384_0 x
    · exact stackO8_emb p 2 256 rfl inb_S1x2048x8_S1x128x8_0_256_0 x
    · exact stackO8_emb p 1 128 rfl inb_S1x2048x8_S1x128x8_0_128_0 x
    · exact stackO8_emb p 0 0 rfl inb_S1x2048x8_S1x128x8_0_0_0 x

/-- The lane tiles of an output block of width 56 as stored. -/
abbrev pieceO56 (p : Fin 16 → FVec Ideal S1x128x56 .f32) : List (View.Piece (Elt Ideal) S1x2048x56 .f32) :=
  [⟨Rect.unit (s := S1x2048x56) ![0, 1920, 0] S1x128x56.size inb_S1x2048x56_S1x128x56_0_1920_0, p 15⟩, ⟨Rect.unit (s := S1x2048x56) ![0, 1792, 0] S1x128x56.size inb_S1x2048x56_S1x128x56_0_1792_0, p 14⟩, ⟨Rect.unit (s := S1x2048x56) ![0, 1664, 0] S1x128x56.size inb_S1x2048x56_S1x128x56_0_1664_0, p 13⟩, ⟨Rect.unit (s := S1x2048x56) ![0, 1536, 0] S1x128x56.size inb_S1x2048x56_S1x128x56_0_1536_0, p 12⟩, ⟨Rect.unit (s := S1x2048x56) ![0, 1408, 0] S1x128x56.size inb_S1x2048x56_S1x128x56_0_1408_0, p 11⟩, ⟨Rect.unit (s := S1x2048x56) ![0, 1280, 0] S1x128x56.size inb_S1x2048x56_S1x128x56_0_1280_0, p 10⟩, ⟨Rect.unit (s := S1x2048x56) ![0, 1152, 0] S1x128x56.size inb_S1x2048x56_S1x128x56_0_1152_0, p 9⟩, ⟨Rect.unit (s := S1x2048x56) ![0, 1024, 0] S1x128x56.size inb_S1x2048x56_S1x128x56_0_1024_0, p 8⟩, ⟨Rect.unit (s := S1x2048x56) ![0, 896, 0] S1x128x56.size inb_S1x2048x56_S1x128x56_0_896_0, p 7⟩, ⟨Rect.unit (s := S1x2048x56) ![0, 768, 0] S1x128x56.size inb_S1x2048x56_S1x128x56_0_768_0, p 6⟩, ⟨Rect.unit (s := S1x2048x56) ![0, 640, 0] S1x128x56.size inb_S1x2048x56_S1x128x56_0_640_0, p 5⟩, ⟨Rect.unit (s := S1x2048x56) ![0, 512, 0] S1x128x56.size inb_S1x2048x56_S1x128x56_0_512_0, p 4⟩, ⟨Rect.unit (s := S1x2048x56) ![0, 384, 0] S1x128x56.size inb_S1x2048x56_S1x128x56_0_384_0, p 3⟩, ⟨Rect.unit (s := S1x2048x56) ![0, 256, 0] S1x128x56.size inb_S1x2048x56_S1x128x56_0_256_0, p 2⟩, ⟨Rect.unit (s := S1x2048x56) ![0, 128, 0] S1x128x56.size inb_S1x2048x56_S1x128x56_0_128_0, p 1⟩, ⟨Rect.unit (s := S1x2048x56) ![0, 0, 0] S1x128x56.size inb_S1x2048x56_S1x128x56_0_0_0, p 0⟩]
/-- Lane tiles of width 56 one after the other. -/
def stackO56 (p : Fin 16 → FVec Ideal S1x128x56 .f32) (y : S1x2048x56.Idx) : EReal :=
  p ⟨(y 1).val / 128, by have : (y 1).val < 2048 := (y 1).isLt; omega⟩ (ix3 0 ⟨(y 1).val % 128, by omega⟩ (y 2))
theorem stackO56_at (p : Fin 16 → FVec Ideal S1x128x56 .f32) (j : Fin 16) (l : Fin 128) (e : Fin 56) : stackO56 p (ix3 0 (tok j l) e) = p j (ix3 0 l e) := by
  have e1 : (⟨(128 * j.val + l.val) / 128, by omega⟩ : Fin 16) = j := by ext; show (128 * j.val + l.val) / 128 = j.val; omega
  have e2 : (⟨(128 * j.val + l.val) % 128, by omega⟩ : Fin 128) = l := by ext; show (128 * j.val + l.val) % 128 = l.val; omega
  show p ⟨(128 * j.val + l.val) / 128, _⟩ (ix3 0 ⟨(128 * j.val + l.val) % 128, _⟩ e) = _
  rw [e1, e2]
theorem stackO56_emb (p : Fin 16 → FVec Ideal S1x128x56 .f32) (j : Fin 16) (n : ℕ) (hn : n = 128 * j.val) (inb) (x : S1x128x56.Idx) :
    p j x = stackO56 p ((Rect.unit (s := S1x2048x56) ![0, n, 0] S1x128x56.size inb).emb x) := by
  subst hn
  idx_vars x
  have e0 : x0 = 0 := by omega
  subst e0
  refine (stackO56_at p j x1 x2).symm.trans (congrArg (stackO56 p) (Rect.emb_eq_of_coords _ _ _ fun a => ?_).symm)
  fin_cases a
  · rfl
  · show 128 * j.val + x1.val = 128 * j.val + 1 * x1.val; omega
  · show x2.val = 0 + 1 * x2.val; omega
theorem readO56 (arg : Memref sig .tc .vmem S1x2048x56 .f32) (f : BufTy.Contents (Elt Ideal) arg.view.ty) (p : Fin 16 → FVec Ideal S1x128x56 .f32) (t : Fin 2048) (e : Fin 56) :
    arg.view.read (Elt Ideal) (arg.view.writes (Elt Ideal) f (pieceO56 p)) (ix3 0 t e) = p ⟨t.val / 128, by omega⟩ (ix3 0 ⟨t.val % 128, by omega⟩ e) := by
  rw [View.read_writes_apply_of_pieces (Val := Elt Ideal) _ _ (stackO56 p) (pieceO56 p) ?_ _ (View.cover_of_tiledL (pieceO56 p) S1x128x56.size (by sl_kernel_rfl) _)]
  · rfl
  · intro q hq x
    simp only [List.mem_cons, List.not_mem_nil, or_false] at hq
    rcases hq with rfl | rfl | rfl | rfl | rfl | rfl | rfl | rfl | rfl | rfl | rfl | rfl | rfl | rfl | rfl | rfl
    · exact stackO56_emb p 15 1920 rfl inb_S1x2048x56_S1x128x56_0_1920_0 x
    · exact stackO56_emb p 14 1792 rfl inb_S1x2048x56_S1x128x56_0_1792_0 x
    · exact stackO56_emb p 13 1664 rfl inb_S1x2048x56_S1x128x56_0_1664_0 x
    · exact stackO56_emb p 12 1536 rfl inb_S1x2048x56_S1x128x56_0_1536_0 x
    · exact stackO56_emb p 11 1408 rfl inb_S1x2048x56_S1x128x56_0_1408_0 x
    · exact stackO56_emb p 10 1280 rfl inb_S1x2048x56_S1x128x56_0_1280_0 x
    · exact stackO56_emb p 9 1152 rfl inb_S1x2048x56_S1x128x56_0_1152_0 x
    · exact stackO56_emb p 8 1024 rfl inb_S1x2048x56_S1x128x56_0_1024_0 x
    · exact stackO56_emb p 7 896 rfl inb_S1x2048x56_S1x128x56_0_896_0 x
    · exact stackO56_emb p 6 768 rfl inb_S1x2048x56_S1x128x56_0_768_0 x
    · exact stackO56_emb p 5 640 rfl inb_S1x2048x56_S1x128x56_0_640_0 x
    · exact stackO56_emb p 4 512 rfl inb_S1x2048x56_S1x128x56_0_512_0 x
    · exact stackO56_emb p 3 384 rfl inb_S1x2048x56_S1x128x56_0_384_0 x
    · exact stackO56_emb p 2 256 rfl inb_S1x2048x56_S1x128x56_0_256_0 x
    · exact stackO56_emb p 1 128 rfl inb_S1x2048x56_S1x128x56_0_128_0 x
    · exact stackO56_emb p 0 0 rfl inb_S1x2048x56_S1x128x56_0_0_0 x

section
variable (Z : Fin 8 → Fin 8 → Fin 2048 → EReal) (Sc : Fin 8 → Fin 2048 → EReal) (arg18 : Memref sig .tc .vmem S16x8x8x128 .f32) (f18 : BufTy.Contents (Elt Ideal) arg18.view.ty) (h18 : LogitsTo Z 8 (arg18.view.read (Elt Ideal) f18))
  (arg19 : Memref sig .tc .vmem S16x8x128 .f32) (f19 : BufTy.Contents (Elt Ideal) arg19.view.ty) (h19 : ScoresTo Sc 8 (arg19.view.read (Elt Ideal) f19))

include h18 in
/-- The block of the logits. -/
theorem z_out (arg10 : Memref sig .tc .vmem S1x2048x56 .f32) (f10 : BufTy.Contents (Elt Ideal) arg10.view.ty) (p : Fin 16 → FVec Ideal S1x128x56 .f32)
    (hp : p = fun j : Fin 16 => k0_pay2 (extractStridedSlice S128x56 ![0, 0] (outT arg18 f18 arg19 f19 j) slices_S128x64_o0_0_S128x56)) :
    ZOut Z (arg10.view.read (Elt Ideal) (arg10.view.writes (Elt Ideal) f10 (pieceO56 p))) := by
  intro t h g
  have e : t = tok ⟨t.val / 128, by omega⟩ ⟨t.val % 128, by omega⟩ := by ext; show t.val = 128 * (t.val / 128) + t.val % 128; omega
  rw [readO56, hp]
  pointwise [k0_pay2]
  exact (outT_z Z arg18 f18 h18 arg19 f19 _ h g _).trans (congrArg (Z h g.castSucc) e.symm)

include h19 in
/-- The block of the scores. -/
theorem s_out (arg9 : Memref sig .tc .vmem S1x2048x8 .f32) (f9 : BufTy.Contents (Elt Ideal) arg9.view.ty) (p : Fin 16 → FVec Ideal S1x128x8 .f32)
    (hp : p = fun j : Fin 16 => k0_pay3 (outT arg18 f18 arg19 f19 j)) :
    SOut Sc (arg9.view.read (Elt Ideal) (arg9.view.writes (Elt Ideal) f9 (pieceO8 p))) := by
  intro t h
  have e : t = tok ⟨t.val / 128, by omega⟩ ⟨t.val % 128, by omega⟩ := by ext; show t.val = 128 * (t.val / 128) + t.val % 128; omega
  rw [readO8, hp]
  pointwise [k0_pay3]
  exact (outT_s Sc arg18 f18 arg19 f19 h19 _ h _).trans (congrArg (Sc h) e.symm)
end

end Cert.Proof.KernelIdeal

end
-- ==== Proof.BodyVal.lean ====
/-
  The kernel body of `KernelIdeal` over the extended reals: what it leaves in its scratch and in its two output blocks.
-/
module

public import proofs.«01_k».proof.Proof.KernelIdealRun
public import proofs.«01_k».proof.Proof.Epilogue

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The algebra's propositions. -/
local notation "𝕄" => MT nD τ sig Unit (Elt Ideal) ℕ (UU nD τ) ℕ

theorem cond2_of (i : grid0.Coords) (h : (i 1).val = 7) : k0_cond2 i = 1#1 := by
  have e : i 1 = (7 : Fin 8) := Fin.ext h
  unfold k0_cond2
  rw [e]
  decide

set_option maxHeartbeats 8000000 in
set_option maxRecDepth 65536 in
/-- The body, given what the first point's part leaves. -/
theorem body_val (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (C S : Fin 128 → EReal) (Q : Fin 320 → Fin 56 → Fin 128 → EReal) (K : Fin 8 → Fin 128 → Fin 2048 → EReal) (ks vn : Fin 8 → Fin 2048 → EReal)
    (hinit : (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, ⌜(fun X => (i 1).val ≠ 0 → CwIs C S X) (arg11.view.read (Elt Ideal) f)⌝ ∗ (arg11.view.loc (c : Thread nD τ) ↦[arg11.view.set]{fullShare} f)) ∗ (∃ f : BufTy.Contents (Elt Ideal) arg12.view.ty, ⌜(fun X => (i 1).val ≠ 0 → KtIs K X) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(fun X => (i 1).val ≠ 0 → RowIs ks X) (arg14.view.read (Elt Ideal) f)⌝ ∗ (arg14.view.loc (c : Thread nD τ) ↦[arg14.view.set]{fullShare} f)) ∗ (∃ f : BufTy.Contents (Elt Ideal) arg15.view.ty, ⌜(fun X => (i 1).val ≠ 0 → RowIs vn X) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) (i 1).val) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) (i 1).val) (arg19.view.read (Elt Ideal) f)⌝ ∗ (arg19.view.loc (c : Thread nD τ) ↦[arg19.view.set]{fullShare} f)) ∗ (∃ f : BufTy.Contents (Elt Ideal) arg20.view.ty, ⌜(fun X => (i 1).val ≠ 0 → QxIs Q X) (arg20.view.read (Elt Ideal) f)⌝ ∗ (arg20.view.loc (c : Thread nD τ) ↦[arg20.view.set]{fullShare} f))) : sProp 𝕄)
      ⊢ wp frame (wpE (defs₀ (F := Ideal)) 𝒱₀ (c : Thread nD τ) none) Set.univ (initM (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, ⌜(CwIs C S) (arg11.view.read (Elt Ideal) f)⌝ ∗ (arg11.view.loc (c : Thread nD τ) ↦[arg11.view.set]{fullShare} f)) ∗ (∃ f : BufTy.Contents (Elt Ideal) arg12.view.ty, ⌜(KtIs K) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(RowIs ks) (arg14.view.read (Elt Ideal) f)⌝ ∗ (arg14.view.loc (c : Thread nD τ) ↦[arg14.view.set]{fullShare} f)) ∗ (∃ f : BufTy.Contents (Elt Ideal) arg15.view.ty, ⌜(RowIs vn) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) (i 1).val) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) (i 1).val) (arg19.view.read (Elt Ideal) f)⌝ ∗ (arg19.view.loc (c : Thread nD τ) ↦[arg19.view.set]{fullShare} f)) ∗ (∃ f : BufTy.Contents (Elt Ideal) arg20.view.ty, ⌜(QxIs Q) (arg20.view.read (Elt Ideal) f)⌝ ∗ (arg20.view.loc (c : Thread nD τ) ↦[arg20.view.set]{fullShare} f))))) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, ⌜(fun X => (i 1).val ≠ 0 → CwIs C S X) (arg11.view.read (Elt Ideal) f)⌝ ∗ (arg11.view.loc (c : Thread nD τ) ↦[arg11.view.set]{fullShare} f)) ∗ (∃ f : BufTy.Contents (Elt Ideal) arg12.view.ty, ⌜(fun X => (i 1).val ≠ 0 → KtIs K X) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(fun X => (i 1).val ≠ 0 → RowIs ks X) (arg14.view.read (Elt Ideal) f)⌝ ∗ (arg14.view.loc (c : Thread nD τ) ↦[arg14.view.set]{fullShare} f)) ∗ (∃ f : BufTy.Contents (Elt Ideal) arg15.view.ty, ⌜(fun X => (i 1).val ≠ 0 → RowIs vn X) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) (i 1).val) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) (i 1).val) (arg19.view.read (Elt Ideal) f)⌝ ∗ (arg19.view.loc (c : Thread nD τ) ↦[arg19.view.set]{fullShare} f)) ∗ (∃ f : BufTy.Contents (Elt Ideal) arg20.view.ty, ⌜(fun X => (i 1).val ≠ 0 → QxIs Q X) (arg20.view.read (Elt Ideal) f)⌝ ∗ (arg20.view.loc (c : Thread nD τ) ↦[arg20.view.set]{fullShare} f))) : sProp 𝕄)
      ⊢ wp frame (wpE (defs₀ (F := Ideal)) 𝒱₀ (c : Thread nD τ) none) Set.univ (cc0_expected_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, ⌜(fun X => (i 1).val = 7 → SOut (fun h => sOf (ZQ C S Q K ks h) (vn h)) X) (arg9.view.read (Elt Ideal) f)⌝ ∗ (arg9.view.loc (c : Thread nD τ) ↦[arg9.view.set]{fullShare} f)) ∗ (∃ f : BufTy.Contents (Elt Ideal) arg10.view.ty, ⌜(fun X => (i 1).val = 7 → ZOut (ZQ C S Q K ks) X) (arg10.view.read (Elt Ideal) f)⌝ ∗ (arg10.view.loc (c : Thread nD τ) ↦[arg10.view.set]{fullShare} f)) ∗ (∃ f : BufTy.Contents (Elt Ideal) arg11.view.ty, ⌜(CwIs C S) (arg11.view.read (Elt Ideal) f)⌝ ∗ (arg11.view.loc (c : Thread nD τ) ↦[arg11.view.set]{fullShare} f)) ∗ (∃ f : BufTy.Contents (Elt Ideal) arg12.view.ty, ⌜(KtIs K) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(RowIs ks) (arg14.view.read (Elt Ideal) f)⌝ ∗ (arg14.view.loc (c : Thread nD τ) ↦[arg14.view.set]{fullShare} f)) ∗ (∃ f : BufTy.Contents (Elt Ideal) arg15.view.ty, ⌜(RowIs vn) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) ((i 1).val + 1)) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) ((i 1).val + 1)) (arg19.view.read (Elt Ideal) f)⌝ ∗ (arg19.view.loc (c : Thread nD τ) ↦[arg19.view.set]{fullShare} f)) ∗ (∃ f : BufTy.Contents (Elt Ideal) arg20.view.ty, ⌜(QxIs Q) (arg20.view.read (Elt Ideal) f)⌝ ∗ (arg20.view.loc (c : Thread nD τ) ↦[arg20.view.set]{fullShare} f)))) := by
  rw [cc0_expected_attention_eq_skeleton]
  unfold cc0_expected_attention_skel
  rw [k0_part50_cut, bind_assoc, wp_bind]
  iintro H
  iapply (wp_wand_r frame (wpE (defs₀ (F := Ideal)) 𝒱₀ (c : Thread nD τ) none) Set.univ)
  isplitl [H]
  · iapply hinit; iexact H
  · clear hinit
    iintro %_ ⟨H2, H3, H4, H5, H6, H7, H8, ⟨%f9, H9⟩, ⟨%f10, H10⟩, ⟨%f11, %h11, H11⟩, ⟨%f12, %h12, H12⟩, ⟨%f13, H13⟩, ⟨%f14, %h14, H14⟩, ⟨%f15, %h15, H15⟩, ⟨%f16, H16⟩, ⟨%f17, H17⟩, ⟨%f18, %h18, H18⟩, ⟨%f19, %h19, H19⟩, ⟨%f20, %h20, H20⟩⟩
    unfold tail50
    sl_exec_parts
    sl_step
    have h18' : LogitsTo (ZQ C S Q K ks) ((i 1).val + 1) (arg18.view.read (Elt Ideal) (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st)))) :=
      logits_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) f18 (WQ C S Q (kv i)) (MQ C S Q (kv i)) K ks (ZQ C S Q K ks) rfl
        (groups_M C S Q arg11 f11 h11 arg20 f20 h20 i arg17 (fun g : Fin 7 => linOf (cRow arg11 f11) (sRow arg11 f11) (qOf arg20 f20 i (BitVec.ofNat 32 g.val) (inb13 i g))) rfl) h12 h14 (groups_W C S Q arg11 f11 h11 arg20 f20 h20 i arg16 arg16.view.junk (fun g : Fin 7 => quadOf (cRow arg11 f11) (sRow arg11 f11) (cCol arg11 f11) (sCol arg11 f11) (qOf arg20 f20 i (BitVec.ofNat 32 g.val) (inb13 i g))) rfl) (fun d e => rfl) (fun r t => rfl) h18
    have h19' : ScoresTo (fun h => sOf (ZQ C S Q K ks h) (vn h)) ((i 1).val + 1) (arg19.view.read (Elt Ideal) (arg19.view.writes (Elt Ideal) f19 (body_val.sl.H19_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f11 f12 f14 f15 f18 f19 f20))) :=
      scores_step (ZQ C S Q K ks) vn i arg15 f15 h15 arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) h18' arg19 f19 h19 f19 (fun j : Fin 16 => smS (BitVec.ofNat 32 (i 1).val) (zLoad arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) i) j (vLoad arg15 f15 j) (sLoad arg19 f19 j)) rfl
    have h19j : ScoresTo (fun h => sOf (ZQ C S Q K ks h) (vn h)) ((i 1).val + 1) (arg19.view.read (Elt Ideal) (arg19.view.writes (Elt Ideal) arg19.view.junk (body_val.sl.H19_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f11 f12 f14 f15 f18 f19 f20))) :=
      scores_step (ZQ C S Q K ks) vn i arg15 f15 h15 arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) h18' arg19 f19 h19 arg19.view.junk (fun j : Fin 16 => smS (BitVec.ofNat 32 (i 1).val) (zLoad arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) i) j (vLoad arg15 f15 j) (sLoad arg19 f19 j)) rfl
    have h9' : (i 1).val = 7 → SOut (fun h => sOf (ZQ C S Q K ks h) (vn h)) (arg9.view.read (Elt Ideal) (arg9.view.writes (Elt Ideal) f9 (pieceO8 (fun j : Fin 16 => k0_pay3 (outT arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) arg19 (arg19.view.writes (Elt Ideal) arg19.view.junk (body_val.sl.H19_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f11 f12 f14 f15 f18 f19 f20)) j))))) := fun h7 =>
      s_out _ arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) arg19 (arg19.view.writes (Elt Ideal) arg19.view.junk (body_val.sl.H19_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f11 f12 f14 f15 f18 f19 f20)) (fun j h l _ => h19j j h l (by have := h.isLt; omega)) arg9 f9 _ rfl
    have h10' : (i 1).val = 7 → ZOut (ZQ C S Q K ks) (arg10.view.read (Elt Ideal) (arg10.view.writes (Elt Ideal) f10 (pieceO56 (fun j : Fin 16 => k0_pay2 (extractStridedSlice S128x56 ![0, 0] (outT arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) arg19 (arg19.view.writes (Elt Ideal) arg19.view.junk (body_val.sl.H19_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f11 f12 f14 f15 f18 f19 f20)) j) slices_S128x64_o0_0_S128x56))))) := fun h7 =>
      z_out _ arg18 (arg18.view.writes (Elt Ideal) f18 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) (body_val.sl.r arg11 f11) (body_val.sl.r_1 arg11 f11) (body_val.sl.r_2 arg11 f11) (body_val.sl.r_3 arg11 f11) (body_val.sl.r_176 i arg20 f20) (body_val.sl.r_177 i arg20 f20) (body_val.sl.v901 i arg20 f20) (body_val.sl.v902 i arg20 f20) (body_val.sl.v903 i arg20 f20) (body_val.sl.v940 i arg11 arg17 arg20 f11 f20) f12 f14 (arg16.view.writes (Elt Ideal) arg16.view.junk (body_val.sl.H16_7 i arg11 arg20 f11 f20)) (Scf.trips k0_t2_loop.lb k0_t2_loop.ub k0_t2_loop.st))) (fun j h r l _ => h18' j h r l (by have := h.isLt; omega)) arg19 (arg19.view.writes (Elt Ideal) arg19.view.junk (body_val.sl.H19_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f11 f12 f14 f15 f18 f19 f20)) arg10 f10 _ rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr
      rotate_left
      · iexact H9
      · ipureintro
        intro h7
        rw [dif_pos (cond2_of i h7)]
        exact h9' h7
    isplitl [H10]
    · iexists _
      isplitr
      rotate_left
      · iexact H10
      · ipureintro
        intro h7
        rw [dif_pos (cond2_of i h7)]
        exact h10' h7
    isplitl [H11]
    · iexists _
      isplitr
      rotate_left
      · iexact H11
      · ipureintro
        exact h11
    isplitl [H12]
    · iexists _
      isplitr
      rotate_left
      · iexact H12
      · ipureintro
        exact h12
    isplitl [H13]; · iexists _; iexact H13
    isplitl [H14]
    · iexists _
      isplitr
      rotate_left
      · iexact H14
      · ipureintro
        exact h14
    isplitl [H15]
    · iexists _
      isplitr
      rotate_left
      · iexact H15
      · ipureintro
        exact h15
    isplitl [H16]; · iexists _; iexact H16
    isplitl [H17]; · iexists _; iexact H17
    isplitl [H18]
    · iexists _
      isplitr
      rotate_left
      · iexact H18
      · ipureintro
        exact h18'
    isplitl [H19]
    · iexists _
      isplitr
      rotate_left
      · iexact H19
      · ipureintro
        exact h19'
    iexists _
    isplitr
    rotate_left
    · iexact H20
    · ipureintro
      exact h20

end Cert.Proof.KernelIdeal

end
-- ==== Proof.Prepare.lean ====
/-
  A tile of the first point's loop: the codes turned so that the tokens run along the lanes, and the norms of the values.
-/
module

public import proofs.«01_k».proof.Proof.Spec
public import Idealize.ShloMosaic.Lib.Ring

@[expose] public section

set_option maxRecDepth 16384

noncomputable section

namespace Cert.Proof.KernelIdeal

open Cert.KernelIdeal Cert.KernelIdeal.Gen
open Idealize.ShloMosaic Idealize.ShloMosaic.Tactic

/-- A batch's codes, a head at a time, transposed. -/
def kOf (X : S1x16384x128.Idx → EReal) (h : Fin 8) (d : Fin 128) (t : Fin 2048) : EReal := X (ix3 0 ⟨8 * t.val + h.val, by omega⟩ d)
/-- A batch's scales, a head at a time. -/
def ksOf (X : S1x2048x8.Idx → EReal) (h : Fin 8) (t : Fin 2048) : EReal := X (ix3 0 t h)
/-- The values' norms. -/
def vnOf (X : S1x16384x128.Idx → EReal) (Y : S1x2048x8.Idx → EReal) (h : Fin 8) (t : Fin 2048) : EReal :=
  Y (ix3 0 t h) * Ideal.sqrt (∑ d, kOf X h d t * kOf X h d t)
/-- The transposed codes of the tiles below `n` stand in the scratch. -/
def KtTo (K : Fin 8 → Fin 128 → Fin 2048 → EReal) (n : ℕ) (X : S8x128x2048.Idx → EReal) : Prop := ∀ h d (t : Fin 2048), t.val < 256 * n → X (ix3 h d t) = K h d t
/-- So do one number a token. -/
def RowTo (f : Fin 8 → Fin 2048 → EReal) (n : ℕ) (X : S8x2048.Idx → EReal) : Prop := ∀ h (t : Fin 2048), t.val < 256 * n → X (ix2 h t) = f h t

theorem trips1 (k : Fin k0_t1_loop.trips) : k.val < 8 := k.isLt

/-- The two staged tiles as stored. -/
abbrev pieceSt (A B : FVec Ideal S1x2048x128 .bf16) : List (View.Piece (Elt Ideal) S2x2048x128 .bf16) :=
  [⟨Rect.unit (s := S2x2048x128) ![1, 0, 0] S1x2048x128.size inb_S2x2048x128_S1x2048x128_1_0_0, B⟩, ⟨Rect.unit (s := S2x2048x128) ![0, 0, 0] S1x2048x128.size inb_S2x2048x128_S1x2048x128_0_0_0, A⟩]
def stackSt (A B : FVec Ideal S1x2048x128 .bf16) (y : S2x2048x128.Idx) : EReal :=
  if (y 0).val = 1 then B (ix3 0 (y 1) (y 2)) else A (ix3 0 (y 1) (y 2))
theorem readSt (arg13 : Memref sig .tc .vmem S2x2048x128 .bf16) (f : BufTy.Contents (Elt Ideal) arg13.view.ty) (A B : FVec Ideal S1x2048x128 .bf16) (y : S2x2048x128.Idx) :
    arg13.view.read (Elt Ideal) (arg13.view.writes (Elt Ideal) f (pieceSt A B)) y = stackSt A B y := by
  refine View.read_writes_apply_of_pieces (Val := Elt Ideal) _ _ (stackSt A B) (pieceSt A B) ?_ _ (View.cover_of_tiledL (pieceSt A B) S1x2048x128.size (by sl_kernel_rfl) _)
  intro q hq x
  simp only [List.mem_cons, List.not_mem_nil, or_false] at hq
  rcases hq with rfl | rfl
  · idx_vars x
    have e : (Rect.unit (s := S2x2048x128) ![1, 0, 0] S1x2048x128.size inb_S2x2048x128_S1x2048x128_1_0_0).emb (ix3 x0 x1 x2) = ix3 1 x1 x2 :=
      Rect.emb_eq_of_coords _ _ _ fun a => by
        fin_cases a
        · show 1 = 1 + 1 * x0.val; omega
        · show x1.val = 0 + 1 * x1.val; omega
        · show x2.val = 0 + 1 * x2.val; omega
    have e0 : x0 = 0 := by omega
    rw [e, e0]
    rfl
  · idx_vars x
    have e : (Rect.unit (s := S2x2048x128) ![0, 0, 0] S1x2048x128.size inb_S2x2048x128_S1x2048x128_0_0_0).emb (ix3 x0 x1 x2) = ix3 0 x1 x2 :=
      Rect.emb_eq_of_coords _ _ _ fun a => by
        fin_cases a
        · show 0 = 0 + 1 * x0.val; omega
        · show x1.val = 0 + 1 * x1.val; omega
        · show x2.val = 0 + 1 * x2.val; omega
    have e0 : x0 = 0 := by omega
    rw [e, e0]
    rfl

theorem strip_inb (s : Fin 2) (p : Fin 4) : ∀ a, S1x256x2x128.size a = 0 ∨ (![s.val, p.val, 0, 0] : Fin 4 → ℕ) a + (![1, 4, 1, 1] : Fin 4 → ℕ) a * (S1x256x2x128.size a - 1) < S2x1024x2x128.size a := by
  revert s p
  decide
/-- Two heads' rows of a staged tile, four rows of words apart. -/
def strip (arg13 : Memref sig .tc .vmem S2x2048x128 .bf16) (harg13 : arg13.IsWhole) (f : BufTy.Contents (Elt Ideal) arg13.view.ty) (s : Fin 2) (p : Fin 4) : Vec Ideal S1x256x2x128 .bf16 :=
  View.readAt (Elt Ideal) (arg13.reshape S2x1024x2x128 reshapes_S2x2048x128_S2x1024x2x128.1 reshapes_S2x2048x128_S2x1024x2x128.2 harg13.contiguous).view ⟨![s.val, p.val, 0, 0], S1x256x2x128.size, ![1, 4, 1, 1], strip_inb s p⟩ f
theorem strip_apply (arg13 : Memref sig .tc .vmem S2x2048x128 .bf16) (harg13 : arg13.IsWhole) (A B : FVec Ideal S1x2048x128 .bf16) (s : Fin 2) (p : Fin 4) (l : Fin 256) (r : Fin 2) (d : Fin 128) :
    strip arg13 harg13 (arg13.view.writes (Elt Ideal) arg13.view.junk (pieceSt A B)) s p (ix4 0 l r d) = if s.val = 1 then B (ix3 0 ⟨8 * l.val + (2 * p.val + r.val), by omega⟩ d) else A (ix3 0 ⟨8 * l.val + (2 * p.val + r.val), by omega⟩ d) := by
  refine Eq.trans ?_ (readSt arg13 arg13.view.junk A B (ix3 s ⟨8 * l.val + (2 * p.val + r.val), by omega⟩ d))
  have e : (⟨![s.val, p.val, 0, 0], S1x256x2x128.size, ![1, 4, 1, 1], strip_inb s p⟩ : LoadRect S2x1024x2x128).idx (ix4 0 l r d) = ix4 s ⟨4 * l.val + p.val, by omega⟩ r d := by
    funext a
    apply Fin.ext
    fin_cases a
    · show s.val + 1 * 0 = s.val; omega
    · show p.val + 4 * l.val = 4 * l.val + p.val; omega
    · show 0 + 1 * r.val = r.val; omega
    · show 0 + 1 * d.val = d.val; omega
  show shapeCast S2x1024x2x128 (arg13.view.read (Elt Ideal) (arg13.view.writes (Elt Ideal) arg13.view.junk (pieceSt A B))) reshapes_S2x2048x128_S2x1024x2x128.1 _ = _
  rw [e]
  generalize arg13.view.read (Elt Ideal) (arg13.view.writes (Elt Ideal) arg13.view.junk (pieceSt A B)) = Y
  pointwise []
  exact congrArg (fun t => Y (ix3 s t d)) (Fin.ext (by show (4 * l.val + p.val) * 2 + r.val = 8 * l.val + (2 * p.val + r.val); omega))

/-- A head's rows of a strip. -/
def headRows (r : Fin 2) (x : Vec Ideal S1x256x2x128 .bf16) : FVec Ideal S256x128 .bf16 :=
  shapeCast S256x128 (shapeCast S1x256x128 (rowsOfParity r S1x256x1x128 x bitcasts_S1x256x2x128_w16_S1x256x1x128_w32) shapeCasts_S1x256x1x128_S1x256x128) shapeCasts_S1x256x128_S256x128
/-- A head's rows, turned. -/
def headT (r : Fin 2) (x : Vec Ideal S1x256x2x128 .bf16) : FVec Ideal S128x256 .f32 :=
  transpose S128x256 [1, 0] (extf .f32 (headRows r x) bitsLt_bf16_f32) transposes_S256x128_p1_0_S128x256
theorem headT_apply (r : Fin 2) (x : Vec Ideal S1x256x2x128 .bf16) (d : Fin 128) (l : Fin 256) : headT r x (ix2 d l) = x (ix4 0 l r d) := by
  pointwise [headT, headRows]
def headKt (r : Fin 2) (x : Vec Ideal S1x256x2x128 .bf16) : FVec Ideal S1x128x256 .bf16 :=
  shapeCast S1x128x256 (truncf .bf16 (headT r x) bitsLt_bf16_f32) shapeCasts_S128x256_S1x128x256
theorem headKt_apply (r : Fin 2) (x : Vec Ideal S1x256x2x128 .bf16) (d : Fin 128) (l : Fin 256) : headKt r x (ix3 0 d l) = x (ix4 0 l r d) := by
  refine Eq.trans ?_ (headT_apply r x d l)
  pointwise [headKt]

/-- A tile of codes, its leading axis dropped. -/
def stC (x : Vec Ideal S1x2048x128 .fp8e4m3) : FVec Ideal S2048x128 .bf16 := extf .bf16 (shapeCast S2048x128 x shapeCasts_S1x2048x128_S2048x128) bitsLt_fp8e4m3_bf16
theorem stC_apply (x : Vec Ideal S1x2048x128 .fp8e4m3) (ρ : Fin 2048) (d : Fin 128) : stC x (ix2 ρ d) = x (ix3 0 ρ d) := by
  pointwise [stC]
/-- A tile of codes as staged. -/
def stK (i : grid0.Coords) (k : Fin k0_t1_loop.trips) (h1 : k0_cond1 i = 1#1) (arg4 : Memref sig .tc .vmem S1x16384x128 .fp8e4m3) (X4 : BufTy.Contents (Elt Ideal) arg4.view.ty) : FVec Ideal S2048x128 .bf16 :=
  stC (View.readAt (Elt Ideal) arg4.view (Rect.unit (s := S1x16384x128) (k0_off2 k) S1x2048x128.size (k0_off2_inb i k h1)).toLoadRect X4)
theorem stK_apply (i : grid0.Coords) (k : Fin k0_t1_loop.trips) (h1 : k0_cond1 i = 1#1) (arg4 : Memref sig .tc .vmem S1x16384x128 .fp8e4m3) (X4 : BufTy.Contents (Elt Ideal) arg4.view.ty) (ρ : Fin 2048) (d : Fin 128) :
    stK i k h1 arg4 X4 (ix2 ρ d) = arg4.view.read (Elt Ideal) X4 (ix3 0 ⟨2048 * k.val + ρ.val, by have := trips1 k; omega⟩ d) := by
  refine Eq.trans ?_ (View.ld_unit_apply_of (arg4.view.read (Elt Ideal) X4) (k0_off2 k) S1x2048x128.size (k0_off2_inb i k h1) (ix3 0 ρ d) _ fun a => Eq.trans ?_ (congrArg (· + _) (congrFun (k0_off2_eq k) a).symm))
  · exact stC_apply _ ρ d
  · fin_cases a
    · rfl
    · rfl
    · show d.val = 0 + d.val; omega
def stA (x : FVec Ideal S2048x128 .bf16) : FVec Ideal S1x2048x128 .bf16 := shapeCast S1x2048x128 x shapeCasts_S2048x128_S1x2048x128
theorem stA_apply (x : FVec Ideal S2048x128 .bf16) (ρ : Fin 2048) (d : Fin 128) : stA x (ix3 0 ρ d) = x (ix2 ρ d) := by
  pointwise [stA]
/-- The stage of a trip: the codes and the values squared. -/
abbrev stage (i : grid0.Coords) (k : Fin k0_t1_loop.trips) (h1 : k0_cond1 i = 1#1) (arg4 : Memref sig .tc .vmem S1x16384x128 .fp8e4m3) (X4 : BufTy.Contents (Elt Ideal) arg4.view.ty) (arg6 : Memref sig .tc .vmem S1x16384x128 .fp8e4m3) (X6 : BufTy.Contents (Elt Ideal) arg6.view.ty) (arg13 : Memref sig .tc .vmem S2x2048x128 .bf16) : BufTy.Contents (Elt Ideal) arg13.view.ty :=
  arg13.view.writes (Elt Ideal) arg13.view.junk (pieceSt (stA (stK i k h1 arg4 X4)) (stA (mulf (stK i k h1 arg6 X6) (stK i k h1 arg6 X6))))

section
variable (i : grid0.Coords) (k : Fin k0_t1_loop.trips) (h1 : k0_cond1 i = 1#1) (arg4 : Memref sig .tc .vmem S1x16384x128 .fp8e4m3) (X4 : BufTy.Contents (Elt Ideal) arg4.view.ty) (arg6 : Memref sig .tc .vmem S1x16384x128 .fp8e4m3) (X6 : BufTy.Contents (Elt Ideal) arg6.view.ty) (arg13 : Memref sig .tc .vmem S2x2048x128 .bf16) (harg13 : arg13.IsWhole)
theorem strip0 (p : Fin 4) (l : Fin 256) (r : Fin 2) (d : Fin 128) :
    strip arg13 harg13 (stage i k h1 arg4 X4 arg6 X6 arg13) 0 p (ix4 0 l r d) = kOf (arg4.view.read (Elt Ideal) X4) ⟨2 * p.val + r.val, by omega⟩ d ⟨256 * k.val + l.val, by have := trips1 k; omega⟩ := by
  rw [strip_apply, if_neg (by decide), stA_apply, stK_apply]
  refine congrArg (arg4.view.read (Elt Ideal) X4) (congrArg (fun t => ix3 0 t d) (Fin.ext ?_))
  show 2048 * k.val + (8 * l.val + (2 * p.val + r.val)) = 8 * (256 * k.val + l.val) + (2 * p.val + r.val)
  omega
theorem strip1 (p : Fin 4) (l : Fin 256) (r : Fin 2) (d : Fin 128) :
    strip arg13 harg13 (stage i k h1 arg4 X4 arg6 X6 arg13) 1 p (ix4 0 l r d) = kOf (arg6.view.read (Elt Ideal) X6) ⟨2 * p.val + r.val, by omega⟩ d ⟨256 * k.val + l.val, by have := trips1 k; omega⟩ * kOf (arg6.view.read (Elt Ideal) X6) ⟨2 * p.val + r.val, by omega⟩ d ⟨256 * k.val + l.val, by have := trips1 k; omega⟩ := by
  rw [strip_apply, if_pos (by decide), stA_apply]
  have e : stK i k h1 arg6 X6 (ix2 ⟨8 * l.val + (2 * p.val + r.val), by omega⟩ d) = kOf (arg6.view.read (Elt Ideal) X6) ⟨2 * p.val + r.val, by omega⟩ d ⟨256 * k.val + l.val, by have := trips1 k; omega⟩ := by
    rw [stK_apply]
    refine congrArg (arg6.view.read (Elt Ideal) X6) (congrArg (fun t => ix3 0 t d) (Fin.ext ?_))
    show 2048 * k.val + (8 * l.val + (2 * p.val + r.val)) = 8 * (256 * k.val + l.val) + (2 * p.val + r.val)
    omega
  exact congr (congrArg (· * ·) e) e
/-- The values' squared norms of a tile. -/
def sqRows : FVec Ideal S8x256 .f32 :=
  pack8 (rows16 (headT 0 (strip arg13 harg13 (stage i k h1 arg4 X4 arg6 X6 arg13) 1 0))) (rows16 (headT 1 (strip arg13 harg13 (stage i k h1 arg4 X4 arg6 X6 arg13) 1 0)))
    (rows16 (headT 0 (strip arg13 harg13 (stage i k h1 arg4 X4 arg6 X6 arg13) 1 1))) (rows16 (headT 1 (strip arg13 harg13 (stage i k h1 arg4 X4 arg6 X6 arg13) 1 1)))
    (rows16 (headT 0 (strip arg13 harg13 (stage i k h1 arg4 X4 arg6 X6 arg13) 1 2))) (rows16 (headT 1 (strip arg13 harg13 (stage i k h1 arg4 X4 arg6 X6 arg13) 1 2)))
    (rows16 (headT 0 (strip arg13 harg13 (stage i k h1 arg4 X4 arg6 X6 arg13) 1 3))) (rows16 (headT 1 (strip arg13 harg13 (stage i k h1 arg4 X4 arg6 X6 arg13) 1 3)))
theorem sqRows_apply (h : Fin 8) (l : Fin 256) : sqRows i k h1 arg4 X4 arg6 X6 arg13 harg13 (ix2 h l) = ∑ d, kOf (arg6.view.read (Elt Ideal) X6) h d ⟨256 * k.val + l.val, by have := trips1 k; omega⟩ * kOf (arg6.view.read (Elt Ideal) X6) h d ⟨256 * k.val + l.val, by have := trips1 k; omega⟩ := by
  have e := pack8_apply (fun h : Fin 8 => rows16 (headT ⟨h.val % 2, by omega⟩ (strip arg13 harg13 (stage i k h1 arg4 X4 arg6 X6 arg13) 1 ⟨h.val / 2, by omega⟩))) h l
  refine Eq.trans e ?_
  rw [rows16_sum]
  refine Finset.sum_congr rfl fun d _ => ?_
  rw [headT_apply, strip1]
  have eh : (⟨2 * (h.val / 2) + h.val % 2, by omega⟩ : Fin 8) = h := Fin.ext (by show 2 * (h.val / 2) + h.val % 2 = h.val; omega)
  rw [eh]

/-- A tile of turned codes as stored. -/
abbrev pieceKt (p : Fin 8 → FVec Ideal S1x128x256 .bf16) : List (View.Piece (Elt Ideal) S8x128x2048 .bf16) :=
  [⟨Rect.unit (s := S8x128x2048) (k0_off10 k) S1x128x256.size (k0_off10_inb i k h1), p 7⟩, ⟨Rect.unit (s := S8x128x2048) (k0_off9 k) S1x128x256.size (k0_off9_inb i k h1), p 6⟩, ⟨Rect.unit (s := S8x128x2048) (k0_off8 k) S1x128x256.size (k0_off8_inb i k h1), p 5⟩, ⟨Rect.unit (s := S8x128x2048) (k0_off7 k) S1x128x256.size (k0_off7_inb i k h1), p 4⟩, ⟨Rect.unit (s := S8x128x2048) (k0_off6 k) S1x128x256.size (k0_off6_inb i k h1), p 3⟩, ⟨Rect.unit (s := S8x128x2048) (k0_off5 k) S1x128x256.size (k0_off5_inb i k h1), p 2⟩, ⟨Rect.unit (s := S8x128x2048) (k0_off4 k) S1x128x256.size (k0_off4_inb i k h1), p 1⟩, ⟨Rect.unit (s := S8x128x2048) (k0_off3 k) S1x128x256.size (k0_off3_inb i k h1), p 0⟩]
end

def stackKt (p : Fin 8 → FVec Ideal S1x128x256 .bf16) (y : S8x128x2048.Idx) : EReal :=
  p (y 0) (ix3 0 (y 1) ⟨(y 2).val % 256, by omega⟩)
section
variable (p : Fin 8 → FVec Ideal S1x128x256 .bf16) (h : Fin 8) (k : Fin k0_t1_loop.trips) {off : Fin 3 → ℕ} (hoff : off = ![h.val, 0, 256 * k.val]) (inb : ∀ a, off a + S1x128x256.size a ≤ S8x128x2048.size a)
include hoff
theorem pieceKt_at (x : S1x128x256.Idx) : p h x = stackKt p ((Rect.unit (s := S8x128x2048) off S1x128x256.size inb).emb x) := by
  subst hoff
  idx_vars x
  have e0 : x0 = 0 := by omega
  subst e0
  have hk := trips1 k
  have e : (Rect.unit (s := S8x128x2048) ![h.val, 0, 256 * k.val] S1x128x256.size inb).emb (ix3 0 x1 x2) = ix3 h x1 ⟨256 * k.val + x2.val, by omega⟩ :=
    Rect.emb_eq_of_coords _ _ _ fun a => by
      fin_cases a
      · show h.val = h.val + 1 * 0; omega
      · show x1.val = 0 + 1 * x1.val; omega
      · show 256 * k.val + x2.val = 256 * k.val + 1 * x2.val; omega
  rw [e]
  refine congrArg (fun t => p h (ix3 0 x1 t)) (Fin.ext ?_)
  show x2.val = (256 * k.val + x2.val) % 256
  omega
theorem pieceKt_not (h' : Fin 8) (d : Fin 128) (t : Fin 2048) (hlt : t.val < 256 * k.val) : (ix3 h' d t : S8x128x2048.Idx) ∉ (Rect.unit (s := S8x128x2048) off S1x128x256.size inb).set := by
  subst hoff
  intro hm
  obtain ⟨n, hn, e⟩ := (LoadRect.mem_set _).mp hm 2
  have e' : t.val = 256 * k.val + 1 * n := e
  omega
theorem pieceKt_mem (d : Fin 128) (t : Fin 2048) (hge : 256 * k.val ≤ t.val) (hlt : t.val < 256 * (k.val + 1)) : (ix3 h d t : S8x128x2048.Idx) ∈ (Rect.unit (s := S8x128x2048) off S1x128x256.size inb).set := by
  subst hoff
  refine (LoadRect.mem_set _).mpr fun a => ?_
  fin_cases a
  · exact ⟨0, Nat.one_pos, by show h.val = h.val + 1 * 0; omega⟩
  · exact ⟨d.val, d.isLt, by show d.val = 0 + 1 * d.val; omega⟩
  · exact ⟨t.val - 256 * k.val, by show t.val - 256 * k.val < 256; omega, by show t.val = 256 * k.val + 1 * (t.val - 256 * k.val); omega⟩
end

section
variable (i : grid0.Coords) (k : Fin k0_t1_loop.trips) (h1 : k0_cond1 i = 1#1)
theorem kt_mem (p : Fin 8 → FVec Ideal S1x128x256 .bf16) (h' : Fin 8) (d : Fin 128) (t : Fin 2048) (hge : 256 * k.val ≤ t.val) (hlt : t.val < 256 * (k.val + 1)) :
    ∃ q ∈ pieceKt i k h1 p, (ix3 h' d t : S8x128x2048.Idx) ∈ q.1.set := by
  match h' with
  | ⟨0, _⟩ => exact ⟨_, List.mem_cons_of_mem _ <| List.mem_cons_of_mem _ <| List.mem_cons_of_mem _ <| List.mem_cons_of_mem _ <| List.mem_cons_of_mem _ <| List.mem_cons_of_mem _ <| List.mem_cons_of_mem _ <| List.mem_cons_self .., pieceKt_mem 0 k (k0_off3_eq k) (k0_off3_inb i k h1) d t hge hlt⟩
  | ⟨1, _⟩ => exact ⟨_, List.mem_cons_of_mem _ <| List.mem_cons_of_mem _ <| List.mem_cons_of_mem _ <| List.mem_cons_of_mem _ <| List.mem_cons_of_mem _ <| List.mem_cons_of_mem _ <| List.mem_cons_self .., pieceKt_mem 1 k (k0_off4_eq k) (k0_off4_inb i k h1) d t hge hlt⟩
  | ⟨2, _⟩ => exact ⟨_, List.mem_cons_of_mem _ <| List.mem_cons_of_mem _ <| List.mem_cons_of_mem _ <| List.mem_cons_of_mem _ <| List.mem_cons_of_mem _ <| List.mem_cons_self .., pieceKt_mem 2 k (k0_off5_eq k) (k0_off5_inb i k h1) d t hge hlt⟩
  | ⟨3, _⟩ => exact ⟨_, List.mem_cons_of_mem _ <| List.mem_cons_of_mem _ <| List.mem_cons_of_mem _ <| List.mem_cons_of_mem _ <| List.mem_cons_self .., pieceKt_mem 3 k (k0_off6_eq k) (k0_off6_inb i k h1) d t hge hlt⟩
  | ⟨4, _⟩ => exact ⟨_, List.mem_cons_of_mem _ <| List.mem_cons_of_mem _ <| List.mem_cons_of_mem _ <| List.mem_cons_self .., pieceKt_mem 4 k (k0_off7_eq k) (k0_off7_inb i k h1) d t hge hlt⟩
  | ⟨5, _⟩ => exact ⟨_, List.mem_cons_of_mem _ <| List.mem_cons_of_mem _ <| List.mem_cons_self .., pieceKt_mem 5 k (k0_off8_eq k) (k0_off8_inb i k h1) d t hge hlt⟩
  | ⟨6, _⟩ => exact ⟨_, List.mem_cons_of_mem _ <| List.mem_cons_self .., pieceKt_mem 6 k (k0_off9_eq k) (k0_off9_inb i k h1) d t hge hlt⟩
  | ⟨7, _⟩ => exact ⟨_, List.mem_cons_self .., pieceKt_mem 7 k (k0_off10_eq k) (k0_off10_inb i k h1) d t hge hlt⟩
  | ⟨n + 8, h⟩ => exact absurd h (by omega)

theorem kt_step (K : Fin 8 → Fin 128 → Fin 2048 → EReal) (arg12 : Memref sig .tc .vmem S8x128x2048 .bf16) (f : BufTy.Contents (Elt Ideal) arg12.view.ty) (p : Fin 8 → FVec Ideal S1x128x256 .bf16)
    (hf : KtTo K k.val (arg12.view.read (Elt Ideal) f)) (hp : ∀ h d l, p h (ix3 0 d l) = K h d ⟨256 * k.val + l.val, by have := trips1 k; omega⟩) :
    KtTo K (k.val + 1) (arg12.view.read (Elt Ideal) (arg12.view.writes (Elt Ideal) f (pieceKt i k h1 p))) := by
  intro h' d t ht
  by_cases hlt : t.val < 256 * k.val
  · refine Eq.trans (View.read_writes_apply_of_forall_not_mem (Val := Elt Ideal) _ _ _ (pieceKt i k h1 p) fun q hq => ?_) (hf h' d t hlt)
    simp only [List.mem_cons, List.not_mem_nil, or_false] at hq
    rcases hq with rfl | rfl | rfl | rfl | rfl | rfl | rfl | rfl
    · exact pieceKt_not 7 k (k0_off10_eq k) (k0_off10_inb i k h1) h' d t hlt
    · exact pieceKt_not 6 k (k0_off9_eq k) (k0_off9_inb i k h1) h' d t hlt
    · exact pieceKt_not 5 k (k0_off8_eq k) (k0_off8_inb i k h1) h' d t hlt
    · exact pieceKt_not 4 k (k0_off7_eq k) (k0_off7_inb i k h1) h' d t hlt
    · exact pieceKt_not 3 k (k0_off6_eq k) (k0_off6_inb i k h1) h' d t hlt
    · exact pieceKt_not 2 k (k0_off5_eq k) (k0_off5_inb i k h1) h' d t hlt
    · exact pieceKt_not 1 k (k0_off4_eq k) (k0_off4_inb i k h1) h' d t hlt
    · exact pieceKt_not 0 k (k0_off3_eq k) (k0_off3_inb i k h1) h' d t hlt
  · have hge : 256 * k.val ≤ t.val := by omega
    rw [View.read_writes_apply_of_pieces (Val := Elt Ideal) _ _ (stackKt p) (pieceKt i k h1 p) ?_ _ ?_]
    · refine Eq.trans (hp h' d ⟨t.val % 256, by omega⟩) (congrArg (K h' d) (Fin.ext ?_))
      show 256 * k.val + t.val % 256 = t.val
      omega
    · intro q hq x
      simp only [List.mem_cons, List.not_mem_nil, or_false] at hq
      rcases hq with rfl | rfl | rfl | rfl | rfl | rfl | rfl | rfl
      · exact pieceKt_at p 7 k (k0_off10_eq k) (k0_off10_inb i k h1) x
      · exact pieceKt_at p 6 k (k0_off9_eq k) (k0_off9_inb i k h1) x
      · exact pieceKt_at p 5 k (k0_off8_eq k) (k0_off8_inb i k h1) x
      · exact pieceKt_at p 4 k (k0_off7_eq k) (k0_off7_inb i k h1) x
      · exact pieceKt_at p 3 k (k0_off6_eq k) (k0_off6_inb i k h1) x
      · exact pieceKt_at p 2 k (k0_off5_eq k) (k0_off5_inb i k h1) x
      · exact pieceKt_at p 1 k (k0_off4_eq k) (k0_off4_inb i k h1) x
      · exact pieceKt_at p 0 k (k0_off3_eq k) (k0_off3_inb i k h1) x
    · exact kt_mem i k h1 p h' d t hge ht

/-- A tile of numbers, one a token and head, as stored. -/
abbrev pieceRow {off : Fin 2 → ℕ} (inb : ∀ a, off a + S8x256.size a ≤ S8x2048.size a) (w : FVec Ideal S8x256 .f32) : List (View.Piece (Elt Ideal) S8x2048 .f32) :=
  [⟨Rect.unit (s := S8x2048) off S8x256.size inb, w⟩]
def stackRow (w : FVec Ideal S8x256 .f32) (y : S8x2048.Idx) : EReal := w (ix2 (y 0) ⟨(y 1).val % 256, by omega⟩)
theorem pieceRow_not (k : ℕ) {off : Fin 2 → ℕ} (hoff : off = ![0, 256 * k]) (inb : ∀ a, off a + S8x256.size a ≤ S8x2048.size a) (h : Fin 8) (t : Fin 2048) (hlt : t.val < 256 * k) :
    (ix2 h t : S8x2048.Idx) ∉ (Rect.unit (s := S8x2048) off S8x256.size inb).set := by
  subst hoff
  intro hm
  obtain ⟨n, hn, e⟩ := (LoadRect.mem_set _).mp hm 1
  have e' : t.val = 256 * k + 1 * n := e
  omega
theorem pieceRow_mem (k : ℕ) {off : Fin 2 → ℕ} (hoff : off = ![0, 256 * k]) (inb : ∀ a, off a + S8x256.size a ≤ S8x2048.size a) (h : Fin 8) (t : Fin 2048) (hge : 256 * k ≤ t.val) (hlt : t.val < 256 * (k + 1)) :
    (ix2 h t : S8x2048.Idx) ∈ (Rect.unit (s := S8x2048) off S8x256.size inb).set := by
  subst hoff
  refine (LoadRect.mem_set _).mpr fun a => ?_
  fin_cases a
  · exact ⟨h.val, h.isLt, by show h.val = 0 + 1 * h.val; omega⟩
  · exact ⟨t.val - 256 * k, by show t.val - 256 * k < 256; omega, by show t.val = 256 * k + 1 * (t.val - 256 * k); omega⟩
theorem pieceRow_at (k : ℕ) (hk : k < 8) {off : Fin 2 → ℕ} (hoff : off = ![0, 256 * k]) (inb : ∀ a, off a + S8x256.size a ≤ S8x2048.size a) (w : FVec Ideal S8x256 .f32) (x : S8x256.Idx) :
    w x = stackRow w ((Rect.unit (s := S8x2048) off S8x256.size inb).emb x) := by
  subst hoff
  idx_vars x
  have e : (Rect.unit (s := S8x2048) ![0, 256 * k] S8x256.size inb).emb (ix2 x0 x1) = ix2 x0 ⟨256 * k + x1.val, by omega⟩ :=
    Rect.emb_eq_of_coords _ _ _ fun a => by
      fin_cases a
      · show x0.val = 0 + 1 * x0.val; omega
      · show 256 * k + x1.val = 256 * k + 1 * x1.val; omega
  rw [e]
  refine congrArg (fun t => w (ix2 x0 t)) (Fin.ext ?_)
  show x1.val = (256 * k + x1.val) % 256
  omega
theorem row_step (g : Fin 8 → Fin 2048 → EReal) (arg : Memref sig .tc .vmem S8x2048 .f32) (f : BufTy.Contents (Elt Ideal) arg.view.ty) (w : FVec Ideal S8x256 .f32)
    (hf : RowTo g k.val (arg.view.read (Elt Ideal) f)) (hw : ∀ h l, w (ix2 h l) = g h ⟨256 * k.val + l.val, by have := trips1 k; omega⟩) :
    RowTo g (k.val + 1) (arg.view.read (Elt Ideal) (arg.view.writes (Elt Ideal) f (pieceRow (k0_off12_inb i k h1) w))) := by
  intro h t ht
  by_cases hlt : t.val < 256 * k.val
  · refine Eq.trans (View.read_writes_apply_of_forall_not_mem (Val := Elt Ideal) _ _ _ (pieceRow (k0_off12_inb i k h1) w) fun q hq => ?_) (hf h t hlt)
    rcases List.mem_cons.mp hq with rfl | hq
    · exact pieceRow_not k.val (k0_off12_eq k) (k0_off12_inb i k h1) h t hlt
    · exact absurd hq List.not_mem_nil
  · have hge : 256 * k.val ≤ t.val := by omega
    refine Eq.trans (View.read_writes_apply_of_pieces (Val := Elt Ideal) _ _ (stackRow w) (pieceRow (k0_off12_inb i k h1) w) (fun q hq x => ?_) _ ⟨_, List.mem_cons_self .., pieceRow_mem k.val (k0_off12_eq k) (k0_off12_inb i k h1) h t hge ht⟩) ?_
    · rcases List.mem_cons.mp hq with rfl | hq
      · exact pieceRow_at k.val (trips1 k) (k0_off12_eq k) (k0_off12_inb i k h1) w x
      · exact absurd hq List.not_mem_nil
    · refine Eq.trans (hw h ⟨t.val % 256, by omega⟩) (congrArg (g h) (Fin.ext ?_))
      show 256 * k.val + t.val % 256 = t.val
      omega

/-- A tile's numbers, one a token and head, as loaded. -/
def rowLoad (arg5 : Memref sig .tc .vmem S1x2048x8 .f32) (X5 : BufTy.Contents (Elt Ideal) arg5.view.ty) : Vec Ideal S1x256x8 .f32 :=
  View.readAt (Elt Ideal) arg5.view (Rect.unit (s := S1x2048x8) (k0_off11 k) S1x256x8.size (k0_off11_inb i k h1)).toLoadRect X5
theorem rowLoad_apply (arg5 : Memref sig .tc .vmem S1x2048x8 .f32) (X5 : BufTy.Contents (Elt Ideal) arg5.view.ty) (l : Fin 256) (h : Fin 8) :
    rowLoad i k h1 arg5 X5 (ix3 0 l h) = ksOf (arg5.view.read (Elt Ideal) X5) h ⟨256 * k.val + l.val, by have := trips1 k; omega⟩ := by
  refine View.ld_unit_apply_of (arg5.view.read (Elt Ideal) X5) (k0_off11 k) S1x256x8.size (k0_off11_inb i k h1) (ix3 0 l h) _ fun a => Eq.trans ?_ (congrArg (· + _) (congrFun (k0_off11_eq k) a).symm)
  fin_cases a
  · rfl
  · rfl
  · show h.val = 0 + h.val; omega
theorem pay128_apply (x : Vec Ideal S1x256x8 .f32) (h : Fin 8) (l : Fin 256) : k0_pay128 x (ix2 h l) = x (ix3 0 l h) := by
  pointwise [k0_pay128]
theorem pay129_apply (s : FVec Ideal S8x256 .f32) (x : Vec Ideal S1x256x8 .f32) (h : Fin 8) (l : Fin 256) : k0_pay129 s x (ix2 h l) = x (ix3 0 l h) * Ideal.sqrt (s (ix2 h l)) := by
  pointwise [k0_pay129]
end

end Cert.Proof.KernelIdeal

end
-- ==== Proof.InitLoop.lean ====
/-
  The loop of the first point of a batch: after `k` trips the tiles below `k` are turned and their norms taken.
-/
module

public import proofs.«01_k».proof.Proof.KernelIdealRun
public import proofs.«01_k».proof.Proof.Prepare

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The algebra's propositions. -/
local notation "𝕄" => MT nD τ sig Unit (Elt Ideal) ℕ (UU nD τ) ℕ

theorem ktVal (i : grid0.Coords) (k : Fin k0_t1_loop.trips) (k0_h1 : k0_cond1 i = 1#1) (arg4 : Memref sig .tc .vmem S1x16384x128 .fp8e4m3) (X4 : BufTy.Contents (Elt Ideal) arg4.view.ty) (arg6 : Memref sig .tc .vmem S1x16384x128 .fp8e4m3) (X6 : BufTy.Contents (Elt Ideal) arg6.view.ty) (arg13 : Memref sig .tc .vmem S2x2048x128 .bf16) (harg13 : arg13.IsWhole)
    (p : Fin 8 → FVec Ideal S1x128x256 .bf16) (hp : p = fun h : Fin 8 => headKt ⟨h.val % 2, by omega⟩ (strip arg13 harg13 (stage i k k0_h1 arg4 X4 arg6 X6 arg13) 0 ⟨h.val / 2, by omega⟩))
    (h : Fin 8) (d : Fin 128) (l : Fin 256) : p h (ix3 0 d l) = kOf (arg4.view.read (Elt Ideal) X4) h d ⟨256 * k.val + l.val, by have := trips1 k; omega⟩ := by
  rw [hp]
  show headKt ⟨h.val % 2, _⟩ (strip arg13 harg13 (stage i k k0_h1 arg4 X4 arg6 X6 arg13) 0 ⟨h.val / 2, _⟩) (ix3 0 d l) = _
  rw [headKt_apply, strip0]
  have eh : (⟨2 * (h.val / 2) + h.val % 2, by omega⟩ : Fin 8) = h := Fin.ext (by show 2 * (h.val / 2) + h.val % 2 = h.val; omega)
  exact congrArg (fun h => kOf (arg4.view.read (Elt Ideal) X4) h d _) eh

set_option warn.classDefReducibility false in
set_option maxHeartbeats 4000000 in
set_option maxRecDepth 65536 in
/-- The loop's invariant. -/
@[sl_loop] noncomputable def loopVal_k0_t1 (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (k0_h1 : k0_cond1 i = 1#1) (v1505 : FVec Ideal S128x128 .f32) (v1507 : FVec Ideal S128x128 .f32)
    (X4 : BufTy.Contents (Elt Ideal) arg4.view.ty) (X5 : BufTy.Contents (Elt Ideal) arg5.view.ty) (X6 : BufTy.Contents (Elt Ideal) arg6.view.ty) (X7 : BufTy.Contents (Elt Ideal) arg7.view.ty) :
    Cert.KernelIdeal.Gen.LoopInvTy_k0_t1 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v1505 v1507 where
  inv := fun k acc => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f : BufTy.Contents (Elt Ideal) arg12.view.ty, ⌜(KtTo (kOf (arg4.view.read (Elt Ideal) X4)) k) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(RowTo (ksOf (arg5.view.read (Elt Ideal) X5)) k) (arg14.view.read (Elt Ideal) f)⌝ ∗ (arg14.view.loc (c : Thread nD τ) ↦[arg14.view.set]{fullShare} f)) ∗ (∃ f : BufTy.Contents (Elt Ideal) arg15.view.ty, ⌜(RowTo (vnOf (arg6.view.read (Elt Ideal) X6) (arg7.view.read (Elt Ideal) X7)) k) (arg15.view.read (Elt Ideal) f)⌝ ∗ (arg15.view.loc (c : Thread nD τ) ↦[arg15.view.set]{fullShare} f)))
  step := fun k acc => by
    unfold k0_t1_body
    iintro ⟨H4, H5, H6, H7, ⟨%f12, %h12, H12⟩, ⟨%f13, H13⟩, ⟨%f14, %h14, H14⟩, ⟨%f15, %h15, H15⟩⟩
    sl_exec_parts
    sl_step
    have e12 := kt_step i k k0_h1 (kOf (arg4.view.read (Elt Ideal) X4)) arg12 f12 (fun h : Fin 8 => headKt ⟨h.val % 2, by omega⟩ (strip arg13 harg13 (stage i k k0_h1 arg4 X4 arg6 X6 arg13) 0 ⟨h.val / 2, by omega⟩)) h12
      (ktVal i k k0_h1 arg4 X4 arg6 X6 arg13 harg13 (fun h : Fin 8 => headKt ⟨h.val % 2, by omega⟩ (strip arg13 harg13 (stage i k k0_h1 arg4 X4 arg6 X6 arg13) 0 ⟨h.val / 2, by omega⟩)) rfl)
    have e14 := row_step i k k0_h1 (ksOf (arg5.view.read (Elt Ideal) X5)) arg14 f14 (k0_pay128 (rowLoad i k k0_h1 arg5 X5)) h14 (fun h l => (pay128_apply _ h l).trans (rowLoad_apply i k k0_h1 arg5 X5 l h))
    have e15 := row_step i k k0_h1 (vnOf (arg6.view.read (Elt Ideal) X6) (arg7.view.read (Elt Ideal) X7)) arg15 f15 (k0_pay129 (sqRows i k k0_h1 arg4 X4 arg6 X6 arg13 harg13) (rowLoad i k k0_h1 arg7 X7)) h15
      (fun h l => (pay129_apply _ _ h l).trans (congr (congrArg (· * ·) (rowLoad_apply i k k0_h1 arg7 X7 l h)) (congrArg Ideal.sqrt (sqRows_apply i k k0_h1 arg4 X4 arg6 X6 arg13 harg13 h l))))
    isplitl [H4]; · iexact H4
    isplitl [H5]; · iexact H5
    isplitl [H6]; · iexact H6
    isplitl [H7]; · iexact H7
    isplitl [H12]
    · iexists _
      isplitr
      rotate_left
      · iexact H12
      · ipureintro
        exact e12
    isplitl [H13]; · iexists _; iexact H13
    isplitl [H14]
    · iexists _
      isplitr
      rotate_left
      · iexact H14
      · ipureintro
        exact e14
    iexists _
    isplitr
    rotate_left
    · iexact H15
    · ipureintro
      exact e15

end Cert.Proof.KernelIdeal

end
-- ==== Proof.Rotary.lean ====
/-
  The first point of a batch: the rotary means of its later positions, and the window copied two heads side by side.
-/
module

public import proofs.«01_k».proof.Proof.Spec
public import Idealize.ShloMosaic.Lib.Ring

@[expose] public section

set_option maxRecDepth 16384

noncomputable section

namespace Cert.Proof.KernelIdeal

open Cert.KernelIdeal Cert.KernelIdeal.Gen
open Idealize.ShloMosaic Idealize.ShloMosaic.Tactic

/-- The angle of lane `d` at the position `2 n`, one further on in the upper half. -/
def angOf (s : BitVec 32) (w : Fin 128 → EReal) (n : Fin 256) (d : Fin 128) : EReal :=
  (((s + 2#32 * BitVec.ofNat 32 n.val + if d.val < 64 then 0#32 else 1#32).toInt : ℝ) : EReal) * w d
/-- The lane half a turn on. -/
def swLane (d : Fin 128) : Fin 128 := ⟨(d.val + 64) % 128, by omega⟩
/-- The mean over all positions of a function of the angle. -/
def meanOf (f : EReal → EReal) (s : BitVec 32) (w : Fin 128 → EReal) (d : Fin 128) : EReal :=
  (∑ n, f (angOf s w n d) + ∑ n, f (angOf s w n (swLane d))) * ((1 / 512 : ℝ) : EReal)
/-- The mean cosine and the signed mean sine. -/
def cosMean (s : BitVec 32) (w : Fin 128 → EReal) (d : Fin 128) : EReal := meanOf Ideal.cos s w d
def sinMean (s : BitVec 32) (w : Fin 128 → EReal) (d : Fin 128) : EReal := if d.val < 64 then 0 - meanOf Ideal.sin s w d else meanOf Ideal.sin s w d

section
variable {F : FTy → Type} [FloatOps F] [Named F]
/-- The angles of all positions. -/
def angles (s : BitVec 32) (w : FVec F S1x128 .f32) : FVec F S256x128 .f32 :=
  mulf (sitofp .f32 (addi (addi (broadcast S256x128 s) (muli (broadcast S256x128 2#32) (iota .tc S256x128 32 [0] iota_S256x128_d0_w32)))
    (extui 32 (cmpi .sge (iota .tc S256x128 32 [1] iota_S256x128_d1_w32) (broadcast S256x128 64#32)) natLt_1_32)))
    (broadcastTo S256x128 w broadcasts_S1x128_S256x128)
/-- The column sums. -/
def colSum (x : FVec F S256x128 .f32) : FVec F S1x128 .f32 :=
  shapeCast S1x128 (multiReduction .add [0] S128 (rows32 x) 0x00000000#32 reduces_S8x128_S128 (.inl rfl) rfl) shapeCasts_S128_S1x128
/-- The mean over both halves of the lanes. -/
def meanLane (x : FVec F S256x128 .f32) : FVec F S1x128 .f32 :=
  mulf (addf (colSum x) (dynamicRotate 1 64#32 none (colSum x) rotates_S1x128_d1)) (broadcast S1x128 (Scalar.ofBits .f32 0x3B000000#32 : F .f32))
/-- The sign of the half turn. -/
def signLane (x : FVec F S1x128 .f32) : FVec F S1x128 .f32 :=
  select (cmpi .slt (extractStridedSlice S1x128 ![0, 0] (iota .tc S256x128 32 [1] iota_S256x128_d1_w32) slices_S256x128_o0_0_S1x128) (broadcast S1x128 64#32))
    (subf (broadcast S1x128 (Scalar.ofBits .f32 0x00000000#32 : F .f32)) x) x
/-- A row over all rows. -/
def spread (x : FVec F S1x128 .f32) : FVec F S128x128 .f32 := broadcastTo S128x128 (shapeCast S1x128 x shapeCasts_S1x128_S1x128) broadcasts_S1x128_S128x128
end

theorem ofBits_512 : Ideal.ofBits .f32 0x3B000000#32 = ((1 / 512 : ℝ) : EReal) := by
  have h : Ideal.ofBits .f32 0x3B000000#32 = (((1 / 512 : ℝ)) : EReal) := by
    simp [Ideal.ofBits, Ideal.ieee, -EReal.coe_mul]; norm_num
  exact h

theorem upper : ∀ d : Fin 128, BitVec.setWidth 32 (IntOp.cmpi .sge (BitVec.ofNat 32 d.val) 64#32) = if d.val < 64 then 0#32 else 1#32 := by decide

theorem angles_apply (s : BitVec 32) (w : FVec Ideal S1x128 .f32) (n : Fin 256) (d : Fin 128) :
    angles s w (ix2 n d) = angOf s (fun d => w (ix2 0 d)) n d := by
  pointwise [angles]
  exact congrArg (fun t : BitVec 32 => (((s + 2#32 * BitVec.ofNat 32 n.val + t).toInt : ℝ) : EReal) * w (ix2 0 d)) (upper d)

theorem colSum_apply (x : FVec Ideal S256x128 .f32) (d : Fin 128) : colSum x (ix2 0 d) = ∑ n : Fin 256, x (ix2 n d) := by
  refine Eq.trans ?_ (rows32_sum x d)
  pointwise [colSum]

theorem meanLane_apply (x : FVec Ideal S256x128 .f32) (d : Fin 128) :
    meanLane x (ix2 0 d) = (∑ n : Fin 256, x (ix2 n d) + ∑ n : Fin 256, x (ix2 n (swLane d))) * ((1 / 512 : ℝ) : EReal) := by
  rw [← colSum_apply, ← colSum_apply, ← ofBits_512]
  pointwise [meanLane]
  have e : (⟨(d.val + 128 - 64) % 128, by omega⟩ : Fin 128) = swLane d := Fin.ext (by show (d.val + 128 - 64) % 128 = (d.val + 64) % 128; omega)
  exact congrArg (fun t => (colSum x (ix2 0 d) + colSum x (ix2 0 t)) * Ideal.ofBits .f32 0x3B000000#32) e

theorem signLane_apply (x : FVec Ideal S1x128 .f32) (d : Fin 128) : signLane x (ix2 0 d) = if d.val < 64 then 0 - x (ix2 0 d) else x (ix2 0 d) := by
  pointwise [signLane]
  have h : IntOp.cmpi .slt (BitVec.ofNat 32 d.val) 64#32 = if d.val < 64 then 1#1 else 0#1 := by
    revert d
    decide
  rw [h]
  split <;> rfl

theorem spread_apply (x : FVec Ideal S1x128 .f32) (r d : Fin 128) : spread x (ix2 r d) = x (ix2 0 d) := by
  pointwise [spread]

/-- The row of frequencies as loaded. -/
def invLoad (arg3 : Memref sig .tc .vmem S8x128 .f32) (X3 : BufTy.Contents (Elt Ideal) arg3.view.ty) : Vec Ideal S1x128 .f32 :=
  View.readAt (Elt Ideal) arg3.view (Rect.unit (s := S8x128) ![0, 0] S1x128.size inb_S8x128_S1x128_0_0).toLoadRect X3
theorem invLoad_apply (arg3 : Memref sig .tc .vmem S8x128 .f32) (X3 : BufTy.Contents (Elt Ideal) arg3.view.ty) (d : Fin 128) :
    invLoad arg3 X3 (ix2 0 d) = arg3.view.read (Elt Ideal) X3 (ix2 0 d) :=
  View.ld_unit_apply_of (arg3.view.read (Elt Ideal) X3) ![0, 0] S1x128.size inb_S8x128_S1x128_0_0 (ix2 0 d) (ix2 0 d) fun a => by
    fin_cases a
    · rfl
    · show d.val = 0 + d.val; omega
/-- It in the loaded shape. -/
def invRow (x : Vec Ideal S1x128 .f32) : FVec Ideal S1x128 .f32 := shapeCast S1x128 x shapeCasts_S1x128_S1x128
theorem invRow_apply (x : Vec Ideal S1x128 .f32) (d : Fin 128) : invRow x (ix2 0 d) = x (ix2 0 d) := by
  pointwise [invRow]

theorem off1_eq : ∀ i : grid0.Coords, k0_off1 i 0 = (i 0).val := by decide +kernel
/-- The start of a batch as loaded. -/
theorem startLoad (i : grid0.Coords) (h1 : k0_cond1 i = 1#1) (arg2 : Memref sig .tc .smem S5 .i32) (X2 : BufTy.Contents (Elt Ideal) arg2.view.ty) (h : 0 < S1.numel) :
    View.readAt (Elt Ideal) arg2.view (Rect.unit (s := S5) (k0_off1 i) S1.size (k0_off1_inb i h1)).toLoadRect X2 (Shape.Idx.first h) = arg2.view.read (Elt Ideal) X2 (ix1 (i 0)) :=
  View.ld_unit_apply_of (arg2.view.read (Elt Ideal) X2) (k0_off1 i) S1.size (k0_off1_inb i h1) _ (ix1 (i 0)) fun a => by
    fin_cases a
    show (i 0).val = k0_off1 i 0 + _
    rw [off1_eq]
    rfl

/-- The lanes of the mean cosine and of the signed mean sine, over all rows. -/
def cosLane (s : BitVec 32) (x : Vec Ideal S1x128 .f32) : FVec Ideal S128x128 .f32 := spread (meanLane (cos (angles s (invRow x))))
def sinLane (s : BitVec 32) (x : Vec Ideal S1x128 .f32) : FVec Ideal S128x128 .f32 := spread (signLane (meanLane (sin (angles s (invRow x)))))

theorem cosLane_apply (s : BitVec 32) (x : Vec Ideal S1x128 .f32) (r d : Fin 128) : cosLane s x (ix2 r d) = cosMean s (fun d => x (ix2 0 d)) d := by
  have h : ∀ n d, cos (angles s (invRow x)) (ix2 n d) = Ideal.cos (angOf s (fun d => x (ix2 0 d)) n d) := fun n d => by
    refine (congrArg Ideal.cos (angles_apply s (invRow x) n d)).trans ?_
    simp only [invRow_apply]
  unfold cosLane cosMean meanOf
  rw [spread_apply, meanLane_apply]
  simp only [h]
theorem sinLane_apply (s : BitVec 32) (x : Vec Ideal S1x128 .f32) (r d : Fin 128) : sinLane s x (ix2 r d) = sinMean s (fun d => x (ix2 0 d)) d := by
  have h : ∀ n d, sin (angles s (invRow x)) (ix2 n d) = Ideal.sin (angOf s (fun d => x (ix2 0 d)) n d) := fun n d => by
    refine (congrArg Ideal.sin (angles_apply s (invRow x) n d)).trans ?_
    simp only [invRow_apply]
  unfold sinLane sinMean meanOf
  rw [spread_apply, signLane_apply, meanLane_apply]
  simp only [h]

/-- A square in a slot of the scratch, and its transpose. -/
def slot (x : FVec Ideal S128x128 .f32) : FVec Ideal S1x128x128 .f32 := shapeCast S1x128x128 x shapeCasts_S128x128_S1x128x128
def slotT (x : FVec Ideal S128x128 .f32) : FVec Ideal S1x128x128 .f32 := shapeCast S1x128x128 (transpose S128x128 [1, 0] x transposes_S128x128_p1_0_S128x128) shapeCasts_S128x128_S1x128x128
theorem slot_apply (x : FVec Ideal S128x128 .f32) (r d : Fin 128) : slot x (ix3 0 r d) = x (ix2 r d) := by
  pointwise [slot]
theorem slotT_apply (x : FVec Ideal S128x128 .f32) (r d : Fin 128) : slotT x (ix3 0 r d) = x (ix2 d r) := by
  pointwise [slotT]

/-- The four slots as stored. -/
abbrev piecesC (vc vs : FVec Ideal S128x128 .f32) : List (View.Piece (Elt Ideal) S4x128x128 .f32) :=
  [⟨Rect.unit (s := S4x128x128) ![3, 0, 0] S1x128x128.size inb_S4x128x128_S1x128x128_3_0_0, slotT vs⟩,
   ⟨Rect.unit (s := S4x128x128) ![2, 0, 0] S1x128x128.size inb_S4x128x128_S1x128x128_2_0_0, slotT vc⟩,
   ⟨Rect.unit (s := S4x128x128) ![1, 0, 0] S1x128x128.size inb_S4x128x128_S1x128x128_1_0_0, slot vs⟩,
   ⟨Rect.unit (s := S4x128x128) ![0, 0, 0] S1x128x128.size inb_S4x128x128_S1x128x128_0_0_0, slot vc⟩]

section
variable (C S : Fin 128 → EReal)
def stackC (y : S4x128x128.Idx) : EReal := cwOf C S (y 0) (y 1) (y 2)
theorem pieceC_at (k : Fin 4) (off : Fin 3 → ℕ) (hoff : off = ![k.val, 0, 0]) (inb : ∀ a, off a + S1x128x128.size a ≤ S4x128x128.size a) (P : FVec Ideal S1x128x128 .f32)
    (hP : ∀ r d, P (ix3 0 r d) = cwOf C S k r d) (x : S1x128x128.Idx) : P x = stackC C S ((Rect.unit (s := S4x128x128) off S1x128x128.size inb).emb x) := by
  subst hoff
  idx_vars x
  have e0 : x0 = 0 := by omega
  subst e0
  have e : (Rect.unit (s := S4x128x128) ![k.val, 0, 0] S1x128x128.size inb).emb (ix3 0 x1 x2) = ix3 k x1 x2 :=
    Rect.emb_eq_of_coords _ _ _ fun a => by
      fin_cases a
      · show k.val = k.val + 1 * 0; omega
      · show x1.val = 0 + 1 * x1.val; omega
      · show x2.val = 0 + 1 * x2.val; omega
  rw [e]
  exact hP x1 x2
theorem pieceC_mem (k : Fin 4) (off : Fin 3 → ℕ) (hoff : off = ![k.val, 0, 0]) (inb : ∀ a, off a + S1x128x128.size a ≤ S4x128x128.size a) (r d : Fin 128) :
    (ix3 k r d : S4x128x128.Idx) ∈ (Rect.unit (s := S4x128x128) off S1x128x128.size inb).set := by
  subst hoff
  refine (LoadRect.mem_set _).mpr fun a => ?_
  fin_cases a
  · exact ⟨0, Nat.one_pos, by show k.val = k.val + 1 * 0; omega⟩
  · exact ⟨r.val, r.isLt, by show r.val = 0 + 1 * r.val; omega⟩
  · exact ⟨d.val, d.isLt, by show d.val = 0 + 1 * d.val; omega⟩

theorem cw_is (vc vs : FVec Ideal S128x128 .f32) (hc : ∀ r d, vc (ix2 r d) = C d) (hs : ∀ r d, vs (ix2 r d) = S d)
    (arg11 : Memref sig .tc .vmem S4x128x128 .f32) (f : BufTy.Contents (Elt Ideal) arg11.view.ty) :
    CwIs C S (arg11.view.read (Elt Ideal) (arg11.view.writes (Elt Ideal) f (piecesC vc vs))) := by
  intro k r d
  rw [View.read_writes_apply_of_pieces (Val := Elt Ideal) _ _ (stackC C S) (piecesC vc vs) ?_ _ ?_]
  · rfl
  · intro p hp
    simp only [List.mem_cons, List.not_mem_nil, or_false] at hp
    rcases hp with rfl | rfl | rfl | rfl
    · exact pieceC_at C S 3 _ rfl inb_S4x128x128_S1x128x128_3_0_0 _ fun r d => (slotT_apply vs r d).trans (hs d r)
    · exact pieceC_at C S 2 _ rfl inb_S4x128x128_S1x128x128_2_0_0 _ fun r d => (slotT_apply vc r d).trans (hc d r)
    · exact pieceC_at C S 1 _ rfl inb_S4x128x128_S1x128x128_1_0_0 _ fun r d => (slot_apply vs r d).trans (hs r d)
    · exact pieceC_at C S 0 _ rfl inb_S4x128x128_S1x128x128_0_0_0 _ fun r d => (slot_apply vc r d).trans (hc r d)
  · match k with
    | ⟨0, _⟩ => exact ⟨_, List.mem_cons_of_mem _ <| List.mem_cons_of_mem _ <| List.mem_cons_of_mem _ <| List.mem_cons_self .., pieceC_mem 0 _ rfl inb_S4x128x128_S1x128x128_0_0_0 r d⟩
    | ⟨1, _⟩ => exact ⟨_, List.mem_cons_of_mem _ <| List.mem_cons_of_mem _ <| List.mem_cons_self .., pieceC_mem 1 _ rfl inb_S4x128x128_S1x128x128_1_0_0 r d⟩
    | ⟨2, _⟩ => exact ⟨_, List.mem_cons_of_mem _ <| List.mem_cons_self .., pieceC_mem 2 _ rfl inb_S4x128x128_S1x128x128_2_0_0 r d⟩
    | ⟨3, _⟩ => exact ⟨_, List.mem_cons_self .., pieceC_mem 3 _ rfl inb_S4x128x128_S1x128x128_3_0_0 r d⟩
    | ⟨n + 4, h⟩ => exact absurd h (by omega)
end

end Cert.Proof.KernelIdeal

end
-- ==== Proof.Qx.lean ====
/-
  The window copied two heads side by side.
-/
module

public import proofs.«01_k».proof.Proof.Spec
public import Idealize.ShloMosaic.Lib.Ring

@[expose] public section

set_option maxRecDepth 16384

noncomputable section

namespace Cert.Proof.KernelIdeal

open Cert.KernelIdeal Cert.KernelIdeal.Gen
open Idealize.ShloMosaic Idealize.ShloMosaic.Tactic

/-- The words taken apart and put together again. -/
def copyWords (x : Vec Ideal S1x320x2x128 .bf16) : Vec Ideal S1x320x2x128 .bf16 :=
  interleaveRows S1x320x2x128
    (shapeCast S1x320x1x128 (shapeCast S1x320x128 (shapeCast S320x128 (rowsOfParity 0 S1x320x1x128 x bitcasts_S1x320x2x128_w16_S1x320x1x128_w32) shapeCasts_S1x320x1x128_S320x128) shapeCasts_S320x128_S1x320x128) shapeCasts_S1x320x128_S1x320x1x128)
    (shapeCast S1x320x1x128 (shapeCast S1x320x128 (shapeCast S320x128 (rowsOfParity 1 S1x320x1x128 x bitcasts_S1x320x2x128_w16_S1x320x1x128_w32) shapeCasts_S1x320x1x128_S320x128) shapeCasts_S320x128_S1x320x128) shapeCasts_S1x320x128_S1x320x1x128)
    bitcasts_S1x320x2x128_w16_S1x320x1x128_w32

theorem copyWords_apply (x : Vec Ideal S1x320x2x128 .bf16) (n : Fin 320) (r : Fin 2) (d : Fin 128) : copyWords x (ix4 0 n r d) = x (ix4 0 n r d) := by
  pointwise [copyWords]
  fin_cases r <;> rfl

/-- The window of a head at the entry. -/
def winOf (X : S1x17920x128.Idx → EReal) (n : Fin 320) (h : Fin 56) (d : Fin 128) : EReal := X (ix3 0 ⟨56 * n.val + h.val, by omega⟩ d)

theorem q_inb (j : Fin 28) : ∀ a, S1x320x2x128.size a = 0 ∨ (![0, j.val, 0, 0] : Fin 4 → ℕ) a + (![1, 28, 1, 1] : Fin 4 → ℕ) a * (S1x320x2x128.size a - 1) < S1x8960x2x128.size a := by
  revert j
  decide
theorem qx_inb (j : Fin 28) : ∀ a, (![j.val, 0, 0, 0] : Fin 4 → ℕ) a + S1x320x2x128.size a ≤ S28x320x2x128.size a := by
  revert j
  decide

section
variable (arg8 : Memref sig .tc .vmem S1x17920x128 .bf16) (harg8 : arg8.IsWhole) (X8 : BufTy.Contents (Elt Ideal) arg8.view.ty)
/-- Two heads' rows, 28 words apart. -/
def qLoad (j : Fin 28) : Vec Ideal S1x320x2x128 .bf16 :=
  View.readAt (Elt Ideal) (arg8.reshape S1x8960x2x128 reshapes_S1x17920x128_S1x8960x2x128.1 reshapes_S1x17920x128_S1x8960x2x128.2 harg8.contiguous).view ⟨![0, j.val, 0, 0], S1x320x2x128.size, ![1, 28, 1, 1], q_inb j⟩ X8
theorem qLoad_apply (j : Fin 28) (n : Fin 320) (r : Fin 2) (d : Fin 128) :
    qLoad arg8 harg8 X8 j (ix4 0 n r d) = winOf (arg8.view.read (Elt Ideal) X8) n ⟨2 * j.val + r.val, by omega⟩ d := by
  have e : (⟨![0, j.val, 0, 0], S1x320x2x128.size, ![1, 28, 1, 1], q_inb j⟩ : LoadRect S1x8960x2x128).idx (ix4 0 n r d) = ix4 0 ⟨28 * n.val + j.val, by omega⟩ r d := by
    funext a
    apply Fin.ext
    fin_cases a
    · rfl
    · show j.val + 28 * n.val = 28 * n.val + j.val; omega
    · show 0 + 1 * r.val = r.val; omega
    · show 0 + 1 * d.val = d.val; omega
  show shapeCast S1x8960x2x128 (arg8.view.read (Elt Ideal) X8) reshapes_S1x17920x128_S1x8960x2x128.1 _ = _
  rw [e]
  generalize arg8.view.read (Elt Ideal) X8 = Y
  pointwise [winOf]
  exact congrArg (fun t => Y (ix3 0 t d)) (Fin.ext (by show (28 * n.val + j.val) * 2 + r.val = 56 * n.val + (2 * j.val + r.val); omega))

/-- One copied pair of heads. -/
def pieceQ (j : Fin 28) : View.Piece (Elt Ideal) S28x320x2x128 .bf16 :=
  ⟨Rect.unit (s := S28x320x2x128) ![j.val, 0, 0, 0] S1x320x2x128.size (qx_inb j), copyWords (qLoad arg8 harg8 X8 j)⟩
/-- All of them, the last first. -/
abbrev piecesQ : List (View.Piece (Elt Ideal) S28x320x2x128 .bf16) :=
  [27, 26, 25, 24, 23, 22, 21, 20, 19, 18, 17, 16, 15, 14, 13, 12, 11, 10, 9, 8, 7, 6, 5, 4, 3, 2, 1, 0].map (pieceQ arg8 harg8 X8)

theorem all28 : ∀ j : Fin 28, j ∈ ([27, 26, 25, 24, 23, 22, 21, 20, 19, 18, 17, 16, 15, 14, 13, 12, 11, 10, 9, 8, 7, 6, 5, 4, 3, 2, 1, 0] : List (Fin 28)) := by decide

def stackQ (y : S28x320x2x128.Idx) : EReal := winOf (arg8.view.read (Elt Ideal) X8) (y 1) ⟨2 * (y 0).val + (y 2).val, by have := (y 0).isLt; have := (y 2).isLt; simp only [S28x320x2x128] at *; dsimp at *; omega⟩ (y 3)

theorem pieceQ_at (j : Fin 28) (x : S1x320x2x128.Idx) : (pieceQ arg8 harg8 X8 j).2 x = stackQ arg8 X8 ((pieceQ arg8 harg8 X8 j).1.emb x) := by
  idx_vars x
  have e0 : x0 = 0 := by omega
  subst e0
  have e : (pieceQ arg8 harg8 X8 j).1.emb (ix4 0 x1 x2 x3) = ix4 j x1 x2 x3 :=
    Rect.emb_eq_of_coords _ _ _ fun a => by
      fin_cases a
      · show j.val = j.val + 1 * 0; omega
      · show x1.val = 0 + 1 * x1.val; omega
      · show x2.val = 0 + 1 * x2.val; omega
      · show x3.val = 0 + 1 * x3.val; omega
  rw [e]
  exact (copyWords_apply _ x1 x2 x3).trans (qLoad_apply arg8 harg8 X8 j x1 x2 x3)

theorem pieceQ_mem (j : Fin 28) (n : Fin 320) (r : Fin 2) (d : Fin 128) : (ix4 j n r d : S28x320x2x128.Idx) ∈ (pieceQ arg8 harg8 X8 j).1.set := by
  refine (LoadRect.mem_set _).mpr fun a => ?_
  fin_cases a
  · exact ⟨0, Nat.one_pos, by show j.val = j.val + 1 * 0; omega⟩
  · exact ⟨n.val, n.isLt, by show n.val = 0 + 1 * n.val; omega⟩
  · exact ⟨r.val, r.isLt, by show r.val = 0 + 1 * r.val; omega⟩
  · exact ⟨d.val, d.isLt, by show d.val = 0 + 1 * d.val; omega⟩

theorem qx_is (arg20 : Memref sig .tc .vmem S28x320x2x128 .bf16) (f : BufTy.Contents (Elt Ideal) arg20.view.ty) :
    QxIs (winOf (arg8.view.read (Elt Ideal) X8)) (arg20.view.read (Elt Ideal) (arg20.view.writes (Elt Ideal) f (piecesQ arg8 harg8 X8))) := by
  intro j n r d
  rw [View.read_writes_apply_of_pieces (Val := Elt Ideal) _ _ (stackQ arg8 X8) (piecesQ arg8 harg8 X8) ?_ _ ?_]
  · rfl
  · intro p hp
    obtain ⟨j', -, rfl⟩ := List.mem_map.mp hp
    exact pieceQ_at arg8 harg8 X8 j'
  · exact ⟨pieceQ arg8 harg8 X8 j, List.mem_map.mpr ⟨j, all28 j, rfl⟩, pieceQ_mem arg8 harg8 X8 j n r d⟩
end

end Cert.Proof.KernelIdeal

end
-- ==== Proof.Init.lean ====
/-
  The first point of a batch over the extended reals: the codes turned, the scales and the norms of the values, the rotary means and the copied window.
-/
module

public import proofs.«01_k».proof.Proof.KernelIdealRun
public import proofs.«01_k».proof.Proof.InitLoop
public import proofs.«01_k».proof.Proof.Rotary
public import proofs.«01_k».proof.Proof.Qx

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The algebra's propositions. -/
local notation "𝕄" => MT nD τ sig Unit (Elt Ideal) ℕ (UU nD τ) ℕ

theorem cond1_of : ∀ i : grid0.Coords, ¬ k0_cond1 i = 1#1 → (i 1).val ≠ 0 := by decide +kernel

/-- The number a batch starts at, as loaded. -/
abbrev startWord (i : grid0.Coords) (h1 : k0_cond1 i = 1#1) (arg2 : Memref sig .tc .smem S5 .i32) (X2 : BufTy.Contents (Elt Ideal) arg2.view.ty) : BitVec 32 :=
  View.readAt (Elt Ideal) arg2.view (Rect.unit (s := S5) (k0_off1 i) S1.size (k0_off1_inb i h1)).toLoadRect X2 (Shape.Idx.first (s := S1) (by decide))

theorem cw_at (i : grid0.Coords) (h1 : k0_cond1 i = 1#1) (arg2 : Memref sig .tc .smem S5 .i32) (X2 : BufTy.Contents (Elt Ideal) arg2.view.ty) (arg3 : Memref sig .tc .vmem S8x128 .f32) (X3 : BufTy.Contents (Elt Ideal) arg3.view.ty)
    (C S : Fin 128 → EReal) (hC : C = cosMean (arg2.view.read (Elt Ideal) X2 (ix1 (i 0))) (fun d => arg3.view.read (Elt Ideal) X3 (ix2 0 d))) (hS : S = sinMean (arg2.view.read (Elt Ideal) X2 (ix1 (i 0))) (fun d => arg3.view.read (Elt Ideal) X3 (ix2 0 d)))
    (arg11 : Memref sig .tc .vmem S4x128x128 .f32) (f : BufTy.Contents (Elt Ideal) arg11.view.ty) :
    CwIs C S (arg11.view.read (Elt Ideal) (arg11.view.writes (Elt Ideal) f (piecesC (cosLane (startWord i h1 arg2 X2) (invLoad arg3 X3)) (sinLane (startWord i h1 arg2 X2) (invLoad arg3 X3))))) := by
  have hw : (fun d => invLoad arg3 X3 (ix2 0 d)) = fun d => arg3.view.read (Elt Ideal) X3 (ix2 0 d) := funext fun d => invLoad_apply arg3 X3 d
  have hs : startWord i h1 arg2 X2 = arg2.view.read (Elt Ideal) X2 (ix1 (i 0)) := startLoad i h1 arg2 X2 _
  refine cw_is C S _ _ (fun r d => ?_) (fun r d => ?_) arg11 f
  · rw [cosLane_apply, hw, hs, hC]
  · rw [sinLane_apply, hw, hs, hS]

set_option maxHeartbeats 8000000 in
set_option maxRecDepth 65536 in
/-- What the first point of a batch leaves, and the other points keep. -/
theorem init_val (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (C S : Fin 128 → EReal) (Q : Fin 320 → Fin 56 → Fin 128 → EReal) (K : Fin 8 → Fin 128 → Fin 2048 → EReal) (ks vn : Fin 8 → Fin 2048 → EReal) (hC : C = cosMean (arg2.view.read (Elt Ideal) X2 (ix1 (i 0))) (fun d => arg3.view.read (Elt Ideal) X3 (ix2 0 d))) (hS : S = sinMean (arg2.view.read (Elt Ideal) X2 (ix1 (i 0))) (fun d => arg3.view.read (Elt Ideal) X3 (ix2 0 d))) (hQ : Q = winOf (arg8.view.read (Elt Ideal) X8)) (hK : K = kOf (arg4.view.read (Elt Ideal) X4)) (hks : ks = ksOf (arg5.view.read (Elt Ideal) X5)) (hvn : vn = vnOf (arg6.view.read (Elt Ideal) X6) (arg7.view.read (Elt Ideal) X7)) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, ⌜(fun X => (i 1).val ≠ 0 → CwIs C S X) (arg11.view.read (Elt Ideal) f)⌝ ∗ (arg11.view.loc (c : Thread nD τ) ↦[arg11.view.set]{fullShare} f)) ∗ (∃ f : BufTy.Contents (Elt Ideal) arg12.view.ty, ⌜(fun X => (i 1).val ≠ 0 → KtIs K X) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(fun X => (i 1).val ≠ 0 → RowIs ks X) (arg14.view.read (Elt Ideal) f)⌝ ∗ (arg14.view.loc (c : Thread nD τ) ↦[arg14.view.set]{fullShare} f)) ∗ (∃ f : BufTy.Contents (Elt Ideal) arg15.view.ty, ⌜(fun X => (i 1).val ≠ 0 → RowIs vn X) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) (i 1).val) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) (i 1).val) (arg19.view.read (Elt Ideal) f)⌝ ∗ (arg19.view.loc (c : Thread nD τ) ↦[arg19.view.set]{fullShare} f)) ∗ (∃ f : BufTy.Contents (Elt Ideal) arg20.view.ty, ⌜(fun X => (i 1).val ≠ 0 → QxIs Q X) (arg20.view.read (Elt Ideal) f)⌝ ∗ (arg20.view.loc (c : Thread nD τ) ↦[arg20.view.set]{fullShare} f))) : sProp 𝕄)
      ⊢ wp frame (wpE (defs₀ (F := Ideal)) 𝒱₀ (c : Thread nD τ) none) Set.univ (initM (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, ⌜(CwIs C S) (arg11.view.read (Elt Ideal) f)⌝ ∗ (arg11.view.loc (c : Thread nD τ) ↦[arg11.view.set]{fullShare} f)) ∗ (∃ f : BufTy.Contents (Elt Ideal) arg12.view.ty, ⌜(KtIs K) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(RowIs ks) (arg14.view.read (Elt Ideal) f)⌝ ∗ (arg14.view.loc (c : Thread nD τ) ↦[arg14.view.set]{fullShare} f)) ∗ (∃ f : BufTy.Contents (Elt Ideal) arg15.view.ty, ⌜(RowIs vn) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) (i 1).val) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) (i 1).val) (arg19.view.read (Elt Ideal) f)⌝ ∗ (arg19.view.loc (c : Thread nD τ) ↦[arg19.view.set]{fullShare} f)) ∗ (∃ f : BufTy.Contents (Elt Ideal) arg20.view.ty, ⌜(QxIs Q) (arg20.view.read (Elt Ideal) f)⌝ ∗ (arg20.view.loc (c : Thread nD τ) ↦[arg20.view.set]{fullShare} f)))) := by
  unfold initM
  by_cases h1 : k0_cond1 i = 1#1
  · rw [dif_pos h1]
    unfold initB
    simp only [k0_part24_eq_skeleton]
    unfold k0_part24_skel
    simp only [k0_part13_eq_skeleton]
    unfold k0_part13_skel
    iintro ⟨H2, H3, H4, H5, H6, H7, H8, ⟨%f9, H9⟩, ⟨%f10, H10⟩, ⟨%f11, %h11, H11⟩, ⟨%f12, %h12, H12⟩, ⟨%f13, H13⟩, ⟨%f14, %h14, H14⟩, ⟨%f15, %h15, H15⟩, ⟨%f16, H16⟩, ⟨%f17, H17⟩, ⟨%f18, %h18, H18⟩, ⟨%f19, %h19, H19⟩, ⟨%f20, %h20, H20⟩⟩
    have z12 : KtTo (kOf (arg4.view.read (Elt Ideal) X4)) 0 (arg12.view.read (Elt Ideal) f12) := fun _ _ t ht => absurd ht (by omega)
    have z14 : RowTo (ksOf (arg5.view.read (Elt Ideal) X5)) 0 (arg14.view.read (Elt Ideal) f14) := fun _ t ht => absurd ht (by omega)
    have z15 : RowTo (vnOf (arg6.view.read (Elt Ideal) X6) (arg7.view.read (Elt Ideal) X7)) 0 (arg15.view.read (Elt Ideal) f15) := fun _ t ht => absurd ht (by omega)
    sl_exec_parts
    sl_step
    have e8 : Scf.trips k0_t1_loop.lb k0_t1_loop.ub k0_t1_loop.st = 8 := rfl
    have e12 : KtIs K (arg12.view.read (Elt Ideal) fL0) := fun h d t => (hL4 h d t (by rw [e8]; omega)).trans (by rw [hK])
    have e14 : RowIs ks (arg14.view.read (Elt Ideal) fL2) := fun h t => (hL7 h t (by rw [e8]; omega)).trans (by rw [hks])
    have e15 : RowIs vn (arg15.view.read (Elt Ideal) fL3) := fun h t => (hL9 h t (by rw [e8]; omega)).trans (by rw [hvn])
    have e20 : QxIs Q (arg20.view.read (Elt Ideal) (arg20.view.writes (Elt Ideal) f20 (piecesQ arg8 harg8 X8))) := by
      rw [hQ]
      exact qx_is arg8 harg8 X8 arg20 f20
    have e11 := cw_at i h1 arg2 X2 arg3 X3 C S hC hS arg11 arg11.view.junk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]
    · iexists _
      isplitr
      rotate_left
      · iexact H11
      · ipureintro
        exact e11
    isplitl [H12]
    · iexists _
      isplitr
      rotate_left
      · iexact H12
      · ipureintro
        exact e12
    isplitl [H13]; · iexists _; iexact H13
    isplitl [H14]
    · iexists _
      isplitr
      rotate_left
      · iexact H14
      · ipureintro
        exact e14
    isplitl [H15]
    · iexists _
      isplitr
      rotate_left
      · iexact H15
      · ipureintro
        exact e15
    isplitl [H16]; · iexists _; iexact H16
    isplitl [H17]; · iexists _; iexact H17
    isplitl [H18]
    · iexists _
      isplitr
      rotate_left
      · iexact H18
      · ipureintro
        exact h18
    isplitl [H19]
    · iexists _
      isplitr
      rotate_left
      · iexact H19
      · ipureintro
        exact h19
    iexists _
    isplitr
    rotate_left
    · iexact H20
    · ipureintro
      exact e20
  · rw [dif_neg h1]
    iintro ⟨H2, H3, H4, H5, H6, H7, H8, ⟨%f9, H9⟩, ⟨%f10, H10⟩, ⟨%f11, %h11, H11⟩, ⟨%f12, %h12, H12⟩, ⟨%f13, H13⟩, ⟨%f14, %h14, H14⟩, ⟨%f15, %h15, H15⟩, ⟨%f16, H16⟩, ⟨%f17, H17⟩, ⟨%f18, %h18, H18⟩, ⟨%f19, %h19, H19⟩, ⟨%f20, %h20, H20⟩⟩
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]
    · iexists _
      isplitr
      rotate_left
      · iexact H11
      · ipureintro
        exact h11 (cond1_of i h1)
    isplitl [H12]
    · iexists _
      isplitr
      rotate_left
      · iexact H12
      · ipureintro
        exact h12 (cond1_of i h1)
    isplitl [H13]; · iexists _; iexact H13
    isplitl [H14]
    · iexists _
      isplitr
      rotate_left
      · iexact H14
      · ipureintro
        exact h14 (cond1_of i h1)
    isplitl [H15]
    · iexists _
      isplitr
      rotate_left
      · iexact H15
      · ipureintro
        exact h15 (cond1_of i h1)
    isplitl [H16]; · iexists _; iexact H16
    isplitl [H17]; · iexists _; iexact H17
    isplitl [H18]
    · iexists _
      isplitr
      rotate_left
      · iexact H18
      · ipureintro
        exact h18
    isplitl [H19]
    · iexists _
      isplitr
      rotate_left
      · iexact H19
      · ipureintro
        exact h19
    iexists _
    isplitr
    rotate_left
    · iexact H20
    · ipureintro
      exact h20 (cond1_of i h1)

end Cert.Proof.KernelIdeal

end
-- ==== Proof.Launch.lean ====
/-
  The launch of `KernelIdeal` over the extended reals: what the two result arrays hold after the forty grid points.
-/
module

public import proofs.«01_k».proof.Proof.KernelIdealFrame
public import proofs.«01_k».proof.Proof.BodyVal
public import proofs.«01_k».proof.Proof.Init
public import Idealize.ShloMosaic.Lib.Pipeline.FrameBody
public import Idealize.ShloMosaic.Lib.Pipeline.ArrRel
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window Dat)

/-- The algebra's propositions. -/
local notation "𝕄" => MT nD τ sig Unit (Elt Ideal) ℕ (UU nD τ) ℕ

set_option maxRecDepth 16384

set_option maxHeartbeats 4000000 in
/-- A grid point's body: the initialization, where it runs, and the rest. -/
theorem body_value (c : Dev nD) (i : grid0.Coords) (arg2 : Memref sig .tc .smem S5 .i32) (harg2 : arg2.IsWhole) (arg3 : Memref sig .tc .vmem S8x128 .f32) (harg3 : arg3.IsWhole) (arg4 : Memref sig .tc .vmem S1x16384x128 .fp8e4m3) (harg4 : arg4.IsWhole) (arg5 : Memref sig .tc .vmem S1x2048x8 .f32) (harg5 : arg5.IsWhole) (arg6 : Memref sig .tc .vmem S1x16384x128 .fp8e4m3) (harg6 : arg6.IsWhole) (arg7 : Memref sig .tc .vmem S1x2048x8 .f32) (harg7 : arg7.IsWhole) (arg8 : Memref sig .tc .vmem S1x17920x128 .bf16) (harg8 : arg8.IsWhole) (arg9 : Memref sig .tc .vmem S1x2048x8 .f32) (harg9 : arg9.IsWhole) (arg10 : Memref sig .tc .vmem S1x2048x56 .f32) (harg10 : arg10.IsWhole) (arg11 : Memref sig .tc .vmem S4x128x128 .f32) (harg11 : arg11.IsWhole) (arg12 : Memref sig .tc .vmem S8x128x2048 .bf16) (harg12 : arg12.IsWhole) (arg13 : Memref sig .tc .vmem S2x2048x128 .bf16) (harg13 : arg13.IsWhole) (arg14 : Memref sig .tc .vmem S8x2048 .f32) (harg14 : arg14.IsWhole) (arg15 : Memref sig .tc .vmem S8x2048 .f32) (harg15 : arg15.IsWhole) (arg16 : Memref sig .tc .vmem S896x128 .bf16) (harg16 : arg16.IsWhole) (arg17 : Memref sig .tc .vmem S16x128 .f32) (harg17 : arg17.IsWhole) (arg18 : Memref sig .tc .vmem S16x8x8x128 .f32) (harg18 : arg18.IsWhole) (arg19 : Memref sig .tc .vmem S16x8x128 .f32) (harg19 : arg19.IsWhole) (arg20 : Memref sig .tc .vmem S28x320x2x128 .bf16) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (C S : Fin 128 → EReal) (Q : Fin 320 → Fin 56 → Fin 128 → EReal) (K : Fin 8 → Fin 128 → Fin 2048 → EReal) (ks vn : Fin 8 → Fin 2048 → EReal) (hC : C = cosMean (arg2.view.read (Elt Ideal) X2 (ix1 (i 0))) (fun d => arg3.view.read (Elt Ideal) X3 (ix2 0 d))) (hS : S = sinMean (arg2.view.read (Elt Ideal) X2 (ix1 (i 0))) (fun d => arg3.view.read (Elt Ideal) X3 (ix2 0 d))) (hQ : Q = winOf (arg8.view.read (Elt Ideal) X8)) (hK : K = kOf (arg4.view.read (Elt Ideal) X4)) (hks : ks = ksOf (arg5.view.read (Elt Ideal) X5)) (hvn : vn = vnOf (arg6.view.read (Elt Ideal) X6) (arg7.view.read (Elt Ideal) X7)) :
    (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, ⌜(fun X => (i 1).val ≠ 0 → CwIs C S X) (arg11.view.read (Elt Ideal) f)⌝ ∗ (arg11.view.loc (c : Thread nD τ) ↦[arg11.view.set]{fullShare} f)) ∗ (∃ f : BufTy.Contents (Elt Ideal) arg12.view.ty, ⌜(fun X => (i 1).val ≠ 0 → KtIs K X) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(fun X => (i 1).val ≠ 0 → RowIs ks X) (arg14.view.read (Elt Ideal) f)⌝ ∗ (arg14.view.loc (c : Thread nD τ) ↦[arg14.view.set]{fullShare} f)) ∗ (∃ f : BufTy.Contents (Elt Ideal) arg15.view.ty, ⌜(fun X => (i 1).val ≠ 0 → RowIs vn X) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) (i 1).val) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) (i 1).val) (arg19.view.read (Elt Ideal) f)⌝ ∗ (arg19.view.loc (c : Thread nD τ) ↦[arg19.view.set]{fullShare} f)) ∗ (∃ f : BufTy.Contents (Elt Ideal) arg20.view.ty, ⌜(fun X => (i 1).val ≠ 0 → QxIs Q X) (arg20.view.read (Elt Ideal) f)⌝ ∗ (arg20.view.loc (c : Thread nD τ) ↦[arg20.view.set]{fullShare} f))) : sProp 𝕄)
      ⊢ wp Idealize.ShloMosaic.frame (wpE (defs₀ (F := Ideal)) 𝒱₀ (c : Thread nD τ) none) Set.univ (cc0_expected_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt Ideal) arg9.view.ty, ⌜(fun X => (i 1).val = 7 → SOut (fun h => sOf (ZQ C S Q K ks h) (vn h)) X) (arg9.view.read (Elt Ideal) f)⌝ ∗ (arg9.view.loc (c : Thread nD τ) ↦[arg9.view.set]{fullShare} f)) ∗ (∃ f : BufTy.Contents (Elt Ideal) arg10.view.ty, ⌜(fun X => (i 1).val = 7 → ZOut (ZQ C S Q K ks) X) (arg10.view.read (Elt Ideal) f)⌝ ∗ (arg10.view.loc (c : Thread nD τ) ↦[arg10.view.set]{fullShare} f)) ∗ (∃ f : BufTy.Contents (Elt Ideal) arg11.view.ty, ⌜(CwIs C S) (arg11.view.read (Elt Ideal) f)⌝ ∗ (arg11.view.loc (c : Thread nD τ) ↦[arg11.view.set]{fullShare} f)) ∗ (∃ f : BufTy.Contents (Elt Ideal) arg12.view.ty, ⌜(KtIs K) (arg12.view.read (Elt Ideal) f)⌝ ∗ (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, ⌜(RowIs ks) (arg14.view.read (Elt Ideal) f)⌝ ∗ (arg14.view.loc (c : Thread nD τ) ↦[arg14.view.set]{fullShare} f)) ∗ (∃ f : BufTy.Contents (Elt Ideal) arg15.view.ty, ⌜(RowIs vn) (arg15.view.read (Elt Ideal) f)⌝ ∗ (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, ⌜(LogitsTo (ZQ C S Q K ks) ((i 1).val + 1)) (arg18.view.read (Elt Ideal) f)⌝ ∗ (arg18.view.loc (c : Thread nD τ) ↦[arg18.view.set]{fullShare} f)) ∗ (∃ f : BufTy.Contents (Elt Ideal) arg19.view.ty, ⌜(ScoresTo (fun h => sOf (ZQ C S Q K ks h) (vn h)) ((i 1).val + 1)) (arg19.view.read (Elt Ideal) f)⌝ ∗ (arg19.view.loc (c : Thread nD τ) ↦[arg19.view.set]{fullShare} f)) ∗ (∃ f : BufTy.Contents (Elt Ideal) arg20.view.ty, ⌜(QxIs Q) (arg20.view.read (Elt Ideal) f)⌝ ∗ (arg20.view.loc (c : Thread nD τ) ↦[arg20.view.set]{fullShare} f)))) :=
  body_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 C S Q K ks vn
    (init_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 C S Q K ks vn hC hS hQ hK hks hvn)

variable (m : (ℓ : Loc nD τ sig) → Buf (Elt Ideal) ℓ) (g : Dev nD → PrngReg)

/-- A batch's number. -/
abbrev bt (b : ℕ) : Fin 5 := ⟨b % 5, Nat.mod_lt _ (by norm_num)⟩
/-- The rotation's cosines of a batch. -/
def bC (c : Dev nD) (b : ℕ) : Fin 128 → EReal :=
  cosMean ((tab m 0).1 0 (ix1 (bt b))) (fun d => V m c main_v11 (ix2 0 d))
/-- The rotation's sines of a batch, signed. -/
def bS (c : Dev nD) (b : ℕ) : Fin 128 → EReal :=
  sinMean ((tab m 0).1 0 (ix1 (bt b))) (fun d => V m c main_v11 (ix2 0 d))
/-- The queries of a batch. -/
def bQ (c : Dev nD) (b : ℕ) : Fin 320 → Fin 56 → Fin 128 → EReal :=
  winOf (fun x => V m c main_v14 (ix3 (bt b) (x 1) (x 2)))
/-- The keys of a batch. -/
def bK (c : Dev nD) (b : ℕ) : Fin 8 → Fin 128 → Fin 2048 → EReal :=
  kOf (fun x => V m c main_v12 (ix3 (bt b) (x 1) (x 2)))
/-- The keys' scales of a batch. -/
def bks (c : Dev nD) (b : ℕ) : Fin 8 → Fin 2048 → EReal :=
  ksOf (fun x => V m c main_arg1 (ix3 (bt b) (x 1) (x 2)))
/-- The values' norms of a batch. -/
def bvn (c : Dev nD) (b : ℕ) : Fin 8 → Fin 2048 → EReal :=
  vnOf (fun x => V m c main_v13 (ix3 (bt b) (x 1) (x 2))) (fun x => V m c main_arg3 (ix3 (bt b) (x 1) (x 2)))
/-- The logits of a batch. -/
def bZ (c : Dev nD) (b : ℕ) : Fin 8 → Fin 8 → Fin 2048 → EReal := ZQ (bC m c b) (bS m c b) (bQ m c b) (bK m c b) (bks m c b)
/-- The scores of a batch. -/
def bSc (c : Dev nD) (b : ℕ) : Fin 8 → Fin 2048 → EReal := fun h => sOf (bZ m c b h) (bvn m c b h)

/-- The scratch before grid point `n`: the batch's tables where the batch has begun, the groups so far. -/
def Scr (c : Dev nD) (n : ℕ) : sProp 𝕄 :=
  iprop((∃ f : Buf (Elt Ideal) ((c : Thread nD τ).loc cc0_scratch0), ⌜(fun X => n % 8 ≠ 0 → CwIs (bC m c (n / 8)) (bS m c (n / 8)) X) f⌝ ∗ (((c : Thread nD τ).loc cc0_scratch0) ↦{fullShare} f)) ∗ (∃ f : Buf (Elt Ideal) ((c : Thread nD τ).loc cc0_scratch1), ⌜(fun X => n % 8 ≠ 0 → KtIs (bK m c (n / 8)) X) f⌝ ∗ (((c : Thread nD τ).loc cc0_scratch1) ↦{fullShare} f)) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ⌜(fun X => n % 8 ≠ 0 → RowIs (bks m c (n / 8)) X) f⌝ ∗ (((c : Thread nD τ).loc cc0_scratch3) ↦{fullShare} f)) ∗ (∃ f : Buf (Elt Ideal) ((c : Thread nD τ).loc cc0_scratch4), ⌜(fun X => n % 8 ≠ 0 → RowIs (bvn m c (n / 8)) X) f⌝ ∗ (((c : Thread nD τ).loc cc0_scratch4) ↦{fullShare} f)) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f) ∗ (∃ f : Buf (Elt Ideal) ((c : Thread nD τ).loc cc0_scratch7), ⌜(LogitsTo (bZ m c (n / 8)) (n % 8)) f⌝ ∗ (((c : Thread nD τ).loc cc0_scratch7) ↦{fullShare} f)) ∗ (∃ f : Buf (Elt Ideal) ((c : Thread nD τ).loc cc0_scratch8), ⌜(ScoresTo (bSc m c (n / 8)) (n % 8)) f⌝ ∗ (((c : Thread nD τ).loc cc0_scratch8) ↦{fullShare} f)) ∗ (∃ f : Buf (Elt Ideal) ((c : Thread nD τ).loc cc0_scratch9), ⌜(fun X => n % 8 ≠ 0 → QxIs (bQ m c (n / 8)) X) f⌝ ∗ (((c : Thread nD τ).loc cc0_scratch9) ↦{fullShare} f)))

/-- The invariant between grid points. -/
def Φv (c : Dev nD) (n : ℕ) : sProp 𝕄 :=
  iprop((Scr m c n ∗ ∃ r, prngReg c r) ∗ Pipeline.ΦT pre0 (tab m 0).1 c)

/-- What a grid point leaves: an input's block as found, an output's, at a batch's last point, the batch's values. -/
def rdatV (c : Dev nD) : RDat τ (Elt Ideal) Unit ℕ (UU nD τ) ℕ (cfgT m) c where
  A w := V m c (Pipeline.arrRef (cfgT m).spec w)
  after w t Y X := (((cfgT m).win w).isOut = false → X = Y)
    ∧ (∀ X' : S1x2048x8.Idx → EReal, w = (6 : Fin 8) → HEq X X' → t.val % 8 = 7 → SOut (bSc m c (t.val / 8)) X')
    ∧ (∀ X' : S1x2048x56.Idx → EReal, w = (7 : Fin 8) → HEq X X' → t.val % 8 = 7 → ZOut (bZ m c (t.val / 8)) X')
  Φ n := Φv m c n.val
  q _ := fullShare
  owed _ := 0

/-- A table at which the pipeline's schedule can be computed: the schedule does not depend on it. -/
def tab0 : (pcfg0 (F := Ideal)).Adm := ⟨fun | 0 => fun _ => (0 : BitVec 32), trivial⟩

theorem flush_6 (a : (pcfg0 (F := Ideal)).Adm) (t : Fin grid0.N) : ((cfg0 a).win 6).flush t = true → t.val % 8 = 7 := by
  have h : ∀ t : Fin grid0.N, ((cfg0 tab0).win 6).flush t = true → t.val % 8 = 7 := by decide +kernel
  exact h t
theorem flush_7 (a : (pcfg0 (F := Ideal)).Adm) (t : Fin grid0.N) : ((cfg0 a).win 7).flush t = true → t.val % 8 = 7 := by
  have h : ∀ t : Fin grid0.N, ((cfg0 tab0).win 7).flush t = true → t.val % 8 = 7 := by decide +kernel
  exact h t
theorem covers_6 (a : (pcfg0 (F := Ideal)).Adm) : ((cfg0 a).win 6).Covers := by
  have h : ((cfg0 tab0).win 6).Covers := by decide +kernel
  exact h
theorem covers_7 (a : (pcfg0 (F := Ideal)).Adm) : ((cfg0 a).win 7).Covers := by
  have h : ((cfg0 tab0).win 7).Covers := by decide +kernel
  exact h
theorem coords_0 : ∀ t : Fin grid0.N, ((grid0.coords t) 0).val = t.val / 8 := by decide +kernel
theorem coords_1 : ∀ t : Fin grid0.N, ((grid0.coords t) 1).val = t.val % 8 := by decide +kernel

theorem emb_0 (a : (pcfg0 (F := Ideal)).Adm) (t : Fin grid0.N) (x : S8x128.Idx) : (((cfg0 a).win 0).blk t).view.emb x = x := by
  have e0 : ∀ t : Fin grid0.N, ((cfg0 tab0).win 0).index t = ![0, 0] := by decide +kernel
  have e : ∀ t : Fin grid0.N, ((cfg0 a).win 0).index t = ![0, 0] := e0
  blk_ext [e]

theorem emb_1 (a : (pcfg0 (F := Ideal)).Adm) (t : Fin grid0.N) (x : S1x16384x128.Idx) :
    (((cfg0 a).win 1).blk t).view.emb x = ix3 (bt (t.val / 8)) (x 1) (x 2) := by
  have e0 : ∀ t : Fin grid0.N, ((cfg0 tab0).win 1).index t = ![t.val / 8 % 5, 0, 0] := by decide +kernel
  have e : ∀ t : Fin grid0.N, ((cfg0 a).win 1).index t = ![t.val / 8 % 5, 0, 0] := e0
  blk_ext [e]

theorem emb_2 (a : (pcfg0 (F := Ideal)).Adm) (t : Fin grid0.N) (x : S1x2048x8.Idx) :
    (((cfg0 a).win 2).blk t).view.emb x = ix3 (bt (t.val / 8)) (x 1) (x 2) := by
  have e0 : ∀ t : Fin grid0.N, ((cfg0 tab0).win 2).index t = ![t.val / 8 % 5, 0, 0] := by decide +kernel
  have e : ∀ t : Fin grid0.N, ((cfg0 a).win 2).index t = ![t.val / 8 % 5, 0, 0] := e0
  blk_ext [e]

theorem emb_3 (a : (pcfg0 (F := Ideal)).Adm) (t : Fin grid0.N) (x : S1x16384x128.Idx) :
    (((cfg0 a).win 3).blk t).view.emb x = ix3 (bt (t.val / 8)) (x 1) (x 2) := by
  have e0 : ∀ t : Fin grid0.N, ((cfg0 tab0).win 3).index t = ![t.val / 8 % 5, 0, 0] := by decide +kernel
  have e : ∀ t : Fin grid0.N, ((cfg0 a).win 3).index t = ![t.val / 8 % 5, 0, 0] := e0
  blk_ext [e]

theorem emb_4 (a : (pcfg0 (F := Ideal)).Adm) (t : Fin grid0.N) (x : S1x2048x8.Idx) :
    (((cfg0 a).win 4).blk t).view.emb x = ix3 (bt (t.val / 8)) (x 1) (x 2) := by
  have e0 : ∀ t : Fin grid0.N, ((cfg0 tab0).win 4).index t = ![t.val / 8 % 5, 0, 0] := by decide +kernel
  have e : ∀ t : Fin grid0.N, ((cfg0 a).win 4).index t = ![t.val / 8 % 5, 0, 0] := e0
  blk_ext [e]

theorem emb_5 (a : (pcfg0 (F := Ideal)).Adm) (t : Fin grid0.N) (x : S1x17920x128.Idx) :
    (((cfg0 a).win 5).blk t).view.emb x = ix3 (bt (t.val / 8)) (x 1) (x 2) := by
  have e0 : ∀ t : Fin grid0.N, ((cfg0 tab0).win 5).index t = ![t.val / 8 % 5, 0, 0] := by decide +kernel
  have e : ∀ t : Fin grid0.N, ((cfg0 a).win 5).index t = ![t.val / 8 % 5, 0, 0] := e0
  blk_ext [e]

theorem emb_6 (a : (pcfg0 (F := Ideal)).Adm) (t : Fin grid0.N) (x : S1x2048x8.Idx) :
    (((cfg0 a).win 6).blk t).view.emb x = ix3 (bt (t.val / 8)) (x 1) (x 2) := by
  have e0 : ∀ t : Fin grid0.N, ((cfg0 tab0).win 6).index t = ![t.val / 8 % 5, 0, 0] := by decide +kernel
  have e : ∀ t : Fin grid0.N, ((cfg0 a).win 6).index t = ![t.val / 8 % 5, 0, 0] := e0
  blk_ext [e]

theorem emb_7 (a : (pcfg0 (F := Ideal)).Adm) (t : Fin grid0.N) (x : S1x2048x56.Idx) :
    (((cfg0 a).win 7).blk t).view.emb x = ix3 (bt (t.val / 8)) (x 1) (x 2) := by
  have e0 : ∀ t : Fin grid0.N, ((cfg0 tab0).win 7).index t = ![t.val / 8 % 5, 0, 0] := by decide +kernel
  have e : ∀ t : Fin grid0.N, ((cfg0 a).win 7).index t = ![t.val / 8 % 5, 0, 0] := e0
  blk_ext [e]

/-- What window 0's buffer holds at a grid point. -/
theorem found_0 (c : Dev nD) (t : Fin grid0.N) (Y : S8x128.Idx → EReal) (h : (rdatV m c).Finds 0 t Y) :
    Y = V m c main_v11 := by
  obtain ⟨d, hd⟩ := (rdatV m c).finds_in_eq_fetched 0 rfl (fun _ _ _ => rfl) (fun t Y X h => h.1 rfl) t Y h
  funext x
  rw [hd]
  show V m c main_v11 ((((cfgT m).win 0).blk t).view.emb x) = _
  congr 1
  exact emb_0 (tab m 0) t x

/-- What window 1's buffer holds at a grid point. -/
theorem found_1 (c : Dev nD) (t : Fin grid0.N) (Y : S1x16384x128.Idx → EReal) (h : (rdatV m c).Finds 1 t Y) :
    Y = fun x => V m c main_v12 (ix3 (bt (t.val / 8)) (x 1) (x 2)) := by
  obtain ⟨d, hd⟩ := (rdatV m c).finds_in_eq_fetched 1 rfl (fun _ _ _ => rfl) (fun t Y X h => h.1 rfl) t Y h
  funext x
  rw [hd]
  show V m c main_v12 ((((cfgT m).win 1).blk t).view.emb x) = _
  refine congrArg (V m c main_v12) ?_
  exact emb_1 (tab m 0) t x

/-- What window 2's buffer holds at a grid point. -/
theorem found_2 (c : Dev nD) (t : Fin grid0.N) (Y : S1x2048x8.Idx → EReal) (h : (rdatV m c).Finds 2 t Y) :
    Y = fun x => V m c main_arg1 (ix3 (bt (t.val / 8)) (x 1) (x 2)) := by
  obtain ⟨d, hd⟩ := (rdatV m c).finds_in_eq_fetched 2 rfl (fun _ _ _ => rfl) (fun t Y X h => h.1 rfl) t Y h
  funext x
  rw [hd]
  show V m c main_arg1 ((((cfgT m).win 2).blk t).view.emb x) = _
  refine congrArg (V m c main_arg1) ?_
  exact emb_2 (tab m 0) t x

/-- What window 3's buffer holds at a grid point. -/
theorem found_3 (c : Dev nD) (t : Fin grid0.N) (Y : S1x16384x128.Idx → EReal) (h : (rdatV m c).Finds 3 t Y) :
    Y = fun x => V m c main_v13 (ix3 (bt (t.val / 8)) (x 1) (x 2)) := by
  obtain ⟨d, hd⟩ := (rdatV m c).finds_in_eq_fetched 3 rfl (fun _ _ _ => rfl) (fun t Y X h => h.1 rfl) t Y h
  funext x
  rw [hd]
  show V m c main_v13 ((((cfgT m).win 3).blk t).view.emb x) = _
  refine congrArg (V m c main_v13) ?_
  exact emb_3 (tab m 0) t x

/-- What window 4's buffer holds at a grid point. -/
theorem found_4 (c : Dev nD) (t : Fin grid0.N) (Y : S1x2048x8.Idx → EReal) (h : (rdatV m c).Finds 4 t Y) :
    Y = fun x => V m c main_arg3 (ix3 (bt (t.val / 8)) (x 1) (x 2)) := by
  obtain ⟨d, hd⟩ := (rdatV m c).finds_in_eq_fetched 4 rfl (fun _ _ _ => rfl) (fun t Y X h => h.1 rfl) t Y h
  funext x
  rw [hd]
  show V m c main_arg3 ((((cfgT m).win 4).blk t).view.emb x) = _
  refine congrArg (V m c main_arg3) ?_
  exact emb_4 (tab m 0) t x

/-- What window 5's buffer holds at a grid point. -/
theorem found_5 (c : Dev nD) (t : Fin grid0.N) (Y : S1x17920x128.Idx → EReal) (h : (rdatV m c).Finds 5 t Y) :
    Y = fun x => V m c main_v14 (ix3 (bt (t.val / 8)) (x 1) (x 2)) := by
  obtain ⟨d, hd⟩ := (rdatV m c).finds_in_eq_fetched 5 rfl (fun _ _ _ => rfl) (fun t Y X h => h.1 rfl) t Y h
  funext x
  rw [hd]
  show V m c main_v14 ((((cfgT m).win 5).blk t).view.emb x) = _
  refine congrArg (V m c main_v14) ?_
  exact emb_5 (tab m 0) t x

theorem lt_40 (t : Fin grid0.N) : t.val / 8 < 5 := by
  have := t.isLt
  have e : grid0.N = 40 := by decide +kernel
  omega

/-- A fact of the batch carried over to the next grid point. -/
theorem next_fact {P : ℕ → Prop} {t : ℕ} (h : P (t / 8)) : (t + 1) % 8 ≠ 0 → P ((t + 1) / 8) := fun h' => by
  have e : (t + 1) / 8 = t / 8 := by omega
  rw [e]
  exact h

/-- A fact of the groups so far carried over to the next grid point. -/
theorem next_upto {P : ℕ → ℕ → Prop} (h0 : ∀ b, P b 0) {t : ℕ} (h : P (t / 8) (t % 8 + 1)) : P ((t + 1) / 8) ((t + 1) % 8) := by
  by_cases h' : (t + 1) % 8 = 0
  · rw [h']
    exact h0 _
  · have e : (t + 1) / 8 = t / 8 := by omega
    have e' : (t + 1) % 8 = t % 8 + 1 := by omega
    rw [e, e']
    exact h

-- the body's arguments are met through the configuration at the table
set_option backward.isDefEq.respectTransparency.types false in
set_option maxHeartbeats 4000000 in
/-- Every point's body runs, carries the batch's facts over and leaves the batch's values at its last point. -/
theorem body_obligationV (c : Dev nD) : (rdatV m c).BodyObligation (defs₀ (F := Ideal)) 𝒱₀ () Set.univ := by
  intro t Y hY
  have y0 := found_0 m c t _ (hY 0)
  have y1 := found_1 m c t _ (hY 1)
  have y2 := found_2 m c t _ (hY 2)
  have y3 := found_3 m c t _ (hY 3)
  have y4 := found_4 m c t _ (hY 4)
  have y5 := found_5 m c t _ (hY 5)
  have c0 : (grid0.coords t) 0 = bt (t.val / 8) := Fin.ext ((coords_0 t).trans (Nat.mod_eq_of_lt (lt_40 t)).symm)
  have c1 : ((grid0.coords t) 1).val = t.val % 8 := coords_1 t
  rw [bigSep_W0, bigSep_W0]
  rw [show (rdatV m c).Φ t.castSucc = Φv m c t.val from rfl, show (rdatV m c).Φ t.succ = Φv m c (t.val + 1) from rfl]
  unfold Φv Scr Pipeline.ΦT Pipeline.prefHeld
  rw [show (Finset.univ : Finset (Fin pre0.K)) = {(0 : Fin 1)} from rfl, bigSep_singleton]
  unfold owns
  iintro ⟨⟨⟨⟨⟨%f11, %h11, H11⟩, ⟨%f12, %h12, H12⟩, ⟨%f13, H13⟩, ⟨%f14, %h14, H14⟩, ⟨%f15, %h15, H15⟩, ⟨%f16, H16⟩, ⟨%f17, H17⟩, ⟨%f18, %h18, H18⟩, ⟨%f19, %h19, H19⟩, ⟨%f20, %h20, H20⟩⟩, Hg⟩, H2⟩, HO, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  iapply (wp_wand_r Idealize.ShloMosaic.frame (wpE (defs₀ (F := Ideal)) 𝒱₀ (c : Thread nD τ) none) Set.univ)
  isplitl [H2 H3 H4 H5 H6 H7 H8 H9 H10 H11 H12 H13 H14 H15 H16 H17 H18 H19 H20]
  · iapply (body_value c (grid0.coords t) (Memref.whole main_arg5) (Memref.isWhole_whole _)
      (spec0_0.stage ((cfgT m).slots t 0)) (hstage0_0 (((cfgT m).slots t 0).cast nbuf0_0))
      (spec0_1.stage ((cfgT m).slots t 1)) (hstage0_1 (((cfgT m).slots t 1).cast nbuf0_1))
      (spec0_2.stage ((cfgT m).slots t 2)) (hstage0_2 (((cfgT m).slots t 2).cast nbuf0_2))
      (spec0_3.stage ((cfgT m).slots t 3)) (hstage0_3 (((cfgT m).slots t 3).cast nbuf0_3))
      (spec0_4.stage ((cfgT m).slots t 4)) (hstage0_4 (((cfgT m).slots t 4).cast nbuf0_4))
      (spec0_5.stage ((cfgT m).slots t 5)) (hstage0_5 (((cfgT m).slots t 5).cast nbuf0_5))
      (spec0_6.stage ((cfgT m).slots t 6)) (hstage0_6 (((cfgT m).slots t 6).cast nbuf0_6))
      (spec0_7.stage ((cfgT m).slots t 7)) (hstage0_7 (((cfgT m).slots t 7).cast nbuf0_7))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
      fullShare.right ((tab m 0).1 0) f3 f4 f5 f6 f7 f8
      (bC m c (t.val / 8)) (bS m c (t.val / 8)) (bQ m c (t.val / 8)) (bK m c (t.val / 8)) (bks m c (t.val / 8)) (bvn m c (t.val / 8))
      (by rw [hf3, y0, c0]; rfl) (by rw [hf3, y0, c0]; rfl) (by rw [hf8, y5]; rfl) (by rw [hf4, y1]; rfl) (by rw [hf5, y2]; rfl) (by rw [hf6, hf7, y3, y4]; rfl))
    simp only [Memref.view_whole, View.set_whole]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists f9; iexact H9
    isplitl [H10]; · iexists f10; iexact H10
    isplitl [H11]
    · iexists f11
      isplitr
      rotate_left
      · iexact H11
      · ipureintro
        rw [c1]; exact h11
    isplitl [H12]
    · iexists f12
      isplitr
      rotate_left
      · iexact H12
      · ipureintro
        rw [c1]; exact h12
    isplitl [H13]; · iexists f13; iexact H13
    isplitl [H14]
    · iexists f14
      isplitr
      rotate_left
      · iexact H14
      · ipureintro
        rw [c1]; exact h14
    isplitl [H15]
    · iexists f15
      isplitr
      rotate_left
      · iexact H15
      · ipureintro
        rw [c1]; exact h15
    isplitl [H16]; · iexists f16; iexact H16
    isplitl [H17]; · iexists f17; iexact H17
    isplitl [H18]
    · iexists f18
      isplitr
      rotate_left
      · iexact H18
      · ipureintro
        rw [c1]; exact h18
    isplitl [H19]
    · iexists f19
      isplitr
      rotate_left
      · iexact H19
      · ipureintro
        rw [c1]; exact h19
    iexists f20
    isplitr
    rotate_left
    · iexact H20
    · ipureintro
      rw [c1]; exact h20
  iintro %_ ⟨H2, H3, H4, H5, H6, H7, H8, ⟨%o9, %h9, H9⟩, ⟨%o10, %h10, H10⟩, ⟨%f11, %h11, H11⟩, ⟨%f12, %h12, H12⟩, ⟨%f13, H13⟩, ⟨%f14, %h14, H14⟩, ⟨%f15, %h15, H15⟩, ⟨%f16, H16⟩, ⟨%f17, H17⟩, ⟨%f18, %h18, H18⟩, ⟨%f19, %h19, H19⟩, ⟨%f20, %h20, H20⟩⟩
  simp only [Memref.view_whole, View.set_whole]
  isplitl [H2 H11 H12 H13 H14 H15 H16 H17 H18 H19 H20 Hg]
  · isplitr [H2]; swap; · iexact H2
    isplitr [Hg]; swap; · iexact Hg
    isplitl [H11]
    · iexists f11
      isplitr
      rotate_left
      · iexact H11
      · ipureintro
        exact next_fact (P := fun b => CwIs (bC m c b) (bS m c b) f11) h11
    isplitl [H12]
    · iexists f12
      isplitr
      rotate_left
      · iexact H12
      · ipureintro
        exact next_fact (P := fun b => KtIs (bK m c b) f12) h12
    isplitl [H13]; · iexists f13; iexact H13
    isplitl [H14]
    · iexists f14
      isplitr
      rotate_left
      · iexact H14
      · ipureintro
        exact next_fact (P := fun b => RowIs (bks m c b) f14) h14
    isplitl [H15]
    · iexists f15
      isplitr
      rotate_left
      · iexact H15
      · ipureintro
        exact next_fact (P := fun b => RowIs (bvn m c b) f15) h15
    isplitl [H16]; · iexists f16; iexact H16
    isplitl [H17]; · iexists f17; iexact H17
    isplitl [H18]
    · iexists f18
      isplitr
      rotate_left
      · iexact H18
      · ipureintro
        exact next_upto (P := fun b n => LogitsTo (bZ m c b) n f18) (fun _ _ _ _ _ h => absurd h (Nat.not_lt_zero _)) (by rw [c1] at h18; exact h18)
    isplitl [H19]
    · iexists f19
      isplitr
      rotate_left
      · iexact H19
      · ipureintro
        exact next_upto (P := fun b n => ScoresTo (bSc m c b) n f19) (fun _ _ _ _ h => absurd h (Nat.not_lt_zero _)) (by rw [c1] at h19; exact h19)
    iexists f20
    isplitr
    rotate_left
    · iexact H20
    · ipureintro
      exact next_fact (P := fun b => QxIs (bQ m c b) f20) h20
  isplitl [HO]; · iexact HO
  isplitl [H3]
  · iexists _; isplitr; swap
    · iexists _; isplitr; swap
      · iexact H3
      · ipureintro; rfl
    · ipureintro; exact ⟨fun _ => hf3, fun _ h => absurd h (show (0 : Fin 8) ≠ 6 by decide), fun _ h => absurd h (show (0 : Fin 8) ≠ 7 by decide)⟩
  isplitl [H4]
  · iexists _; isplitr; swap
    · iexists _; isplitr; swap
      · iexact H4
      · ipureintro; rfl
    · ipureintro; exact ⟨fun _ => hf4, fun _ h => absurd h (show (1 : Fin 8) ≠ 6 by decide), fun _ h => absurd h (show (1 : Fin 8) ≠ 7 by decide)⟩
  isplitl [H5]
  · iexists _; isplitr; swap
    · iexists _; isplitr; swap
      · iexact H5
      · ipureintro; rfl
    · ipureintro; exact ⟨fun _ => hf5, fun _ h => absurd h (show (2 : Fin 8) ≠ 6 by decide), fun _ h => absurd h (show (2 : Fin 8) ≠ 7 by decide)⟩
  isplitl [H6]
  · iexists _; isplitr; swap
    · iexists _; isplitr; swap
      · iexact H6
      · ipureintro; rfl
    · ipureintro; exact ⟨fun _ => hf6, fun _ h => absurd h (show (3 : Fin 8) ≠ 6 by decide), fun _ h => absurd h (show (3 : Fin 8) ≠ 7 by decide)⟩
  isplitl [H7]
  · iexists _; isplitr; swap
    · iexists _; isplitr; swap
      · iexact H7
      · ipureintro; rfl
    · ipureintro; exact ⟨fun _ => hf7, fun _ h => absurd h (show (4 : Fin 8) ≠ 6 by decide), fun _ h => absurd h (show (4 : Fin 8) ≠ 7 by decide)⟩
  isplitl [H8]
  · iexists _; isplitr; swap
    · iexists _; isplitr; swap
      · iexact H8
      · ipureintro; rfl
    · ipureintro; exact ⟨fun _ => hf8, fun _ h => absurd h (show (5 : Fin 8) ≠ 6 by decide), fun _ h => absurd h (show (5 : Fin 8) ≠ 7 by decide)⟩
  isplitl [H9]
  · iexists _; isplitr; swap
    · iexists _; isplitr; swap
      · iexact H9
      · ipureintro; rfl
    · ipureintro
      refine ⟨fun h => absurd (show true = false from h) (by decide), fun X' _ hX ht => ?_, fun _ h => absurd h (show (6 : Fin 8) ≠ 7 by decide)⟩
      rw [← eq_of_heq hX]
      exact h9 (c1.trans ht)
  iexists _; isplitr; swap
  · iexists _; isplitr; swap
    · iexact H10
    · ipureintro; rfl
  · ipureintro
    refine ⟨fun h => absurd (show true = false from h) (by decide), fun _ h => absurd h (show (7 : Fin 8) ≠ 6 by decide), fun X' _ hX ht => ?_⟩
    rw [← eq_of_heq hX]
    exact h10 (c1.trans ht)

/-- The run: the arrays, the rest and the counters after the whole program. -/
theorem runV (Q' : PUnit × MemSt nD τ sig (Elt Ideal) → Prop)
    (hQ' : ∀ r, RDat.FramePost (cfgT m) (rdatV m) (V m) r ∧ r.2.sem = (fun _ => 0) → Q' r) :
    θ_run (defs (F := Ideal)) (onTc (τ := τ) (main (F := Ideal))) ⟨m, fun _ => 0, g⟩ Q' :=
  RDat.θ_run_frameP_track (pcfgs (F := Ideal)) (tab m) 0 launch0 (defs₀ (F := Ideal)) 𝒱₀ (rdatV m) m g (main (F := Ideal)) (body_obligationV m)
    (fun c w => by unfold RDat.share; split <;> rfl) (fun c t => rfl) (V m)
    (Pipeline.hmainP_prefix (pcfgs (F := Ideal)) 0 (defs₀ (F := Ideal)) 𝒱₀ m (main (F := Ideal)) hostOps0 hostOps0_sub
      (by repeat (first | exact trivial | refine ⟨rfl, ?_⟩ | exact rfl)) main_chain)
    (fun c w => rfl) (fun c k => by obtain rfl := Subsingleton.elim c 0; rfl)
    (fun c => by
      show iprop(Pipeline.ΦA spec0 c ∗ Pipeline.ΦT pre0 (tab m 0).1 c) ⊢ Φv m c 0
      unfold Φv Scr Pipeline.ΦA
      rw [scopedRest0_eq]
      iintro ⟨⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩, Hg⟩, H2⟩
      isplitr [H2]; swap; · iexact H2
      isplitr [Hg]; swap; · iexact Hg
      isplitl [H11]
      · iexists f11
        isplitr
        rotate_left
        · iexact H11
        · ipureintro
          exact fun h => absurd rfl h
      isplitl [H12]
      · iexists f12
        isplitr
        rotate_left
        · iexact H12
        · ipureintro
          exact fun h => absurd rfl h
      isplitl [H13]; · iexists f13; iexact H13
      isplitl [H14]
      · iexists f14
        isplitr
        rotate_left
        · iexact H14
        · ipureintro
          exact fun h => absurd rfl h
      isplitl [H15]
      · iexists f15
        isplitr
        rotate_left
        · iexact H15
        · ipureintro
          exact fun h => absurd rfl h
      isplitl [H16]; · iexists f16; iexact H16
      isplitl [H17]; · iexists f17; iexact H17
      isplitl [H18]
      · iexists f18
        isplitr
        rotate_left
        · iexact H18
        · ipureintro
          intro _ _ _ _ h; exact absurd h (Nat.not_lt_zero _)
      isplitl [H19]
      · iexists f19
        isplitr
        rotate_left
        · iexact H19
        · ipureintro
          intro _ _ _ h; exact absurd h (Nat.not_lt_zero _)
      iexists f20
      isplitr
      rotate_left
      · iexact H20
      · ipureintro
        exact fun h => absurd rfl h) (fun c => by
      show Φv m c 40 ⊢ Pipeline.ΦA spec0 c
      unfold Φv Scr Pipeline.ΦA
      rw [scopedRest0_eq]
      iintro ⟨⟨⟨⟨%f11, %h11, H11⟩, ⟨%f12, %h12, H12⟩, ⟨%f13, H13⟩, ⟨%f14, %h14, H14⟩, ⟨%f15, %h15, H15⟩, ⟨%f16, H16⟩, ⟨%f17, H17⟩, ⟨%f18, %h18, H18⟩, ⟨%f19, %h19, H19⟩, ⟨%f20, %h20, H20⟩⟩, Hg⟩, H2⟩
      isplitr [Hg]; swap; · iexact Hg
      isplitl [H11]; · iexists f11; iexact H11
      isplitl [H12]; · iexists f12; iexact H12
      isplitl [H13]; · iexists f13; iexact H13
      isplitl [H14]; · iexists f14; iexact H14
      isplitl [H15]; · iexists f15; iexact H15
      isplitl [H16]; · iexists f16; iexact H16
      isplitl [H17]; · iexists f17; iexact H17
      isplitl [H18]; · iexists f18; iexact H18
      isplitl [H19]; · iexists f19; iexact H19
      iexists f20; iexact H20) Q' hQ'

/-- What the scores' array holds in the end. -/
def outS (c : Dev nD) : S5x2048x8.Idx → EReal := fun x => bSc m c (x 0).val (x 2) (x 1)
/-- What the logits' array holds in the end. -/
def outZ (c : Dev nD) : S5x2048x56.Idx → EReal := fun x =>
  bZ m c (x 0).val ⟨(x 2).val / 7, by have := (x 2).isLt; change (x 2).val < 56 at this; omega⟩ ⟨(x 2).val % 7, by omega⟩ (x 1)

theorem SOut_at {Sc : Fin 8 → Fin 2048 → EReal} {X : S1x2048x8.Idx → EReal} (h : SOut Sc X) (y : S1x2048x8.Idx) : X y = Sc (y 2) (y 1) := by
  have e : y = ix3 (0 : Fin 1) (y 1) (y 2) := by
    funext a
    fin_cases a
    · exact Subsingleton.elim (α := Fin 1) _ _
    · rfl
    · rfl
  rw [e]
  exact h _ _

theorem ZOut_at {Z : Fin 8 → Fin 8 → Fin 2048 → EReal} {X : S1x2048x56.Idx → EReal} (h : ZOut Z X) (y : S1x2048x56.Idx) :
    X y = Z ⟨(y 2).val / 7, by have := (y 2).isLt; change (y 2).val < 56 at this; omega⟩ ⟨(y 2).val % 7, by omega⟩ (y 1) := by
  have h2 : (y 2).val < 56 := (y 2).isLt
  have e : y = ix3 (0 : Fin 1) (y 1) (⟨7 * ((y 2).val / 7) + (y 2).val % 7, by omega⟩ : Fin 56) := by
    funext a
    fin_cases a
    · exact Subsingleton.elim (α := Fin 1) _ _
    · rfl
    · exact Fin.ext (show (y 2).val = 7 * ((y 2).val / 7) + (y 2).val % 7 by omega)
  exact (congrArg X e).trans (h (y 1) ⟨(y 2).val / 7, by omega⟩ ⟨(y 2).val % 7, by omega⟩)

theorem outS_at (c : Dev nD) {b : ℕ} (hb : b < 5) (t : Fin 2048) (h : Fin 8) : outS m c (ix3 (bt b) t h) = bSc m c b h t := by
  show bSc m c (b % 5) h t = _
  rw [Nat.mod_eq_of_lt hb]

theorem outZ_at (c : Dev nD) {b : ℕ} (hb : b < 5) (t : Fin 2048) (j : Fin 56) :
    outZ m c (ix3 (bt b) t j) = bZ m c b ⟨j.val / 7, by omega⟩ ⟨j.val % 7, by omega⟩ t := by
  show bZ m c (b % 5) _ _ t = _
  rw [Nat.mod_eq_of_lt hb]
  rfl

/-- The scores' array after the run. -/
theorem mem_scores (r : PUnit × MemSt nD τ sig (Elt Ideal)) (h : RDat.FramePost (cfgT m) (rdatV m) (V m) r) (c : Dev nD) :
    r.2.mem ((c.tc : Thread nD τ).loc main_v15_0) = outS m c := by
  obtain ⟨after, hL, hA⟩ := RDat.FramePost.exists_exact h c
  refine (hA 6).trans (Dat.arrAt_eq_of_covers ((rdatV m c).withAfter after) 6 (outS m c) (covers_6 (tab m 0)) fun t hf y => ?_)
  obtain ⟨Y, -, -, h6, -⟩ := hL 6 t hf
  have h8 := h6 _ rfl HEq.rfl (flush_6 (tab m 0) t hf)
  exact (SOut_at h8 y).trans ((outS_at m c (lt_40 t) _ _).symm.trans (congrArg (outS m c) (emb_6 (tab m 0) t y)).symm)

/-- The logits' array after the run. -/
theorem mem_logits (r : PUnit × MemSt nD τ sig (Elt Ideal)) (h : RDat.FramePost (cfgT m) (rdatV m) (V m) r) (c : Dev nD) :
    r.2.mem ((c.tc : Thread nD τ).loc main_v15_1) = outZ m c := by
  obtain ⟨after, hL, hA⟩ := RDat.FramePost.exists_exact h c
  refine (hA 7).trans (Dat.arrAt_eq_of_covers ((rdatV m c).withAfter after) 7 (outZ m c) (covers_7 (tab m 0)) fun t hf y => ?_)
  obtain ⟨Y, -, -, -, h7⟩ := hL 7 t hf
  have h8 := h7 _ rfl HEq.rfl (flush_7 (tab m 0) t hf)
  exact (ZOut_at h8 y).trans ((outZ_at m c (lt_40 t) _ _).symm.trans (congrArg (outZ m c) (emb_7 (tab m 0) t y)).symm)

end Cert.Proof.KernelIdeal

end
-- ==== Proof.RefTerms.lean ====
/-
  The reference over the extended reals, its host lines read at an index.
-/
module

public import proofs.«01_k».proof.Proof.Gen.ReferenceIdeal
public import Idealize.ShloMosaic.Lib.Pointwise
public import Idealize.ShloMosaic.Lib.Pipeline.ValueKit

@[expose] public section

noncomputable section

namespace Cert.Proof.Reference

open Cert.ReferenceIdeal Cert.ReferenceIdeal.Gen
open Idealize.ShloMosaic Idealize.ShloMosaic.TcCoe Idealize.ShloMosaic.Tactic
open Idealize.ShloMosaic.Pointwise

set_option maxRecDepth 16384

/-- The queries. -/
def r1 (a4 : FVec Ideal S5x320x56x128 .bf16) : FVec Ideal S5x320x56x128 .f32 :=
  extf .f32 a4 bitsLt_bf16_f32

/-- The means of the queries. -/
def r4 (a4 : FVec Ideal S5x320x56x128 .bf16) : FVec Ideal S5x56x128 .f32 :=
  Host.divf (Host.reduceAdd (r1 a4) (constant S_ .f32 0x00000000#32) reducesTo_S5x320x56x128_S5x56x128_d1 h_S_) (broadcastInDim S5x56x128 ![] bcast_S_S5x56x128 (constant S_ .f32 0x43A00000#32))

/-- The centered queries. -/
def r7 (a4 : FVec Ideal S5x320x56x128 .bf16) : FVec Ideal S5x320x56x128 .f32 :=
  subf (r1 a4) (broadcastInDim S5x320x56x128 ![0, 1, 2, 3] bcast_S5x1x56x128_S5x320x56x128_0_1_2_3 (broadcastInDim S5x1x56x128 ![0, 2, 3] bcast_S5x56x128_S5x1x56x128_0_2_3 (r4 a4)))

/-- The angles. -/
def r30 (a5 : IVec S5 32) : FVec Ideal S5x512x64 .f32 :=
  mulf (broadcastInDim S5x512x64 ![0, 1, 2] bcast_S5x512x1_S5x512x64_0_1_2 (broadcastInDim S5x512x1 ![0, 1] bcast_S5x512_S5x512x1_0_1 (sitofp .f32 (addi (broadcastInDim S5x512 ![0, 1] bcast_S5x1_S5x512_0_1 (broadcastInDim S5x1 ![0] bcast_S5_S5x1_0 a5)) (broadcastInDim S5x512 ![0, 1] bcast_S1x512_S5x512_0_1 (broadcastInDim S1x512 ![1] bcast_S512_S1x512_1 (iotaInDim S512 32 0))))))) (broadcastInDim S5x512x64 ![0, 1, 2] bcast_S1x1x64_S5x512x64_0_1_2 (broadcastInDim S1x1x64 ![2] bcast_S64_S1x1x64_2 (Host.powf (broadcastInDim S64 ![] bcast_S_S64 (constant S_ .f32 0x48F42400#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32))))))

/-- The mean cosines. -/
def r34 (a5 : IVec S5 32) : FVec Ideal S5x64 .f32 :=
  Host.divf (Host.reduceAdd (Host.cos (r30 a5)) (constant S_ .f32 0x00000000#32) reducesTo_S5x512x64_S5x64_d1 h_S_) (broadcastInDim S5x64 ![] bcast_S_S5x64 (constant S_ .f32 0x44000000#32))

/-- The mean sines. -/
def r38 (a5 : IVec S5 32) : FVec Ideal S5x64 .f32 :=
  Host.divf (Host.reduceAdd (Host.sin (r30 a5)) (constant S_ .f32 0x00000000#32) reducesTo_S5x512x64_S5x64_d1 h_S_) (broadcastInDim S5x64 ![] bcast_S_S5x64 (constant S_ .f32 0x44000000#32))

/-- The cosines along the lanes. -/
def r39 (a5 : IVec S5 32) : FVec Ideal S5x128 .f32 :=
  concatenate S5x128 1 [⟨S5x64, (r34 a5)⟩, ⟨S5x64, (r34 a5)⟩] concatenates_S5x64_S5x64_S5x128_d1

/-- The sines along the lanes. -/
def r40 (a5 : IVec S5 32) : FVec Ideal S5x128 .f32 :=
  concatenate S5x128 1 [⟨S5x64, (r38 a5)⟩, ⟨S5x64, (r38 a5)⟩] concatenates_S5x64_S5x64_S5x128_d1

/-- The identity. -/
def r57  : FVec Ideal S64x64 .f32 :=
  uitofp .f32 (cmpi .eq (addi (iotaInDim S64x64 32 0) (broadcastInDim S64x64 ![] bcast_S_S64x64 (constantI S_ 32 0#32))) (iotaInDim S64x64 32 1))

/-- Nothing. -/
def r58  : FVec Ideal S64x64 .f32 :=
  broadcastInDim S64x64 ![] bcast_S_S64x64 (constant S_ .f32 0x00000000#32)

/-- The mean rotation. -/
def r77 (a5 : IVec S5 32) : FVec Ideal S5x128x128 .f32 :=
  addf (mulf (broadcastInDim S5x128x128 ![0, 1, 2] bcast_S5x128x1_S5x128x128_0_1_2 (broadcastInDim S5x128x1 ![0, 1] bcast_S5x128_S5x128x1_0_1 (r39 a5))) (broadcastInDim S5x128x128 ![0, 1, 2] bcast_S1x128x128_S5x128x128_0_1_2 (broadcastInDim S1x128x128 ![1, 2] bcast_S128x128_S1x128x128_1_2 (uitofp .f32 (cmpi .eq (addi (iotaInDim S128x128 32 0) (broadcastInDim S128x128 ![] bcast_S_S128x128 (constantI S_ 32 0#32))) (iotaInDim S128x128 32 1)))))) (mulf (broadcastInDim S5x128x128 ![0, 1, 2] bcast_S5x128x1_S5x128x128_0_1_2 (broadcastInDim S5x128x1 ![0, 1] bcast_S5x128_S5x128x1_0_1 (r40 a5))) (broadcastInDim S5x128x128 ![0, 1, 2] bcast_S1x128x128_S5x128x128_0_1_2 (broadcastInDim S1x128x128 ![1, 2] bcast_S128x128_S1x128x128_1_2 (concatenate S128x128 0 [⟨S64x128, (concatenate S64x128 1 [⟨S64x64, (r58)⟩, ⟨S64x64, (Host.negf (r57))⟩] concatenates_S64x64_S64x64_S64x128_d1)⟩, ⟨S64x128, (concatenate S64x128 1 [⟨S64x64, (r57)⟩, ⟨S64x64, (r58)⟩] concatenates_S64x64_S64x64_S64x128_d1)⟩] concatenates_S64x128_S64x128_S128x128_d0))))

/-- The scales. -/
def r93 (a1 : FVec Ideal S5x2048x8 .f32) : FVec Ideal S5x2048x8x1 .f32 :=
  broadcastInDim S5x2048x8x1 ![0, 1, 2] bcast_S5x2048x8_S5x2048x8x1_0_1_2 a1

/-- The rotated means. -/
def muRot (a4 : FVec Ideal S5x320x56x128 .bf16) (a5 : IVec S5 32) : FVec Ideal S5x56x128 .f32 :=
  (addf (mulf (broadcastInDim S5x56x128 ![0, 1, 2] bcast_S5x1x128_S5x56x128_0_1_2 (broadcastInDim S5x1x128 ![0, 2] bcast_S5x128_S5x1x128_0_2 (r39 a5))) (r4 a4)) (mulf (broadcastInDim S5x56x128 ![0, 1, 2] bcast_S5x1x128_S5x56x128_0_1_2 (broadcastInDim S5x1x128 ![0, 2] bcast_S5x128_S5x1x128_0_2 (r40 a5))) (concatenate S5x56x128 2 [⟨S5x56x64, (Host.negf (extractStridedSlice S5x56x64 ![0, 0, 64] (r4 a4) slices_S5x56x128_S5x56x64_0_0_64))⟩, ⟨S5x56x64, (extractStridedSlice S5x56x64 ![0, 0, 0] (r4 a4) slices_S5x56x128_S5x56x64_0_0_0)⟩] concatenates_S5x56x64_S5x56x64_S5x56x128_d2)))

/-- The covariances. -/
def sig (a4 : FVec Ideal S5x320x56x128 .bf16) : FVec Ideal S5x56x128x128 .f32 :=
  (Host.divf (Host.dotGeneral dot_S5x320x56x128_S5x320x56x128_S5x56x128x128_1_1_3_3_02_02 (some .fp32) (r7 a4) (r7 a4)) (broadcastInDim S5x56x128x128 ![] bcast_S_S5x56x128x128 (constant S_ .f32 0x43A00000#32)))

/-- The covariances rotated on one side. -/
def tmp (a4 : FVec Ideal S5x320x56x128 .bf16) (a5 : IVec S5 32) : FVec Ideal S5x56x128x128 .f32 :=
  (Host.dotGeneral dot_S5x56x128x128_S5x128x128_S5x56x128x128_2_2_13_1_0_0 (some .fp32) (sig a4) (r77 a5))

/-- The covariances rotated on both sides. -/
def sigRot (a4 : FVec Ideal S5x320x56x128 .bf16) (a5 : IVec S5 32) : FVec Ideal S5x56x128x128 .f32 :=
  (Host.dotGeneral dot_S5x56x128x128_S5x128x128_S5x56x128x128_3_2_12_1_0_0 (some .fp32) (transpose S5x56x128x128 [0, 1, 3, 2] (tmp a4 a5) transposes_S5x56x128x128_S5x56x128x128_0_1_3_2) (r77 a5))

/-- The linear form. -/
def lin (a4 : FVec Ideal S5x320x56x128 .bf16) (a5 : IVec S5 32) (k0 : FVec Ideal S5x2048x8x128 .bf16) : FVec Ideal S5x8x7x2048 .f32 :=
  (Host.dotGeneral dot_S5x8x7x128_S5x2048x8x128_S5x8x7x2048_3_3_2_1_01_02 none (shapeCast _ (truncf .bf16 (muRot a4 a5) bitsLt_bf16_f32) shapeCasts_S5x56x128_S5x8x7x128) k0)

/-- One side of the quadratic form. -/
def half (a4 : FVec Ideal S5x320x56x128 .bf16) (a5 : IVec S5 32) (k0 : FVec Ideal S5x2048x8x128 .bf16) : FVec Ideal S5x8x7x128x2048 .f32 :=
  (Host.dotGeneral dot_S5x8x7x128x128_S5x2048x8x128_S5x8x7x128x2048_3_3_24_1_01_02 none (shapeCast _ (truncf .bf16 (sigRot a4 a5) bitsLt_bf16_f32) shapeCasts_S5x56x128x128_S5x8x7x128x128) k0)

/-- The quadratic form. -/
def quad (a4 : FVec Ideal S5x320x56x128 .bf16) (a5 : IVec S5 32) (k0 : FVec Ideal S5x2048x8x128 .bf16) (k1 : FVec Ideal S5x2048x8x128 .f32) : FVec Ideal S5x2048x8x7 .f32 :=
  (Host.reduceAdd (mulf (transpose S5x2048x8x7x128 [0, 4, 1, 2, 3] (half a4 a5 k0) transposes_S5x8x7x128x2048_S5x2048x8x7x128_0_4_1_2_3) (broadcastInDim S5x2048x8x7x128 ![0, 1, 2, 3, 4] bcast_S5x2048x8x1x128_S5x2048x8x7x128_0_1_2_3_4 (broadcastInDim S5x2048x8x1x128 ![0, 1, 2, 4] bcast_S5x2048x8x128_S5x2048x8x1x128_0_1_2_4 k1))) (constant S_ .f32 0x00000000#32) reducesTo_S5x2048x8x7x128_S5x2048x8x7_d4 h_S_)

/-- The logits. -/
def logit (a1 : FVec Ideal S5x2048x8 .f32) (a4 : FVec Ideal S5x320x56x128 .bf16) (a5 : IVec S5 32) (k0 : FVec Ideal S5x2048x8x128 .bf16) (k1 : FVec Ideal S5x2048x8x128 .f32) : FVec Ideal S5x2048x56 .f32 :=
  shapeCast _ (addf (Host.divf (mulf (broadcastInDim S5x2048x8x7 ![0, 1, 2, 3] bcast_S5x2048x8x1_S5x2048x8x7_0_1_2_3 (r93 a1)) (transpose S5x2048x8x7 [0, 3, 1, 2] (lin a4 a5 k0) transposes_S5x8x7x2048_S5x2048x8x7_0_3_1_2)) (broadcastInDim S5x2048x8x7 ![] bcast_S_S5x2048x8x7 (Host.sqrt (constant S_ .f32 0x43000000#32)))) (Host.divf (mulf (broadcastInDim S5x2048x8x7 ![0, 1, 2, 3] bcast_S5x2048x8x1_S5x2048x8x7_0_1_2_3 (mulf (r93 a1) (r93 a1))) (quad a4 a5 k0 k1)) (broadcastInDim S5x2048x8x7 ![] bcast_S_S5x2048x8x7 (constant S_ .f32 0x43800000#32)))) shapeCasts_S5x2048x8x7_S5x2048x56

/-- The exponentials of the logits. -/
def expo (z : FVec Ideal S5x2048x56 .f32) : FVec Ideal S5x2048x56 .f32 :=
  Host.exp (subf z (broadcastInDim S5x2048x56 ![0, 1, 2] bcast_S5x1x56_S5x2048x56_0_1_2 (broadcastInDim S5x1x56 ![0, 2] bcast_S5x56_S5x1x56_0_2 (Host.reduce FloatOps.maximumf z (constant S_ .f32 0xFF800000#32) reducesTo_S5x2048x56_S5x56_d1 h_S_))))

/-- The scores. -/
def score (z : FVec Ideal S5x2048x56 .f32) (a3 : FVec Ideal S5x2048x8 .f32) (k2 : FVec Ideal S5x2048x8x128 .f32) : FVec Ideal S5x2048x8 .f32 :=
  mulf (Host.divf (Host.reduceAdd (shapeCast _ (mulf (expo z) (broadcastInDim S5x2048x56 ![0, 1, 2] bcast_S5x1x56_S5x2048x56_0_1_2 (Host.divf (broadcastInDim S5x1x56 ![] bcast_S_S5x1x56 (constant S_ .f32 0x3F800000#32)) (broadcastInDim S5x1x56 ![0, 2] bcast_S5x56_S5x1x56_0_2 (Host.reduceAdd (expo z) (constant S_ .f32 0x00000000#32) reducesTo_S5x2048x56_S5x56_d1 h_S_))))) shapeCasts_S5x2048x56_S5x2048x8x7) (constant S_ .f32 0x00000000#32) reducesTo_S5x2048x8x7_S5x2048x8_d3 h_S_) (broadcastInDim S5x2048x8 ![] bcast_S_S5x2048x8 (constant S_ .f32 0x40E00000#32))) (mulf a3 (Host.sqrt (Host.reduceAdd (mulf k2 k2) (constant S_ .f32 0x00000000#32) reducesTo_S5x2048x8x128_S5x2048x8_d3 h_S_)))

end Cert.Proof.Reference

end
-- ==== Proof.MeanMath.lean ====
/-
  Sums over the extended reals: of real numbers, of the even and the odd members; a covariance and its rotation in real numbers;
  the weights of a softmax.
-/
module

public import Idealize.ShloMosaic.PureOps.Ideal
public import Idealize.ShloMosaic.Lib.Pointwise
public import Idealize.ShloMosaic.Lib.Ring

@[expose] public section

noncomputable section

namespace Cert.Proof

open Idealize.ShloMosaic

/-- A sum of real numbers. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The even and the odd members. -/
theorem sum_even_odd_range (n : ℕ) (g : ℕ → EReal) :
    ∑ x ∈ Finset.range (2 * n), g x = ∑ i ∈ Finset.range n, g (2 * i) + ∑ i ∈ Finset.range n, g (2 * i + 1) := by
  induction n with
  | zero => simp
  | succ n ih =>
    rw [Nat.mul_succ, Finset.sum_range_succ, Finset.sum_range_succ, ih, Finset.sum_range_succ, Finset.sum_range_succ]
    abel

theorem sum_even_odd (g : ℕ → EReal) :
    ∑ x : Fin 512, g x.val = ∑ i : Fin 256, g (2 * i.val) + ∑ i : Fin 256, g (2 * i.val + 1) := by
  rw [Fin.sum_univ_eq_sum_range, Fin.sum_univ_eq_sum_range (fun i => g (2 * i)), Fin.sum_univ_eq_sum_range (fun i => g (2 * i + 1))]
  exact sum_even_odd_range 256 g

theorem bv_even (n : ℕ) : 2#32 * BitVec.ofNat 32 n + 0#32 = BitVec.ofNat 32 (2 * n) := by
  apply BitVec.eq_of_toNat_eq
  simp [BitVec.toNat_mul]
theorem bv_odd (n : ℕ) : 2#32 * BitVec.ofNat 32 n + 1#32 = BitVec.ofNat 32 (2 * n + 1) := by
  apply BitVec.eq_of_toNat_eq
  simp [BitVec.toNat_add, BitVec.toNat_mul]

/-- The mean of the products of the deviations is the mean product less the product of the means. -/
theorem cov_real (q r : Fin 320 → ℝ) :
    (∑ n, (q n - (∑ i, q i) * (1 / 320)) * (r n - (∑ i, r i) * (1 / 320))) * (1 / 320)
      = (∑ n, q n * r n) * (1 / 320) - ((∑ n, q n) * (1 / 320)) * ((∑ n, r n) * (1 / 320)) := by
  simp only [sub_mul, mul_sub, Finset.sum_sub_distrib, ← Finset.sum_mul, ← Finset.mul_sum, Finset.sum_const, Finset.card_univ, Fintype.card_fin, nsmul_eq_mul]
  push_cast
  ring

/-- A row of a matrix that has two entries a row. -/
theorem sum_two (f : Fin 128 → ℝ) (c s : ℝ) (d d' : Fin 128) :
    ∑ x, f x * (c * (if d = x then 1 else 0) + s * (if d' = x then 1 else 0)) = c * f d + s * f d' := by
  simp [mul_add, Finset.sum_add_distrib]
  ring

/-- An exponential of a row less the row's largest member is a real number. -/
theorem exp_sub_sup {ι : Type} [Fintype ι] (y : ι → EReal) (t : ι) :
    ∃ r : ℝ, 0 ≤ r ∧ Ideal.exp (y t - Finset.univ.sup y) = (r : EReal) := by
  have hle : y t ≤ Finset.univ.sup y := Finset.le_sup (Finset.mem_univ t)
  generalize Finset.univ.sup y = M at hle
  generalize y t = x at hle
  induction M with
  | bot => exact ⟨0, le_rfl, by obtain rfl := le_bot_iff.mp hle; simp⟩
  | top => exact ⟨0, le_rfl, by rw [EReal.sub_top]; simp⟩
  | coe M =>
    induction x with
    | bot => exact ⟨0, le_rfl, by rw [EReal.bot_sub]; simp⟩
    | top => exact absurd hle (by simp)
    | coe x => exact ⟨Real.exp (x - M), (Real.exp_pos _).le, by rw [← EReal.coe_sub, Ideal.exp_coe]⟩

/-- A weight over seven times the sum is a seventh of the weight over the sum. -/
theorem weight_seventh {ι : Type} [Fintype ι] (e : ι → ℝ) (he : ∀ i, 0 ≤ e i) (t : ι) :
    ∃ r : ℝ, (e t : EReal) * Ideal.div 1 ((∑ i, (e i : EReal)) * ((7 : ℝ) : EReal)) = ((r * (1 / 7) : ℝ) : EReal)
      ∧ (e t : EReal) * Ideal.div 1 (∑ i, (e i : EReal)) = (r : EReal) := by
  rw [coe_sum]
  by_cases h : ∑ i, e i = 0
  · have h0 : e t = 0 := (Finset.sum_eq_zero_iff_of_nonneg (fun i _ => he i)).mp h t (Finset.mem_univ t)
    exact ⟨0, by simp [h0], by simp [h0]⟩
  · refine ⟨e t * (1 / ∑ i, e i), ?_, ?_⟩
    · rw [← EReal.coe_mul, Ideal.div_coe (mul_ne_zero h (by norm_num)), one_mul, ← EReal.coe_mul]
      congr 1
      field_simp
    · rw [Ideal.div_coe h, one_mul, ← EReal.coe_mul]

/-- The weighted mean of a group: the factor of a row holds the seventh, or the sum is divided by seven. -/
theorem group_mean {ι : Type} [Fintype ι] (y : Fin 7 → ι → EReal) (t : ι) :
    ∑ g, Ideal.exp (y g t - Finset.univ.sup (y g)) * Ideal.div 1 ((∑ i, Ideal.exp (y g i - Finset.univ.sup (y g))) * ((7 : ℝ) : EReal))
      = Ideal.div (∑ g, Ideal.exp (y g t - Finset.univ.sup (y g)) * Ideal.div 1 (∑ i, Ideal.exp (y g i - Finset.univ.sup (y g)))) ((7 : ℝ) : EReal) := by
  choose e he hv using fun g i => exp_sub_sup (y g) i
  simp only [hv]
  choose r h1 h2 using fun g => weight_seventh (e g) (he g) t
  simp only [h1, h2]
  rw [Ideal.div_coe (by norm_num), coe_sum, coe_sum, ← EReal.coe_mul, Finset.sum_mul]

end Cert.Proof

end
-- ==== Proof.RefRead.lean ====
/-
  The reference over the extended reals, its host lines read at an index.
-/
module

public import proofs.«01_k».proof.Proof.RefTerms
public import proofs.«01_k».proof.Proof.MeanMath
public import Idealize.ShloMosaic.Lib.Pointwise
public import Idealize.ShloMosaic.Lib.Pipeline.ValueKit

@[expose] public section

noncomputable section

namespace Cert.Proof.Reference

open Cert.ReferenceIdeal Cert.ReferenceIdeal.Gen
open Idealize.ShloMosaic Idealize.ShloMosaic.TcCoe Idealize.ShloMosaic.Tactic
open Idealize.ShloMosaic.Pointwise

set_option maxRecDepth 16384

/-- The frequency of a rotated pair. -/
def freq (d : Fin 64) : EReal :=
  Ideal.pow (Ideal.ofBits .f32 0x48F42400#32) (Ideal.div (-(Ideal.ofBits .f32 0x40000000#32 * (((BitVec.ofNat 32 d.val).toInt : ℝ) : EReal))) (Ideal.ofBits .f32 0x43000000#32))
/-- A lane's pair. -/
def lo (d : Fin 128) : Fin 64 := ⟨d.val % 64, Nat.mod_lt _ (by decide)⟩
/-- The lane half a turn on. -/
def half64 (d : Fin 128) : Fin 128 := ⟨(d.val + 64) % 128, Nat.mod_lt _ (by decide)⟩
/-- One on the diagonal. -/
theorem diag (d e : ℕ) (hd : d < 128) (he : e < 128) :
    (FloatOps.uitofp .f32 (IntOp.cmpi .eq (IntOp.addi (BitVec.ofNat 32 d) 0#32) (BitVec.ofNat 32 e)) : Ideal .f32) = (((if d = e then 1 else 0 : ℝ)) : EReal) := by
  by_cases h : d = e
  · subst h
    rw [if_pos rfl, show IntOp.cmpi .eq (IntOp.addi (BitVec.ofNat 32 d) 0#32) (BitVec.ofNat 32 d) = 1#1 by simp [IntOp.cmpi, IntOp.addi]]
    show (((1#1 : BitVec 1).toNat : ℝ) : EReal) = _
    norm_num
  · have hn : BitVec.ofNat 32 d ≠ BitVec.ofNat 32 e := fun hh => h (by have := congrArg BitVec.toNat hh; simp at this; omega)
    rw [if_neg h, show IntOp.cmpi .eq (IntOp.addi (BitVec.ofNat 32 d) 0#32) (BitVec.ofNat 32 e) = 0#1 by
      simp only [IntOp.cmpi, IntOp.addi, BitVec.add_zero]; rw [beq_eq_false_iff_ne.mpr hn]; rfl]
    show (((0#1 : BitVec 1).toNat : ℝ) : EReal) = _
    norm_num

theorem bits_two : Ideal.ofBits .f32 0x40000000#32 = ((2 : ℝ) : EReal) := by simp [Ideal.ofBits, Ideal.ieee, -EReal.coe_mul]; norm_num
theorem bits_base : Ideal.ofBits .f32 0x48F42400#32 = ((500000 : ℝ) : EReal) := by simp [Ideal.ofBits, Ideal.ieee, -EReal.coe_mul]; norm_num
theorem bits_128 : Ideal.ofBits .f32 0x43000000#32 = ((128 : ℝ) : EReal) := by simp [Ideal.ofBits, Ideal.ieee, -EReal.coe_mul]; norm_num
theorem bits_320 : Ideal.ofBits .f32 0x43A00000#32 = ((320 : ℝ) : EReal) := by simp [Ideal.ofBits, Ideal.ieee, -EReal.coe_mul]; norm_num
theorem bits_512 : Ideal.ofBits .f32 0x44000000#32 = ((512 : ℝ) : EReal) := by simp [Ideal.ofBits, Ideal.ieee, -EReal.coe_mul]; norm_num
theorem bits_256 : Ideal.ofBits .f32 0x43800000#32 = ((256 : ℝ) : EReal) := by simp [Ideal.ofBits, Ideal.ieee, -EReal.coe_mul]; norm_num
theorem bits_256th : Ideal.ofBits .f32 0x3B800000#32 = ((1 / 256 : ℝ) : EReal) := by simp [Ideal.ofBits, Ideal.ieee, -EReal.coe_mul]; norm_num
theorem bits_7 : Ideal.ofBits .f32 0x40E00000#32 = ((7 : ℝ) : EReal) := by simp [Ideal.ofBits, Ideal.ieee, -EReal.coe_mul]; norm_num
theorem bits_1 : Ideal.ofBits .f32 0x3F800000#32 = 1 := by simp [Ideal.ofBits, Ideal.ieee, -EReal.coe_mul]; norm_num
theorem bits_bot : Ideal.ofBits .f32 0xFF800000#32 = ⊥ := by simp [Ideal.ofBits, Ideal.ieee]

theorem freq_real (d : Fin 64) : ∃ w : ℝ, freq d = (w : EReal) := by
  unfold freq
  rw [bits_two, bits_base, bits_128, Ideal.div_coe (by norm_num), ← EReal.coe_mul, ← EReal.coe_neg, ← EReal.coe_mul]
  exact ⟨_, rfl⟩

variable (a1 a3 : FVec Ideal S5x2048x8 .f32) (a4 : FVec Ideal S5x320x56x128 .bf16) (a5 : IVec S5 32)
  (k0 : FVec Ideal S5x2048x8x128 .bf16) (k1 k2 : FVec Ideal S5x2048x8x128 .f32) (z : FVec Ideal S5x2048x56 .f32)

theorem r4_apply (b : Fin 5) (h : Fin 56) (d : Fin 128) : r4 a4 (ix3 b h d) = Ideal.div (∑ x : Fin 320, a4 (ix4 b x h d)) (Ideal.ofBits .f32 0x43A00000#32) := by
  pointwise [r4, r1]
theorem r7_apply (b : Fin 5) (n : Fin 320) (h : Fin 56) (d : Fin 128) : r7 a4 (ix4 b n h d) = a4 (ix4 b n h d) - r4 a4 (ix3 b h d) := by
  pointwise [r7, r1]
theorem r30_apply (b : Fin 5) (n : Fin 512) (d : Fin 64) : r30 a5 (ix3 b n d) = (((a5 (ix1 b) + BitVec.ofNat 32 n.val).toInt : ℝ) : EReal) * freq d := by
  pointwise [r30, freq]
  rfl
theorem r34_apply (b : Fin 5) (d : Fin 64) : r34 a5 (ix2 b d) = Ideal.div (∑ x : Fin 512, Ideal.cos (r30 a5 (ix3 b x d))) (Ideal.ofBits .f32 0x44000000#32) := by
  pointwise [r34]
theorem r38_apply (b : Fin 5) (d : Fin 64) : r38 a5 (ix2 b d) = Ideal.div (∑ x : Fin 512, Ideal.sin (r30 a5 (ix3 b x d))) (Ideal.ofBits .f32 0x44000000#32) := by
  pointwise [r38]
theorem r39_apply (b : Fin 5) (d : Fin 128) : r39 a5 (ix2 b d) = r34 a5 (ix2 b (lo d)) := by
  pointwise [r39]
  split <;> exact congrArg (fun t => r34 a5 (ix2 b t)) (Fin.ext (by simp only [lo]; omega))
theorem r40_apply (b : Fin 5) (d : Fin 128) : r40 a5 (ix2 b d) = r38 a5 (ix2 b (lo d)) := by
  pointwise [r40]
  split <;> exact congrArg (fun t => r38 a5 (ix2 b t)) (Fin.ext (by simp only [lo]; omega))
theorem r57_apply (d e : Fin 64) : r57 (ix2 d e) = (((if d.val = e.val then 1 else 0 : ℝ)) : EReal) := by
  pointwise [r57]
  exact diag d.val e.val (by omega) (by omega)
theorem r58_apply (d e : Fin 64) : r58 (ix2 d e) = 0 := by
  pointwise [r58]
theorem r77_raw (b : Fin 5) (d e : Fin 128) : r77 a5 (ix3 b d e) = r39 a5 (ix2 b d) * (((if d.val = e.val then 1 else 0 : ℝ)) : EReal)
    + r40 a5 (ix2 b d) * (if hd : d.val < 64 then if he : e.val < 64 then r58 (ix2 ⟨d.val, hd⟩ ⟨e.val, he⟩) else -r57 (ix2 ⟨d.val, hd⟩ ⟨e.val - 64, by omega⟩)
      else if he : e.val < 64 then r57 (ix2 ⟨d.val - 64, by omega⟩ ⟨e.val, he⟩) else r58 (ix2 ⟨d.val - 64, by omega⟩ ⟨e.val - 64, by omega⟩)) := by
  rw [← diag d.val e.val (by omega) (by omega)]
  pointwise [r77]
/-- The mean rotation: the cosine on the diagonal, the signed sine half a turn away. -/
theorem r77_apply (b : Fin 5) (d e : Fin 128) : r77 a5 (ix3 b d e) = r39 a5 (ix2 b d) * (((if d = e then 1 else 0 : ℝ)) : EReal)
    + (if d.val < 64 then -r40 a5 (ix2 b d) else r40 a5 (ix2 b d)) * (((if half64 d = e then 1 else 0 : ℝ)) : EReal) := by
  rw [r77_raw]
  simp only [r57_apply, r58_apply]
  congr 1
  · congr 1; simp only [Fin.ext_iff]
  · simp only [Fin.ext_iff, half64]
    split_ifs <;> first | (exfalso; omega) | simp
theorem muRot_apply (b : Fin 5) (h : Fin 56) (d : Fin 128) : muRot a4 a5 (ix3 b h d)
    = r39 a5 (ix2 b d) * r4 a4 (ix3 b h d) + (if d.val < 64 then -r40 a5 (ix2 b d) else r40 a5 (ix2 b d)) * r4 a4 (ix3 b h (half64 d)) := by
  have e : muRot a4 a5 (ix3 b h d) = r39 a5 (ix2 b d) * r4 a4 (ix3 b h d) + r40 a5 (ix2 b d) * (if hd : d.val < 64 then -r4 a4 (ix3 b h ⟨64 + d.val, by omega⟩) else r4 a4 (ix3 b h ⟨d.val - 64, by omega⟩)) := by
    pointwise [muRot]
  rw [e]
  congr 1
  split
  · rw [mul_neg, neg_mul]
    exact congrArg (fun t => -(r40 a5 (ix2 b d) * r4 a4 (ix3 b h t))) (Fin.ext (by simp only [half64]; omega))
  · exact congrArg (fun t => r40 a5 (ix2 b d) * r4 a4 (ix3 b h t)) (Fin.ext (by simp only [half64]; omega))
theorem sig_apply (b : Fin 5) (h : Fin 56) (d e : Fin 128) : sig a4 (ix4 b h d e) = Ideal.div (∑ x : Fin 320, r7 a4 (ix4 b x h d) * r7 a4 (ix4 b x h e)) (Ideal.ofBits .f32 0x43A00000#32) := by
  pointwise [sig]
theorem tmp_apply (b : Fin 5) (h : Fin 56) (d e : Fin 128) : tmp a4 a5 (ix4 b h d e) = ∑ x : Fin 128, sig a4 (ix4 b h x d) * r77 a5 (ix3 b e x) := by
  pointwise [tmp]
theorem sigRot_apply (b : Fin 5) (h : Fin 56) (d e : Fin 128) : sigRot a4 a5 (ix4 b h d e) = ∑ x : Fin 128, tmp a4 a5 (ix4 b h x d) * r77 a5 (ix3 b e x) := by
  pointwise [sigRot]
theorem lin_apply (b : Fin 5) (h : Fin 8) (g : Fin 7) (t : Fin 2048) : lin a4 a5 k0 (ix4 b h g t) = ∑ x : Fin 128, muRot a4 a5 (ix3 b ⟨h.val * 7 + g.val, by omega⟩ x) * k0 (ix4 b t h x) := by
  pointwise [lin]
theorem half_apply (b : Fin 5) (h : Fin 8) (g : Fin 7) (e : Fin 128) (t : Fin 2048) : half a4 a5 k0 (ix5 b h g e t) = ∑ x : Fin 128, sigRot a4 a5 (ix4 b ⟨h.val * 7 + g.val, by omega⟩ x e) * k0 (ix4 b t h x) := by
  pointwise [half]
theorem quad_apply (b : Fin 5) (t : Fin 2048) (h : Fin 8) (g : Fin 7) : quad a4 a5 k0 k1 (ix4 b t h g) = ∑ x : Fin 128, half a4 a5 k0 (ix5 b h g x t) * k1 (ix4 b t h x) := by
  pointwise [quad]
theorem logit_apply (b : Fin 5) (t : Fin 2048) (j : Fin 56) : logit a1 a4 a5 k0 k1 (ix3 b t j)
    = Ideal.div (a1 (ix3 b t ⟨j.val / 7, by omega⟩) * lin a4 a5 k0 (ix4 b ⟨j.val / 7, by omega⟩ ⟨j.val % 7, Nat.mod_lt _ (by decide)⟩ t)) (Ideal.sqrt (Ideal.ofBits .f32 0x43000000#32))
      + Ideal.div (a1 (ix3 b t ⟨j.val / 7, by omega⟩) * a1 (ix3 b t ⟨j.val / 7, by omega⟩) * quad a4 a5 k0 k1 (ix4 b t ⟨j.val / 7, by omega⟩ ⟨j.val % 7, Nat.mod_lt _ (by decide)⟩)) (Ideal.ofBits .f32 0x43800000#32) := by
  pointwise [logit, r93]
theorem fold_sup {n : ℕ} (f : Fin n → EReal) : Finset.fold max ⊥ f Finset.univ = Finset.univ.sup f := rfl
theorem expo_apply (b : Fin 5) (t : Fin 2048) (j : Fin 56) : expo z (ix3 b t j) = Ideal.exp (z (ix3 b t j) - Finset.univ.sup fun x : Fin 2048 => z (ix3 b x j)) := by
  pointwise [expo]
  rw [bits_bot, fold_sup]
theorem score_apply (b : Fin 5) (t : Fin 2048) (h : Fin 8) : score z a3 k2 (ix3 b t h)
    = Ideal.div (∑ g : Fin 7, expo z (ix3 b t ⟨h.val * 7 + g.val, by omega⟩) * Ideal.div 1 (∑ x : Fin 2048, expo z (ix3 b x ⟨h.val * 7 + g.val, by omega⟩))) ((7 : ℝ) : EReal)
      * (a3 (ix3 b t h) * Ideal.sqrt (∑ x : Fin 128, k2 (ix4 b t h x) * k2 (ix4 b t h x))) := by
  rw [← bits_7, ← bits_1]
  pointwise [score]

end Cert.Proof.Reference

end
-- ==== Proof.HostVals.lean ====
/-
  The kernel's host lines read at an index: the frequencies and the reshaped arguments; the arguments unchanged at the end.
-/
module

public import proofs.«01_k».proof.Proof.Launch
public import proofs.«01_k».proof.Proof.RefRead
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Pointwise
open Idealize.ShloMosaic.Pipeline (RDat Cfg Window Dat)

set_option maxRecDepth 16384

variable (m : (ℓ : Loc nD τ sig) → Buf (Elt Ideal) ℓ) (c : Dev nD)

/-- The frequencies along the lanes, as the host computes them. -/
def invLanes : FVec Ideal S8x128 .f32 :=
  broadcastInDim S8x128 ![1] bcast_S128_S8x128_1 (shapeCast S128 (broadcastInDim S2x64 ![0, 1] bcast_S1x64_S2x64_0_1 (shapeCast S1x64 (Host.powf (broadcastInDim S64 ![] bcast_S_S64 (constant S_ .f32 0x48F42400#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32)))) shapeCasts_S64_S1x64)) shapeCasts_S2x64_S128)

theorem V_v11 : V m c main_v11 = invLanes := by
  show StableHlo.after hostOps0 (fun b => m (c, b)) (Proc.devRef .tc main_v11) = _
  after_results_simp
  rfl
theorem V_v12 : V m c main_v12 = shapeCast S5x16384x128 (m ((c.tc : Thread nD τ).loc main_arg0) : FVec Ideal S5x2048x8x128 .fp8e4m3) shapeCasts_S5x2048x8x128_S5x16384x128 := by
  show StableHlo.after hostOps0 (fun b => m (c, b)) (Proc.devRef .tc main_v12) = _
  after_results_simp
  rfl
theorem V_v13 : V m c main_v13 = shapeCast S5x16384x128 (m ((c.tc : Thread nD τ).loc main_arg2) : FVec Ideal S5x2048x8x128 .fp8e4m3) shapeCasts_S5x2048x8x128_S5x16384x128 := by
  show StableHlo.after hostOps0 (fun b => m (c, b)) (Proc.devRef .tc main_v13) = _
  after_results_simp
  rfl
theorem V_v14 : V m c main_v14 = shapeCast S5x17920x128 (m ((c.tc : Thread nD τ).loc main_arg4) : FVec Ideal S5x320x56x128 .bf16) shapeCasts_S5x320x56x128_S5x17920x128 := by
  show StableHlo.after hostOps0 (fun b => m (c, b)) (Proc.devRef .tc main_v14) = _
  after_results_simp
  rfl

theorem invLanes_apply (r : Fin 8) (d : Fin 128) : invLanes (ix2 r d) = Reference.freq (Reference.lo d) := by
  pointwise [invLanes, Reference.freq, Reference.lo]
  rfl
theorem rows8_apply (x : FVec Ideal S5x2048x8x128 .fp8e4m3) (b : Fin 5) (t : Fin 2048) (h : Fin 8) (d : Fin 128) :
    shapeCast S5x16384x128 x shapeCasts_S5x2048x8x128_S5x16384x128 (ix3 b ⟨8 * t.val + h.val, by omega⟩ d) = x (ix4 b t h d) := by
  pointwise
theorem rows56_apply (x : FVec Ideal S5x320x56x128 .bf16) (b : Fin 5) (n : Fin 320) (h : Fin 56) (d : Fin 128) :
    shapeCast S5x17920x128 x shapeCasts_S5x320x56x128_S5x17920x128 (ix3 b ⟨56 * n.val + h.val, by omega⟩ d) = x (ix4 b n h d) := by
  pointwise

/-- An input window's array ends as the region found it. -/
theorem mem_inV (r : PUnit × MemSt nD τ sig (Elt Ideal)) (h : RDat.FramePost (cfgT m) (rdatV m) (V m) r) (c : Dev nD) (w : Fin (cfgT m).W)
    (hw : ((cfgT m).win w).isOut = false) :
    r.2.mem (((cfgT m).spec w).arr.view.loc (c.tc : Thread nD τ)) = V m c (Pipeline.arrRef (cfgT m).spec w) :=
  (congrFun ((rdatV m c).ArrAt_in w hw _) _).mp ((h c).1 w)

/-- The arguments end as launched. -/
theorem args_sameV (r : PUnit × MemSt nD τ sig (Elt Ideal)) (h : RDat.FramePost (cfgT m) (rdatV m) (V m) r) (c : Dev nD) : Same m r c :=
  ⟨((h c).2 main_arg0 (Pipeline.mem_restRefs_of _ rfl (show ∀ w : Fin 8, (spec0 w).arr.view.ref ≠ main_arg0 by decide))).trans (V_of m c main_arg0 (by decide)),
   (mem_inV m r h c 2 rfl).trans (V_of m c main_arg1 (by decide)),
   ((h c).2 main_arg2 (Pipeline.mem_restRefs_of _ rfl (show ∀ w : Fin 8, (spec0 w).arr.view.ref ≠ main_arg2 by decide))).trans (V_of m c main_arg2 (by decide)),
   (mem_inV m r h c 4 rfl).trans (V_of m c main_arg3 (by decide)),
   ((h c).2 main_arg4 (Pipeline.mem_restRefs_of _ rfl (show ∀ w : Fin 8, (spec0 w).arr.view.ref ≠ main_arg4 by decide))).trans (V_of m c main_arg4 (by decide)),
   ((h c).2 main_arg5 (Pipeline.mem_restRefs_of _ rfl (show ∀ w : Fin 8, (spec0 w).arr.view.ref ≠ main_arg5 by decide))).trans (V_of m c main_arg5 (by decide))⟩

end Cert.Proof.KernelIdeal

end
-- ==== Proof.AgreeMath.lean ====
/-
  The kernel's numbers are the reference's: the rotary means, the rotated means and covariances of a finite window, the logits, the
  scores.
-/
module

public import proofs.«01_k».proof.Proof.Rotary
public import proofs.«01_k».proof.Proof.RefRead

@[expose] public section

noncomputable section

namespace Cert.Proof

open Idealize.ShloMosaic Idealize.ShloMosaic.TcCoe Idealize.ShloMosaic.Tactic
open Idealize.ShloMosaic.Pointwise
open Cert.Proof.Reference Cert.ReferenceIdeal
open Cert.Proof.KernelIdeal (meanOf angOf swLane cosMean sinMean mean cov rowsT quadM linM sw invN linS quadS zOf headQ WQ MQ ZQ zMax zSum zInv sOf)

set_option maxRecDepth 16384

/-- The frequencies along the lanes. -/
def freqs (d : Fin 128) : EReal := freq (lo d)

/-- The mean over all positions, by the positions' parity or in order. -/
theorem mean_eq (f : EReal → EReal) (s : BitVec 32) (d : Fin 128) :
    meanOf f s freqs d = Ideal.div (∑ x : Fin 512, f ((((s + BitVec.ofNat 32 x.val).toInt : ℝ) : EReal) * freq (lo d))) (Ideal.ofBits .f32 0x44000000#32) := by
  unfold meanOf angOf
  rw [bits_512, Ideal.div_coe (by norm_num)]
  refine congrArg (fun t => t * ((1 / 512 : ℝ) : EReal)) ?_
  have hsw : lo (swLane d) = lo d := Fin.ext (by simp only [lo, swLane]; omega)
  rw [sum_even_odd (fun x => f ((((s + BitVec.ofNat 32 x).toInt : ℝ) : EReal) * freq (lo d)))]
  by_cases h : d.val < 64
  · have h' : ¬ (swLane d).val < 64 := by simp only [swLane]; omega
    simp only [freqs, hsw, h, h', if_true, if_false, BitVec.add_assoc, bv_even, bv_odd]
  · have h' : (swLane d).val < 64 := by simp only [swLane]; omega
    simp only [freqs, hsw, h, h', if_true, if_false, BitVec.add_assoc, bv_even, bv_odd]
    exact add_comm _ _

/-- Such a mean is a real number. -/
theorem mean_real (f : EReal → EReal) (fr : ℝ → ℝ) (hf : ∀ x : ℝ, f x = fr x) (s : BitVec 32) (d : Fin 64) :
    ∃ r : ℝ, Ideal.div (∑ x : Fin 512, f ((((s + BitVec.ofNat 32 x.val).toInt : ℝ) : EReal) * freq d)) (Ideal.ofBits .f32 0x44000000#32) = (r : EReal) := by
  obtain ⟨w, hw⟩ := freq_real d
  simp only [hw, ← EReal.coe_mul, hf, coe_sum]
  rw [bits_512, Ideal.div_coe (by norm_num), ← EReal.coe_mul]
  exact ⟨_, rfl⟩

variable (a1 a3 : FVec Ideal S5x2048x8 .f32) (a4 : FVec Ideal S5x320x56x128 .bf16) (a5 : IVec S5 32)

/-- A batch's cosines and signed sines, as the reference has them. -/
def refC (b : Fin 5) (d : Fin 128) : EReal := r39 a5 (ix2 b d)
def refS (b : Fin 5) (d : Fin 128) : EReal := if d.val < 64 then -r40 a5 (ix2 b d) else r40 a5 (ix2 b d)

theorem cos_eq (b : Fin 5) : cosMean (a5 (ix1 b)) freqs = refC a5 b := by
  funext d
  unfold refC cosMean
  rw [r39_apply, r34_apply, mean_eq]
  simp only [r30_apply]
theorem sin_eq (b : Fin 5) : sinMean (a5 (ix1 b)) freqs = refS a5 b := by
  funext d
  unfold refS sinMean
  rw [r40_apply, r38_apply, mean_eq]
  simp only [r30_apply, zero_sub]
theorem refC_real (b : Fin 5) (d : Fin 128) : ∃ r : ℝ, refC a5 b d = (r : EReal) := by
  unfold refC
  rw [r39_apply, r34_apply]
  simp only [r30_apply]
  exact mean_real Ideal.cos Real.cos (fun x => rfl) _ _
theorem refS_real (b : Fin 5) (d : Fin 128) : ∃ r : ℝ, refS a5 b d = (r : EReal) := by
  unfold refS
  rw [r40_apply, r38_apply]
  simp only [r30_apply]
  obtain ⟨r, hr⟩ := mean_real Ideal.sin Real.sin (fun x => rfl) (a5 (ix1 b)) (lo d)
  rw [hr]
  split
  · exact ⟨-r, (EReal.coe_neg r).symm⟩
  · exact ⟨r, rfl⟩

/-- A batch's queries. -/
def win (b : Fin 5) (n : Fin 320) (h : Fin 56) (d : Fin 128) : EReal := a4 (ix4 b n h d)

theorem r4_eq (b : Fin 5) (h : Fin 56) (d : Fin 128) : r4 a4 (ix3 b h d) = mean (fun n d => win a4 b n h d) d := by
  rw [r4_apply, bits_320, Ideal.div_coe (by norm_num)]
  rfl

/-- The rotated mean. -/
theorem muRot_eq (b : Fin 5) (h : Fin 56) (d : Fin 128) :
    muRot a4 a5 (ix3 b h d) = linM (refC a5 b) (refS a5 b) (fun n d => win a4 b n h d) d := by
  rw [muRot_apply, r4_eq, r4_eq]
  rfl

/-- A finite window's covariance, by the deviations or by the products, is one symmetric table of real numbers. -/
theorem cov_eq (hq : ∀ i, ∃ r : ℝ, a4 i = (r : EReal)) (b : Fin 5) (h : Fin 56) :
    ∃ σ : Fin 128 → Fin 128 → ℝ, (∀ d e, sig a4 (ix4 b h d e) = (σ d e : EReal)) ∧ (∀ d e, cov (fun n d => win a4 b n h d) d e = (σ d e : EReal))
      ∧ ∀ d e, σ d e = σ e d := by
  choose q hv using hq
  refine ⟨fun d e => (∑ n : Fin 320, (q (ix4 b n h d) - (∑ i : Fin 320, q (ix4 b i h d)) * (1 / 320)) * (q (ix4 b n h e) - (∑ i : Fin 320, q (ix4 b i h e)) * (1 / 320))) * (1 / 320),
    fun d e => ?_, fun d e => ?_, fun d e => ?_⟩
  · rw [sig_apply, bits_320, Ideal.div_coe (by norm_num)]
    simp only [r7_apply, r4_apply, bits_320, Ideal.div_coe (show (320 : ℝ) ≠ 0 by norm_num), hv, coe_sum, ← EReal.coe_mul, ← EReal.coe_sub]
  · refine Eq.trans ?_ (congrArg (fun r : ℝ => (r : EReal)) (cov_real (fun n => q (ix4 b n h d)) (fun n => q (ix4 b n h e))).symm)
    simp only [cov, mean, win, invN, hv, coe_sum, ← EReal.coe_mul, ← EReal.coe_sub]
  · exact congrArg (fun t => t * (1 / 320 : ℝ)) (Finset.sum_congr rfl fun n _ => mul_comm _ _)

/-- The covariance rotated on both sides. -/
theorem sigRot_eq (hq : ∀ i, ∃ r : ℝ, a4 i = (r : EReal)) (b : Fin 5) (h : Fin 56) (d e : Fin 128) :
    sigRot a4 a5 (ix4 b h d e) = quadM (refC a5 b) (refS a5 b) (fun n d => win a4 b n h d) d e
      ∧ quadM (refC a5 b) (refS a5 b) (fun n d => win a4 b n h d) d e = quadM (refC a5 b) (refS a5 b) (fun n d => win a4 b n h d) e d := by
  obtain ⟨σ, h1, h2, h3⟩ := cov_eq a4 hq b h
  choose C hC using refC_real a5 b
  choose S hS using refS_real a5 b
  have hR : ∀ d e, r77 a5 (ix3 b d e) = ((C d * (if d = e then 1 else 0) + S d * (if half64 d = e then 1 else 0) : ℝ) : EReal) := fun d e => by
    rw [EReal.coe_add, EReal.coe_mul, EReal.coe_mul, ← hC, ← hS]
    exact r77_apply a5 b d e
  have hT : ∀ x d, tmp a4 a5 (ix4 b h x d) = ((C d * σ d x + S d * σ (half64 d) x : ℝ) : EReal) := fun x d => by
    rw [tmp_apply]
    simp only [h1, hR, ← EReal.coe_mul, coe_sum]
    rw [sum_two (fun y => σ y x)]
  have hM : ∀ d e, quadM (refC a5 b) (refS a5 b) (fun n d => win a4 b n h d) d e
      = ((C e * (C d * σ d e + S d * σ (half64 d) e) + S e * (C d * σ d (half64 e) + S d * σ (half64 d) (half64 e)) : ℝ) : EReal) := fun d e => by
    unfold quadM rowsT
    simp only [h2, hC, hS, ← EReal.coe_mul, ← EReal.coe_add]
    rfl
  refine ⟨?_, ?_⟩
  · rw [sigRot_apply, hM]
    simp only [hT, hR, ← EReal.coe_mul, coe_sum]
    rw [sum_two (fun x => C d * σ d x + S d * σ (half64 d) x)]
  · rw [hM, hM, h3 e d, h3 (half64 e) d, h3 e (half64 d), h3 (half64 e) (half64 d)]
    refine congrArg _ ?_
    ring

/-- The logits. -/
theorem logit_eq (hq : ∀ i, ∃ r : ℝ, a4 i = (r : EReal)) (k : S5x2048x8x128.Idx → EReal) (b : Fin 5) (t : Fin 2048) (j : Fin 56) :
    logit a1 a4 a5 k k (ix3 b t j)
      = ZQ (refC a5 b) (refS a5 b) (win a4 b) (fun h d t => k (ix4 b t h d)) (fun h t => a1 (ix3 b t h)) ⟨j.val / 7, by omega⟩ ⟨j.val % 7, by omega⟩ t := by
  have hj : (⟨j.val / 7 * 7 + j.val % 7, by omega⟩ : Fin 56) = j := Fin.ext (by simp only; omega)
  have hH : headQ (win a4 b) ⟨j.val / 7, by omega⟩ ⟨j.val % 7, by omega⟩ = fun n d => win a4 b n j d := by
    funext n d
    exact congrArg (fun t => win a4 b n t d) (Fin.ext (by simp only; omega))
  have hs : Ideal.sqrt ((128 : ℝ) : EReal) = ((Real.sqrt 128 : ℝ) : EReal) := by rw [Ideal.sqrt_coe, if_neg (by norm_num)]
  have h128 : Real.sqrt 128 ≠ 0 := by positivity
  have hW : ∀ d e, WQ (refC a5 b) (refS a5 b) (win a4 b) ⟨j.val / 7, by omega⟩ ⟨j.val % 7, by omega⟩ d e = sigRot a4 a5 (ix4 b j e d) := fun d e => by
    rw [(sigRot_eq a4 a5 hq b j e d).1, (sigRot_eq a4 a5 hq b j e d).2, ← hH]
    exact dif_pos (Nat.mod_lt _ (by decide))
  have hU : ∀ d, MQ (refC a5 b) (refS a5 b) (win a4 b) ⟨j.val / 7, by omega⟩ ⟨j.val % 7, by omega⟩ d = muRot a4 a5 (ix3 b j d) := fun d => by
    rw [muRot_eq, ← hH]
    exact dif_pos (Nat.mod_lt _ (by decide))
  have hqs : quadS = ((1 / 256 : ℝ) : EReal) := bits_256th
  unfold ZQ zOf
  rw [logit_apply, bits_128, bits_256, hs, Ideal.div_coe h128, Ideal.div_coe (by norm_num), lin_apply, quad_apply, hqs]
  simp only [half_apply, hj, hW, hU, linS, one_div, mul_assoc]

/-- The scores. -/
theorem score_eq (z : FVec Ideal S5x2048x56 .f32) (k : S5x2048x8x128.Idx → EReal) (Z : Fin 8 → Fin 8 → Fin 2048 → EReal) (b : Fin 5)
    (hz : ∀ (t : Fin 2048) (j : Fin 56), z (ix3 b t j) = Z ⟨j.val / 7, by omega⟩ ⟨j.val % 7, by omega⟩ t) (t : Fin 2048) (h : Fin 8) :
    score z a3 k (ix3 b t h) = sOf (Z h) (fun t => a3 (ix3 b t h) * Ideal.sqrt (∑ d : Fin 128, k (ix4 b t h d) * k (ix4 b t h d))) t := by
  have hg : ∀ (g : Fin 7) (x : Fin 2048), z (ix3 b x ⟨h.val * 7 + g.val, by omega⟩) = Z h g.castSucc x := fun g x => by
    rw [hz]
    have e1 : (⟨(h.val * 7 + g.val) / 7, by omega⟩ : Fin 8) = h := Fin.ext (by simp only; omega)
    have e2 : (⟨(h.val * 7 + g.val) % 7, by omega⟩ : Fin 8) = g.castSucc := Fin.ext (by simp only [Fin.val_castSucc]; omega)
    exact congrFun (congrArg₂ Z e1 e2) x
  have h7 : (7 : EReal) = ((7 : ℝ) : EReal) := by norm_cast
  have hl : zInv (Z h) (Fin.last 7) = 0 := if_neg (by decide)
  have hi : ∀ g : Fin 7, zInv (Z h) g.castSucc = Ideal.div 1 (zSum (Z h) g.castSucc * ((7 : ℝ) : EReal)) := fun g => by
    rw [← h7]
    exact if_pos g.isLt
  rw [score_apply]
  unfold sOf
  have hS : ∑ r : Fin 8, Ideal.exp (Z h r t - zMax (Z h) r) * zInv (Z h) r = ∑ g : Fin 7, Ideal.exp (Z h g.castSucc t - zMax (Z h) g.castSucc) * zInv (Z h) g.castSucc := by
    rw [Fin.sum_univ_castSucc, hl, mul_zero, add_zero]
  rw [hS]
  simp only [hi, expo_apply, hg]
  rw [← group_mean]
  rfl

end Cert.Proof

end
-- ==== Proof.Codes.lean ====
/-
  The reference's codes, converted by a kernel of one point: each output array holds its input's numbers.
-/
module

public import proofs.«01_k».proof.Proof.Gen.ReferenceIdeal.Run
public import Idealize.ShloMosaic.Lib.Pointwise
public import Idealize.ShloMosaic.Lib.Pipeline.ValueKit

@[expose] public section

noncomputable section

namespace Cert.Proof.Reference

open Cert.ReferenceIdeal Cert.ReferenceIdeal.Gen Cert.ReferenceIdeal.Value
open Idealize.ShloMosaic Idealize.ShloMosaic.TcCoe Idealize.ShloMosaic.Tactic
open Idealize.ShloMosaic.Pointwise

set_option maxRecDepth 16384

variable (m : (ℓ : Loc nD τ sig) → Buf (Elt Ideal) ℓ) (c : Dev nD)

theorem codes_0 : reg_main_v0_0 m c = (fun x => m ((c.tc : Thread nD τ).loc main_arg0) x : S5x2048x8x128.Idx → EReal) := by
  unfold reg_main_v0_0
  refine (dats m 0 c).arrAt_eq_of_covers 2 _ (by decide +kernel) fun t hf y => ?_
  blk_simp
  rw [after0_2]
  frame_out
  show V m c main_arg0 (((cfg0.win 0).blk t).view.emb y) = _
  rw [V_main_arg0]
  refine congrArg (m ((c.tc : Thread nD τ).loc main_arg0)) ?_
  blk_ext <;> rfl

theorem codes_1 : reg_main_v0_1 m c = (fun x => m ((c.tc : Thread nD τ).loc main_arg0) x : S5x2048x8x128.Idx → EReal) := by
  unfold reg_main_v0_1
  refine (dats m 0 c).arrAt_eq_of_covers 3 _ (by decide +kernel) fun t hf y => ?_
  blk_simp
  rw [after0_3]
  frame_out
  show V m c main_arg0 (((cfg0.win 0).blk t).view.emb y) = _
  rw [V_main_arg0]
  refine congrArg (m ((c.tc : Thread nD τ).loc main_arg0)) ?_
  blk_ext <;> rfl

theorem codes_2 : reg_main_v0_2 m c = (fun x => m ((c.tc : Thread nD τ).loc main_arg2) x : S5x2048x8x128.Idx → EReal) := by
  unfold reg_main_v0_2
  refine (dats m 0 c).arrAt_eq_of_covers 4 _ (by decide +kernel) fun t hf y => ?_
  blk_simp
  rw [after0_4]
  frame_out
  show V m c main_arg2 (((cfg0.win 1).blk t).view.emb y) = _
  rw [V_main_arg2]
  refine congrArg (m ((c.tc : Thread nD τ).loc main_arg2)) ?_
  blk_ext <;> rfl

end Cert.Proof.Reference

end
-- ==== Proof.Agree.lean ====
/-
  The two programs, started on the same arguments with a finite window, end with the same results.
-/
module

public import proofs.«01_k».proof.Defs
public import proofs.«01_k».proof.Proof.HostVals
public import proofs.«01_k».proof.Proof.AgreeMath
public import proofs.«01_k».proof.Proof.Codes

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Pointwise

set_option maxRecDepth 16384

variable (m : (ℓ : Loc nD τ sig) → Buf (Elt Ideal) ℓ) (b : Fin 5)

/-- The arguments. -/
abbrev A0 : S5x2048x8x128.Idx → EReal := m (((0 : Dev nD).tc : Thread nD τ).loc main_arg0)
abbrev A1 : FVec Ideal S5x2048x8 .f32 := m (((0 : Dev nD).tc : Thread nD τ).loc main_arg1)
abbrev A2 : S5x2048x8x128.Idx → EReal := m (((0 : Dev nD).tc : Thread nD τ).loc main_arg2)
abbrev A3 : FVec Ideal S5x2048x8 .f32 := m (((0 : Dev nD).tc : Thread nD τ).loc main_arg3)
abbrev A4 : FVec Ideal S5x320x56x128 .bf16 := m (((0 : Dev nD).tc : Thread nD τ).loc main_arg4)
abbrev A5 : IVec S5 32 := m (((0 : Dev nD).tc : Thread nD τ).loc main_arg5)

theorem bt_val : bt b.val = b := Fin.ext (Nat.mod_eq_of_lt b.isLt)
theorem lanes_eq : (fun d : Fin 128 => V m 0 main_v11 (ix2 0 d)) = freqs := by
  funext d
  rw [V_v11]
  exact invLanes_apply 0 d
theorem table_eq : (tab m 0).1 0 (ix1 (bt b.val)) = A5 m (ix1 b) := by
  rw [bt_val]
  exact congrFun (V_of m 0 main_arg5 (by decide)) (ix1 b)
theorem bC_eq : bC m 0 b.val = refC (A5 m) b := by
  unfold bC
  rw [lanes_eq, table_eq]
  exact cos_eq (A5 m) b
theorem bS_eq : bS m 0 b.val = refS (A5 m) b := by
  unfold bS
  rw [lanes_eq, table_eq]
  exact sin_eq (A5 m) b
theorem bQ_eq : bQ m 0 b.val = win (A4 m) b := by
  funext n h d
  unfold bQ winOf
  rw [V_v14, bt_val]
  exact rows56_apply (A4 m) b n h d
theorem bK_eq : bK m 0 b.val = fun h d t => A0 m (ix4 b t h d) := by
  funext h d t
  unfold bK kOf
  rw [V_v12, bt_val]
  exact rows8_apply (A0 m) b t h d
theorem bks_eq : bks m 0 b.val = fun h t => A1 m (ix3 b t h) := by
  funext h t
  unfold bks ksOf
  rw [V_of m 0 main_arg1 (by decide), bt_val]
  rfl
theorem bvn_eq : bvn m 0 b.val = fun h t => A3 m (ix3 b t h) * Ideal.sqrt (∑ d : Fin 128, A2 m (ix4 b t h d) * A2 m (ix4 b t h d)) := by
  have hk : ∀ h d t, kOf (fun x => V m 0 main_v13 (ix3 (bt b.val) (x 1) (x 2))) h d t = A2 m (ix4 b t h d) := fun h d t => by
    unfold kOf
    rw [V_v13, bt_val]
    exact rows8_apply (A2 m) b t h d
  funext h t
  unfold bvn vnOf
  simp only [hk]
  rw [V_of m 0 main_arg3 (by decide), bt_val]
  rfl

/-- The logits are the reference's. -/
theorem bZ_eq (hq : ∀ i, ∃ r : ℝ, A4 m i = (r : EReal)) (t : Fin 2048) (j : Fin 56) :
    Reference.logit (A1 m) (A4 m) (A5 m) (A0 m) (A0 m) (ix3 b t j) = bZ m 0 b.val ⟨j.val / 7, by omega⟩ ⟨j.val % 7, by omega⟩ t := by
  unfold bZ
  rw [bC_eq, bS_eq, bQ_eq, bK_eq, bks_eq]
  exact logit_eq (A1 m) (A4 m) (A5 m) hq (A0 m) b t j
theorem outZ_eq (hq : ∀ i, ∃ r : ℝ, A4 m i = (r : EReal)) : Reference.logit (A1 m) (A4 m) (A5 m) (A0 m) (A0 m) = outZ m 0 := by
  funext x
  idx_vars x
  exact bZ_eq m x0 hq x1 x2
/-- The scores are the reference's. -/
theorem outS_eq (hq : ∀ i, ∃ r : ℝ, A4 m i = (r : EReal)) :
    Reference.score (Reference.logit (A1 m) (A4 m) (A5 m) (A0 m) (A0 m)) (A3 m) (A2 m) = outS m 0 := by
  funext x
  idx_vars x
  refine (score_eq (A3 m) (Reference.logit (A1 m) (A4 m) (A5 m) (A0 m) (A0 m)) (A2 m) (bZ m 0 x0.val) x0 (bZ_eq m x0 hq) x1 x2).trans ?_
  show _ = bSc m 0 x0.val x2 x1
  unfold bSc
  rw [bvn_eq]

end Cert.Proof.KernelIdeal

namespace Cert.Proof

open Idealize.ShloMosaic Idealize.ShloMosaic.TcCoe Idealize.ShloMosaic.Tactic

/-- The side conditions of the precondition's operations. -/
theorem preFacts : Cert.Pre_finite_window.Facts where
  bitsLt_bf16_f32 := by decide
  bcast_S_S5x320x56x128 := by decide

/-- A number whose absolute value is below infinity is real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The precondition in plain terms. -/
theorem window_real (m : (ℓ : Loc Cert.KernelIdeal.nD Cert.KernelIdeal.τ Cert.KernelIdeal.sig) → Buf (Elt Ideal) ℓ)
    (h : Cert.Pre_KernelIdeal_finite_window (hPre_finite_window := preFacts) m) (i : Cert.KernelIdeal.S5x320x56x128.Idx) : ∃ r : ℝ, KernelIdeal.A4 m i = (r : EReal) :=
  real_of_abs_lt _ (congrFun (h 0) i)

/-- The reference's results, from its arguments. -/
theorem ref_logits (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v105 (Cert.ReferenceIdeal.Value.exitV m c)
      = Reference.logit (m ((c.tc : Thread _ _).loc Cert.ReferenceIdeal.main_arg1)) (m ((c.tc : Thread _ _).loc Cert.ReferenceIdeal.main_arg4)) (m ((c.tc : Thread _ _).loc Cert.ReferenceIdeal.main_arg5))
          (m ((c.tc : Thread _ _).loc Cert.ReferenceIdeal.main_arg0)) (m ((c.tc : Thread _ _).loc Cert.ReferenceIdeal.main_arg0)) := by
  refine Eq.trans (b := Reference.logit (Cert.ReferenceIdeal.Value.exitV m c (Proc.devRef .tc Cert.ReferenceIdeal.main_arg1)) (Cert.ReferenceIdeal.Value.exitV m c (Proc.devRef .tc Cert.ReferenceIdeal.main_arg4))
    (Cert.ReferenceIdeal.Value.exitV m c (Proc.devRef .tc Cert.ReferenceIdeal.main_arg5)) (Cert.ReferenceIdeal.Value.exitV m c (Proc.devRef .tc Cert.ReferenceIdeal.main_v0_0)) (Cert.ReferenceIdeal.Value.exitV m c (Proc.devRef .tc Cert.ReferenceIdeal.main_v0_1))) rfl ?_
  rw [Cert.ReferenceIdeal.Value.exit_main_arg1, Cert.ReferenceIdeal.Value.exit_main_arg4, Cert.ReferenceIdeal.Value.exit_main_arg5,
    Cert.ReferenceIdeal.Value.exit_main_v0_0, Cert.ReferenceIdeal.Value.exit_main_v0_1, Reference.codes_0, Reference.codes_1]

theorem ref_scores (m : (ℓ : Loc Cert.ReferenceIdeal.nD Cert.ReferenceIdeal.τ Cert.ReferenceIdeal.sig) → Buf (Elt Ideal) ℓ) (c : Dev Cert.ReferenceIdeal.nD) :
    Reference.score (Cert.ReferenceIdeal.Value.res_main_v105 (Cert.ReferenceIdeal.Value.exitV m c)) (Cert.ReferenceIdeal.Value.exitV m c (Proc.devRef .tc Cert.ReferenceIdeal.main_arg3))
        (Cert.ReferenceIdeal.Value.exitV m c (Proc.devRef .tc Cert.ReferenceIdeal.main_v0_2))
      = Reference.score (Reference.logit (m ((c.tc : Thread _ _).loc Cert.ReferenceIdeal.main_arg1)) (m ((c.tc : Thread _ _).loc Cert.ReferenceIdeal.main_arg4)) (m ((c.tc : Thread _ _).loc Cert.ReferenceIdeal.main_arg5))
          (m ((c.tc : Thread _ _).loc Cert.ReferenceIdeal.main_arg0)) (m ((c.tc : Thread _ _).loc Cert.ReferenceIdeal.main_arg0)))
          (m ((c.tc : Thread _ _).loc Cert.ReferenceIdeal.main_arg3)) (m ((c.tc : Thread _ _).loc Cert.ReferenceIdeal.main_arg2)) := by
  rw [ref_logits, Cert.ReferenceIdeal.Value.exit_main_arg3, Cert.ReferenceIdeal.Value.exit_main_v0_2, Reference.codes_2]

/-- From memories that agree on the arguments, the queries finite, both programs end with equal results. -/
theorem algebraic : Cert.algebraic_KernelIdeal_ReferenceIdeal_pre_finite_window (hKernelIdeal := Cert.KernelIdeal.Gen.facts)
    (hReferenceIdeal := Cert.ReferenceIdeal.Gen.facts) (hPre_finite_window := preFacts) := by
  intro m g m' g' hpre hargs
  have hq := window_real m hpre
  obtain ⟨h0, h1, h2, h3, h4, h5⟩ := hargs 0
  refine ⟨fun c => KernelIdeal.outS m c, fun c => KernelIdeal.outZ m c, KernelIdeal.runV m g _ fun r h c => ?_, ?_⟩
  · exact ⟨KernelIdeal.mem_scores m r h.1 c, KernelIdeal.mem_logits m r h.1 c, KernelIdeal.args_sameV m r h.1 c⟩
  · refine (θ_run (Cert.ReferenceIdeal.defs (F := Ideal)) _ _).mono (fun r h c => ?_) (Cert.ReferenceIdeal.Value.run m' g')
    obtain ⟨hs, hz, hrest⟩ := h c
    obtain rfl : c = 0 := Subsingleton.elim (α := Fin 1) _ _
    have hl : Reference.logit (m' (((0 : Dev Cert.ReferenceIdeal.nD).tc : Thread _ _).loc Cert.ReferenceIdeal.main_arg1)) (m' (((0 : Dev Cert.ReferenceIdeal.nD).tc : Thread _ _).loc Cert.ReferenceIdeal.main_arg4)) (m' (((0 : Dev Cert.ReferenceIdeal.nD).tc : Thread _ _).loc Cert.ReferenceIdeal.main_arg5))
          (m' (((0 : Dev Cert.ReferenceIdeal.nD).tc : Thread _ _).loc Cert.ReferenceIdeal.main_arg0)) (m' (((0 : Dev Cert.ReferenceIdeal.nD).tc : Thread _ _).loc Cert.ReferenceIdeal.main_arg0))
        = Reference.logit (KernelIdeal.A1 m) (KernelIdeal.A4 m) (KernelIdeal.A5 m) (KernelIdeal.A0 m) (KernelIdeal.A0 m) := by
      rw [h0, h1, h4, h5]
    refine ⟨?_, ?_, hrest⟩
    · refine hs.trans ((ref_scores m' 0).trans ?_)
      rw [hl, h2, h3]
      exact KernelIdeal.outS_eq m hq
    · refine hz.trans ((ref_logits m' 0).trans ?_)
      rw [hl]
      exact KernelIdeal.outZ_eq m hq

end Cert.Proof

end
-- ==== Proof.lean ====
/- The claims assembled: the programs run to their end, the idealized kernel is made from the printed one by rules that hold, and its
   results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Launch
public import proofs.«01_k».proof.Proof.KernelFrame
public import proofs.«01_k».proof.Proof.KernelIdealFrame
public import proofs.«01_k».proof.Proof.Agree
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic

/-- Each replacement made by the idealization, by its rule. -/
theorem preserves : Cert.preserves_Kernel_KernelIdeal :=
  open Cert.KernelIdeal IdealRules.bf16_pair in
  ⟨bufferStatement S28x320x2x128 S28x320x1x128, statement S1x256x2x128 S1x256x1x128, statement S512x128 S256x128,
    statement S1x320x2x128 S1x320x1x128, selectZeroStatement S320x128, statement S640x128 S320x128,
    IdealRules.named_const.statement κ "inv_n" .f32 0x3B4CCCCD#32 ((1 / 320 : ℝ) : EReal) rfl,
    IdealRules.named_const.statement κ "lin_scale" .f32 0x3DB504F3#32 (((Real.sqrt 128)⁻¹ : ℝ) : EReal) rfl⟩

theorem claim : Cert.Claim :=
  ⟨Cert.Kernel.Gen.facts, Cert.KernelIdeal.Gen.facts, Cert.ReferenceIdeal.Gen.facts, preFacts, fun m g _ => Kernel.frame m g, fun m g _ => KernelIdeal.frame m g,
    fun m g _ => KernelIdeal.frame m g, fun m g _ => Cert.ReferenceIdeal.Gen.frame m g, fun m g _ => Cert.ReferenceIdeal.Gen.frame m g, preserves, algebraic⟩

end Cert.Proof

end
